-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RetProjRefIdeal (m : (ℓ : Loc Cert.RetProjRefIdeal.nD Cert.RetProjRefIdeal.τ Cert.RetProjRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_RetProjB (m : (ℓ : Loc Cert.RetProjB.nD Cert.RetProjB.τ Cert.RetProjB.sig) → Buf (Elt Bits) ℓ) : Prop :=
  True

def Pre_RetProjBIdeal (m : (ℓ : Loc Cert.RetProjBIdeal.nD Cert.RetProjBIdeal.τ Cert.RetProjBIdeal.sig) → Buf (Elt Ideal) ℓ) : Prop :=
  True

def Pre_RetProjBRefIdeal (m : (ℓ : Loc Cert.RetProjBRefIdeal.nD Cert.RetProjBRefIdeal.τ Cert.RetProjBRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Rkv (m : (ℓ : Loc Cert.Rkv.nD Cert.Rkv.τ Cert.Rkv.sig) → Buf (Elt Bits) ℓ) : Prop :=
  True

def Pre_RkvIdeal (m : (ℓ : Loc Cert.RkvIdeal.nD Cert.RkvIdeal.τ Cert.RkvIdeal.sig) → Buf (Elt Ideal) ℓ) : Prop :=
  True

def Pre_RkvRefIdeal (m : (ℓ : Loc Cert.RkvRefIdeal.nD Cert.RkvRefIdeal.τ Cert.RkvRefIdeal.sig) → Buf (Elt Ideal) ℓ) : Prop :=
  True

def Pre_Lora (m : (ℓ : Loc Cert.Lora.nD Cert.Lora.τ Cert.Lora.sig) → Buf (Elt Bits) ℓ) : Prop :=
  True

def Pre_LoraIdeal (m : (ℓ : Loc Cert.LoraIdeal.nD Cert.LoraIdeal.τ Cert.LoraIdeal.sig) → Buf (Elt Ideal) ℓ) : Prop :=
  True

def Pre_LoraRefIdeal (m : (ℓ : Loc Cert.LoraRefIdeal.nD Cert.LoraRefIdeal.τ Cert.LoraRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def Pre_CastAll (m : (ℓ : Loc Cert.CastAll.nD Cert.CastAll.τ Cert.CastAll.sig) → Buf (Elt Bits) ℓ) : Prop :=
  True

def Pre_CastAllIdeal (m : (ℓ : Loc Cert.CastAllIdeal.nD Cert.CastAllIdeal.τ Cert.CastAllIdeal.sig) → Buf (Elt Ideal) ℓ) : Prop :=
  True

def Pre_CastAllRefIdeal (m : (ℓ : Loc Cert.CastAllRefIdeal.nD Cert.CastAllRefIdeal.τ Cert.CastAllRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1))
      ∧ r.2.sem = fun _ => 0)

def quiescent_RetProjRefIdeal [hRetProjRefIdeal : Cert.RetProjRefIdeal.Facts] : Prop :=
  ∀ (m : (ℓ : Loc Cert.RetProjRefIdeal.nD Cert.RetProjRefIdeal.τ Cert.RetProjRefIdeal.sig) → Buf (Elt Ideal) ℓ) (g : Dev Cert.RetProjRefIdeal.nD → PrngReg), Pre_RetProjRefIdeal m →
    θ_run (Cert.RetProjRefIdeal.defs (F := Ideal)) (onTc (τ := Cert.RetProjRefIdeal.τ) (Cert.RetProjRefIdeal.main (F := Ideal))) ⟨m, fun _ => 0, g⟩ (fun r => (∀ c : Dev Cert.RetProjRefIdeal.nD,
      r.2.mem ((c.tc : Thread Cert.RetProjRefIdeal.nD Cert.RetProjRefIdeal.τ).loc Cert.RetProjRefIdeal.main_arg0) = m ((c.tc : Thread Cert.RetProjRefIdeal.nD Cert.RetProjRefIdeal.τ).loc Cert.RetProjRefIdeal.main_arg0)
      ∧ r.2.mem ((c.tc : Thread Cert.RetProjRefIdeal.nD Cert.RetProjRefIdeal.τ).loc Cert.RetProjRefIdeal.main_arg1) = m ((c.tc : Thread Cert.RetProjRefIdeal.nD Cert.RetProjRefIdeal.τ).loc Cert.RetProjRefIdeal.main_arg1))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3)
      ∧ r.2.mem ((c.tc : Thread Cert.RetOut.nD Cert.RetOut.τ).loc Cert.RetOut.main_arg4) = m ((c.tc : Thread Cert.RetOut.nD Cert.RetOut.τ).loc Cert.RetOut.main_arg4))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
      ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3)
      ∧ r.2.mem ((c.tc : Thread Cert.RetOutRefIdeal.nD Cert.RetOutRefIdeal.τ).loc Cert.RetOutRefIdeal.main_arg4) = m ((c.tc : Thread Cert.RetOutRefIdeal.nD Cert.RetOutRefIdeal.τ).loc Cert.RetOutRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_RetProjB [hRetProjB : Cert.RetProjB.Facts] : Prop :=
  ∀ (m : (ℓ : Loc Cert.RetProjB.nD Cert.RetProjB.τ Cert.RetProjB.sig) → Buf (Elt Bits) ℓ) (g : Dev Cert.RetProjB.nD → PrngReg), Pre_RetProjB m →
    θ_run (Cert.RetProjB.defs (F := Bits)) (onTc (τ := Cert.RetProjB.τ) (Cert.RetProjB.main (F := Bits))) ⟨m, fun _ => 0, g⟩ (fun r => (∀ c : Dev Cert.RetProjB.nD,
      r.2.mem ((c.tc : Thread Cert.RetProjB.nD Cert.RetProjB.τ).loc Cert.RetProjB.main_arg0) = m ((c.tc : Thread Cert.RetProjB.nD Cert.RetProjB.τ).loc Cert.RetProjB.main_arg0)
      ∧ r.2.mem ((c.tc : Thread Cert.RetProjB.nD Cert.RetProjB.τ).loc Cert.RetProjB.main_arg1) = m ((c.tc : Thread Cert.RetProjB.nD Cert.RetProjB.τ).loc Cert.RetProjB.main_arg1))
      ∧ r.2.sem = fun _ => 0)

def quiescent_RetProjBIdeal [hRetProjBIdeal : Cert.RetProjBIdeal.Facts] : Prop :=
  ∀ (m : (ℓ : Loc Cert.RetProjBIdeal.nD Cert.RetProjBIdeal.τ Cert.RetProjBIdeal.sig) → Buf (Elt Ideal) ℓ) (g : Dev Cert.RetProjBIdeal.nD → PrngReg), Pre_RetProjBIdeal m →
    θ_run (Cert.RetProjBIdeal.defs (F := Ideal)) (onTc (τ := Cert.RetProjBIdeal.τ) (Cert.RetProjBIdeal.main (F := Ideal))) ⟨m, fun _ => 0, g⟩ (fun r => (∀ c : Dev Cert.RetProjBIdeal.nD,
      r.2.mem ((c.tc : Thread Cert.RetProjBIdeal.nD Cert.RetProjBIdeal.τ).loc Cert.RetProjBIdeal.main_arg0) = m ((c.tc : Thread Cert.RetProjBIdeal.nD Cert.RetProjBIdeal.τ).loc Cert.RetProjBIdeal.main_arg0)
      ∧ r.2.mem ((c.tc : Thread Cert.RetProjBIdeal.nD Cert.RetProjBIdeal.τ).loc Cert.RetProjBIdeal.main_arg1) = m ((c.tc : Thread Cert.RetProjBIdeal.nD Cert.RetProjBIdeal.τ).loc Cert.RetProjBIdeal.main_arg1))
      ∧ r.2.sem = fun _ => 0)

def quiescent_RetProjBRefIdeal [hRetProjBRefIdeal : Cert.RetProjBRefIdeal.Facts] : Prop :=
  ∀ (m : (ℓ : Loc Cert.RetProjBRefIdeal.nD Cert.RetProjBRefIdeal.τ Cert.RetProjBRefIdeal.sig) → Buf (Elt Ideal) ℓ) (g : Dev Cert.RetProjBRefIdeal.nD → PrngReg), Pre_RetProjBRefIdeal m →
    θ_run (Cert.RetProjBRefIdeal.defs (F := Ideal)) (onTc (τ := Cert.RetProjBRefIdeal.τ) (Cert.RetProjBRefIdeal.main (F := Ideal))) ⟨m, fun _ => 0, g⟩ (fun r => (∀ c : Dev Cert.RetProjBRefIdeal.nD,
      r.2.mem ((c.tc : Thread Cert.RetProjBRefIdeal.nD Cert.RetProjBRefIdeal.τ).loc Cert.RetProjBRefIdeal.main_arg0) = m ((c.tc : Thread Cert.RetProjBRefIdeal.nD Cert.RetProjBRefIdeal.τ).loc Cert.RetProjBRefIdeal.main_arg0)
      ∧ r.2.mem ((c.tc : Thread Cert.RetProjBRefIdeal.nD Cert.RetProjBRefIdeal.τ).loc Cert.RetProjBRefIdeal.main_arg1) = m ((c.tc : Thread Cert.RetProjBRefIdeal.nD Cert.RetProjBRefIdeal.τ).loc Cert.RetProjBRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Rkv [hRkv : Cert.Rkv.Facts] : Prop :=
  ∀ (m : (ℓ : Loc Cert.Rkv.nD Cert.Rkv.τ Cert.Rkv.sig) → Buf (Elt Bits) ℓ) (g : Dev Cert.Rkv.nD → PrngReg), Pre_Rkv m →
    θ_run (Cert.Rkv.defs (F := Bits)) (onTc (τ := Cert.Rkv.τ) (Cert.Rkv.main (F := Bits))) ⟨m, fun _ => 0, g⟩ (fun r => (∀ c : Dev Cert.Rkv.nD,
      r.2.mem ((c.tc : Thread Cert.Rkv.nD Cert.Rkv.τ).loc Cert.Rkv.main_arg0) = m ((c.tc : Thread Cert.Rkv.nD Cert.Rkv.τ).loc Cert.Rkv.main_arg0)
      ∧ r.2.mem ((c.tc : Thread Cert.Rkv.nD Cert.Rkv.τ).loc Cert.Rkv.main_arg1) = m ((c.tc : Thread Cert.Rkv.nD Cert.Rkv.τ).loc Cert.Rkv.main_arg1)
      ∧ r.2.mem ((c.tc : Thread Cert.Rkv.nD Cert.Rkv.τ).loc Cert.Rkv.main_arg2) = m ((c.tc : Thread Cert.Rkv.nD Cert.Rkv.τ).loc Cert.Rkv.main_arg2))
      ∧ r.2.sem = fun _ => 0)

def quiescent_RkvIdeal [hRkvIdeal : Cert.RkvIdeal.Facts] : Prop :=
  ∀ (m : (ℓ : Loc Cert.RkvIdeal.nD Cert.RkvIdeal.τ Cert.RkvIdeal.sig) → Buf (Elt Ideal) ℓ) (g : Dev Cert.RkvIdeal.nD → PrngReg), Pre_RkvIdeal m →
    θ_run (Cert.RkvIdeal.defs (F := Ideal)) (onTc (τ := Cert.RkvIdeal.τ) (Cert.RkvIdeal.main (F := Ideal))) ⟨m, fun _ => 0, g⟩ (fun r => (∀ c : Dev Cert.RkvIdeal.nD,
      r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
      ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1)
      ∧ r.2.mem ((c.tc : Thread Cert.RkvIdeal.nD Cert.RkvIdeal.τ).loc Cert.RkvIdeal.main_arg2) = m ((c.tc : Thread Cert.RkvIdeal.nD Cert.RkvIdeal.τ).loc Cert.RkvIdeal.main_arg2))
      ∧ r.2.sem = fun _ => 0)

def quiescent_RkvRefIdeal [hRkvRefIdeal : Cert.RkvRefIdeal.Facts] : Prop :=
  ∀ (m : (ℓ : Loc Cert.RkvRefIdeal.nD Cert.RkvRefIdeal.τ Cert.RkvRefIdeal.sig) → Buf (Elt Ideal) ℓ) (g : Dev Cert.RkvRefIdeal.nD → PrngReg), Pre_RkvRefIdeal m →
    θ_run (Cert.RkvRefIdeal.defs (F := Ideal)) (onTc (τ := Cert.RkvRefIdeal.τ) (Cert.RkvRefIdeal.main (F := Ideal))) ⟨m, fun _ => 0, g⟩ (fun r => (∀ c : Dev Cert.RkvRefIdeal.nD,
      r.2.mem ((c.tc : Thread Cert.RkvRefIdeal.nD Cert.RkvRefIdeal.τ).loc Cert.RkvRefIdeal.main_arg0) = m ((c.tc : Thread Cert.RkvRefIdeal.nD Cert.RkvRefIdeal.τ).loc Cert.RkvRefIdeal.main_arg0)
      ∧ r.2.mem ((c.tc : Thread Cert.RkvRefIdeal.nD Cert.RkvRefIdeal.τ).loc Cert.RkvRefIdeal.main_arg1) = m ((c.tc : Thread Cert.RkvRefIdeal.nD Cert.RkvRefIdeal.τ).loc Cert.RkvRefIdeal.main_arg1)
      ∧ r.2.mem ((c.tc : Thread Cert.RkvRefIdeal.nD Cert.RkvRefIdeal.τ).loc Cert.RkvRefIdeal.main_arg2) = m ((c.tc : Thread Cert.RkvRefIdeal.nD Cert.RkvRefIdeal.τ).loc Cert.RkvRefIdeal.main_arg2))
      ∧ r.2.sem = fun _ => 0)

def quiescent_Lora [hLora : Cert.Lora.Facts] : Prop :=
  ∀ (m : (ℓ : Loc Cert.Lora.nD Cert.Lora.τ Cert.Lora.sig) → Buf (Elt Bits) ℓ) (g : Dev Cert.Lora.nD → PrngReg), Pre_Lora m →
    θ_run (Cert.Lora.defs (F := Bits)) (onTc (τ := Cert.Lora.τ) (Cert.Lora.main (F := Bits))) ⟨m, fun _ => 0, g⟩ (fun r => (∀ c : Dev Cert.Lora.nD,
      r.2.mem ((c.tc : Thread Cert.Lora.nD Cert.Lora.τ).loc Cert.Lora.main_arg0) = m ((c.tc : Thread Cert.Lora.nD Cert.Lora.τ).loc Cert.Lora.main_arg0)
      ∧ r.2.mem ((c.tc : Thread Cert.Lora.nD Cert.Lora.τ).loc Cert.Lora.main_arg1) = m ((c.tc : Thread Cert.Lora.nD Cert.Lora.τ).loc Cert.Lora.main_arg1)
      ∧ r.2.mem ((c.tc : Thread Cert.Lora.nD Cert.Lora.τ).loc Cert.Lora.main_arg2) = m ((c.tc : Thread Cert.Lora.nD Cert.Lora.τ).loc Cert.Lora.main_arg2)
      ∧ r.2.mem ((c.tc : Thread Cert.Lora.nD Cert.Lora.τ).loc Cert.Lora.main_arg3) = m ((c.tc : Thread Cert.Lora.nD Cert.Lora.τ).loc Cert.Lora.main_arg3)
      ∧ r.2.mem ((c.tc : Thread Cert.Lora.nD Cert.Lora.τ).loc Cert.Lora.main_arg4) = m ((c.tc : Thread Cert.Lora.nD Cert.Lora.τ).loc Cert.Lora.main_arg4)
      ∧ r.2.mem ((c.tc : Thread Cert.Lora.nD Cert.Lora.τ).loc Cert.Lora.main_arg5) = m ((c.tc : Thread Cert.Lora.nD Cert.Lora.τ).loc Cert.Lora.main_arg5)
      ∧ r.2.mem ((c.tc : Thread Cert.Lora.nD Cert.Lora.τ).loc Cert.Lora.main_arg6) = m ((c.tc : Thread Cert.Lora.nD Cert.Lora.τ).loc Cert.Lora.main_arg6)
      ∧ r.2.mem ((c.tc : Thread Cert.Lora.nD Cert.Lora.τ).loc Cert.Lora.main_arg7) = m ((c.tc : Thread Cert.Lora.nD Cert.Lora.τ).loc Cert.Lora.main_arg7)
      ∧ r.2.mem ((c.tc : Thread Cert.Lora.nD Cert.Lora.τ).loc Cert.Lora.main_arg8) = m ((c.tc : Thread Cert.Lora.nD Cert.Lora.τ).loc Cert.Lora.main_arg8)
      ∧ r.2.mem ((c.tc : Thread Cert.Lora.nD Cert.Lora.τ).loc Cert.Lora.main_arg9) = m ((c.tc : Thread Cert.Lora.nD Cert.Lora.τ).loc Cert.Lora.main_arg9))
      ∧ r.2.sem = fun _ => 0)

def quiescent_LoraIdeal [hLoraIdeal : Cert.LoraIdeal.Facts] : Prop :=
  ∀ (m : (ℓ : Loc Cert.LoraIdeal.nD Cert.LoraIdeal.τ Cert.LoraIdeal.sig) → Buf (Elt Ideal) ℓ) (g : Dev Cert.LoraIdeal.nD → PrngReg), Pre_LoraIdeal m →
    θ_run (Cert.LoraIdeal.defs (F := Ideal)) (onTc (τ := Cert.LoraIdeal.τ) (Cert.LoraIdeal.main (F := Ideal))) ⟨m, fun _ => 0, g⟩ (fun r => (∀ c : Dev Cert.LoraIdeal.nD,
      r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
      ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1)
      ∧ r.2.mem ((c.tc : Thread Cert.LoraIdeal.nD Cert.LoraIdeal.τ).loc Cert.LoraIdeal.main_arg2) = m ((c.tc : Thread Cert.LoraIdeal.nD Cert.LoraIdeal.τ).loc Cert.LoraIdeal.main_arg2)
      ∧ r.2.mem ((c.tc : Thread Cert.LoraIdeal.nD Cert.LoraIdeal.τ).loc Cert.LoraIdeal.main_arg3) = m ((c.tc : Thread Cert.LoraIdeal.nD Cert.LoraIdeal.τ).loc Cert.LoraIdeal.main_arg3)
      ∧ r.2.mem ((c.tc : Thread Cert.LoraIdeal.nD Cert.LoraIdeal.τ).loc Cert.LoraIdeal.main_arg4) = m ((c.tc : Thread Cert.LoraIdeal.nD Cert.LoraIdeal.τ).loc Cert.LoraIdeal.main_arg4)
      ∧ r.2.mem ((c.tc : Thread Cert.LoraIdeal.nD Cert.LoraIdeal.τ).loc Cert.LoraIdeal.main_arg5) = m ((c.tc : Thread Cert.LoraIdeal.nD Cert.LoraIdeal.τ).loc Cert.LoraIdeal.main_arg5)
      ∧ r.2.mem ((c.tc : Thread Cert.LoraIdeal.nD Cert.LoraIdeal.τ).loc Cert.LoraIdeal.main_arg6) = m ((c.tc : Thread Cert.LoraIdeal.nD Cert.LoraIdeal.τ).loc Cert.LoraIdeal.main_arg6)
      ∧ r.2.mem ((c.tc : Thread Cert.LoraIdeal.nD Cert.LoraIdeal.τ).loc Cert.LoraIdeal.main_arg7) = m ((c.tc : Thread Cert.LoraIdeal.nD Cert.LoraIdeal.τ).loc Cert.LoraIdeal.main_arg7)
      ∧ r.2.mem ((c.tc : Thread Cert.LoraIdeal.nD Cert.LoraIdeal.τ).loc Cert.LoraIdeal.main_arg8) = m ((c.tc : Thread Cert.LoraIdeal.nD Cert.LoraIdeal.τ).loc Cert.LoraIdeal.main_arg8)
      ∧ r.2.mem ((c.tc : Thread Cert.LoraIdeal.nD Cert.LoraIdeal.τ).loc Cert.LoraIdeal.main_arg9) = m ((c.tc : Thread Cert.LoraIdeal.nD Cert.LoraIdeal.τ).loc Cert.LoraIdeal.main_arg9))
      ∧ r.2.sem = fun _ => 0)

def quiescent_LoraRefIdeal [hLoraRefIdeal : Cert.LoraRefIdeal.Facts] : Prop :=
  ∀ (m : (ℓ : Loc Cert.LoraRefIdeal.nD Cert.LoraRefIdeal.τ Cert.LoraRefIdeal.sig) → Buf (Elt Ideal) ℓ) (g : Dev Cert.LoraRefIdeal.nD → PrngReg), Pre_LoraRefIdeal m →
    θ_run (Cert.LoraRefIdeal.defs (F := Ideal)) (onTc (τ := Cert.LoraRefIdeal.τ) (Cert.LoraRefIdeal.main (F := Ideal))) ⟨m, fun _ => 0, g⟩ (fun r => (∀ c : Dev Cert.LoraRefIdeal.nD,
      r.2.mem ((c.tc : Thread Cert.LoraRefIdeal.nD Cert.LoraRefIdeal.τ).loc Cert.LoraRefIdeal.main_arg0) = m ((c.tc : Thread Cert.LoraRefIdeal.nD Cert.LoraRefIdeal.τ).loc Cert.LoraRefIdeal.main_arg0)
      ∧ r.2.mem ((c.tc : Thread Cert.LoraRefIdeal.nD Cert.LoraRefIdeal.τ).loc Cert.LoraRefIdeal.main_arg1) = m ((c.tc : Thread Cert.LoraRefIdeal.nD Cert.LoraRefIdeal.τ).loc Cert.LoraRefIdeal.main_arg1)
      ∧ r.2.mem ((c.tc : Thread Cert.LoraRefIdeal.nD Cert.LoraRefIdeal.τ).loc Cert.LoraRefIdeal.main_arg2) = m ((c.tc : Thread Cert.LoraRefIdeal.nD Cert.LoraRefIdeal.τ).loc Cert.LoraRefIdeal.main_arg2)
      ∧ r.2.mem ((c.tc : Thread Cert.LoraRefIdeal.nD Cert.LoraRefIdeal.τ).loc Cert.LoraRefIdeal.main_arg3) = m ((c.tc : Thread Cert.LoraRefIdeal.nD Cert.LoraRefIdeal.τ).loc Cert.LoraRefIdeal.main_arg3)
      ∧ r.2.mem ((c.tc : Thread Cert.LoraRefIdeal.nD Cert.LoraRefIdeal.τ).loc Cert.LoraRefIdeal.main_arg4) = m ((c.tc : Thread Cert.LoraRefIdeal.nD Cert.LoraRefIdeal.τ).loc Cert.LoraRefIdeal.main_arg4)
      ∧ r.2.mem ((c.tc : Thread Cert.LoraRefIdeal.nD Cert.LoraRefIdeal.τ).loc Cert.LoraRefIdeal.main_arg5) = m ((c.tc : Thread Cert.LoraRefIdeal.nD Cert.LoraRefIdeal.τ).loc Cert.LoraRefIdeal.main_arg5)
      ∧ r.2.mem ((c.tc : Thread Cert.LoraRefIdeal.nD Cert.LoraRefIdeal.τ).loc Cert.LoraRefIdeal.main_arg6) = m ((c.tc : Thread Cert.LoraRefIdeal.nD Cert.LoraRefIdeal.τ).loc Cert.LoraRefIdeal.main_arg6)
      ∧ r.2.mem ((c.tc : Thread Cert.LoraRefIdeal.nD Cert.LoraRefIdeal.τ).loc Cert.LoraRefIdeal.main_arg7) = m ((c.tc : Thread Cert.LoraRefIdeal.nD Cert.LoraRefIdeal.τ).loc Cert.LoraRefIdeal.main_arg7)
      ∧ r.2.mem ((c.tc : Thread Cert.LoraRefIdeal.nD Cert.LoraRefIdeal.τ).loc Cert.LoraRefIdeal.main_arg8) = m ((c.tc : Thread Cert.LoraRefIdeal.nD Cert.LoraRefIdeal.τ).loc Cert.LoraRefIdeal.main_arg8)
      ∧ r.2.mem ((c.tc : Thread Cert.LoraRefIdeal.nD Cert.LoraRefIdeal.τ).loc Cert.LoraRefIdeal.main_arg9) = m ((c.tc : Thread Cert.LoraRefIdeal.nD Cert.LoraRefIdeal.τ).loc Cert.LoraRefIdeal.main_arg9))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0))
      ∧ r.2.sem = fun _ => 0)

def quiescent_CastAll [hCastAll : Cert.CastAll.Facts] : Prop :=
  ∀ (m : (ℓ : Loc Cert.CastAll.nD Cert.CastAll.τ Cert.CastAll.sig) → Buf (Elt Bits) ℓ) (g : Dev Cert.CastAll.nD → PrngReg), Pre_CastAll m →
    θ_run (Cert.CastAll.defs (F := Bits)) (onTc (τ := Cert.CastAll.τ) (Cert.CastAll.main (F := Bits))) ⟨m, fun _ => 0, g⟩ (fun r => (∀ c : Dev Cert.CastAll.nD,
      r.2.mem ((c.tc : Thread Cert.CastAll.nD Cert.CastAll.τ).loc Cert.CastAll.main_arg0) = m ((c.tc : Thread Cert.CastAll.nD Cert.CastAll.τ).loc Cert.CastAll.main_arg0))
      ∧ r.2.sem = fun _ => 0)

def quiescent_CastAllIdeal [hCastAllIdeal : Cert.CastAllIdeal.Facts] : Prop :=
  ∀ (m : (ℓ : Loc Cert.CastAllIdeal.nD Cert.CastAllIdeal.τ Cert.CastAllIdeal.sig) → Buf (Elt Ideal) ℓ) (g : Dev Cert.CastAllIdeal.nD → PrngReg), Pre_CastAllIdeal m →
    θ_run (Cert.CastAllIdeal.defs (F := Ideal)) (onTc (τ := Cert.CastAllIdeal.τ) (Cert.CastAllIdeal.main (F := Ideal))) ⟨m, fun _ => 0, g⟩ (fun r => (∀ c : Dev Cert.CastAllIdeal.nD,
      r.2.mem ((c.tc : Thread Cert.CastAllIdeal.nD Cert.CastAllIdeal.τ).loc Cert.CastAllIdeal.main_arg0) = m ((c.tc : Thread Cert.CastAllIdeal.nD Cert.CastAllIdeal.τ).loc Cert.CastAllIdeal.main_arg0))
      ∧ r.2.sem = fun _ => 0)

def quiescent_CastAllRefIdeal [hCastAllRefIdeal : Cert.CastAllRefIdeal.Facts] : Prop :=
  ∀ (m : (ℓ : Loc Cert.CastAllRefIdeal.nD Cert.CastAllRefIdeal.τ Cert.CastAllRefIdeal.sig) → Buf (Elt Ideal) ℓ) (g : Dev Cert.CastAllRefIdeal.nD → PrngReg), Pre_CastAllRefIdeal m →
    θ_run (Cert.CastAllRefIdeal.defs (F := Ideal)) (onTc (τ := Cert.CastAllRefIdeal.τ) (Cert.CastAllRefIdeal.main (F := Ideal))) ⟨m, fun _ => 0, g⟩ (fun r => (∀ c : Dev Cert.CastAllRefIdeal.nD,
      r.2.mem ((c.tc : Thread Cert.CastAllRefIdeal.nD Cert.CastAllRefIdeal.τ).loc Cert.CastAllRefIdeal.main_arg0) = m ((c.tc : Thread Cert.CastAllRefIdeal.nD Cert.CastAllRefIdeal.τ).loc Cert.CastAllRefIdeal.main_arg0))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v11)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v11) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v115) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v22_0)) (v1 : (c : Dev Cert.FfnIdeal.nD) → Buf (Elt Ideal) ((c.tc : Thread Cert.FfnIdeal.nD Cert.FfnIdeal.τ).loc Cert.FfnIdeal.main_v22_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v22_0) = v0 c
          ∧ r.2.mem ((c.tc : Thread Cert.FfnIdeal.nD Cert.FfnIdeal.τ).loc Cert.FfnIdeal.main_v22_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v59) = v0 c
          ∧ r.2.mem ((c.tc : Thread Cert.FfnRefIdeal.nD Cert.FfnRefIdeal.τ).loc Cert.FfnRefIdeal.main_v60) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v0_0)) (v1 : (c : Dev Cert.PleIdeal.nD) → Buf (Elt Ideal) ((c.tc : Thread Cert.PleIdeal.nD Cert.PleIdeal.τ).loc Cert.PleIdeal.main_v0_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0_0) = v0 c
          ∧ r.2.mem ((c.tc : Thread Cert.PleIdeal.nD Cert.PleIdeal.τ).loc Cert.PleIdeal.main_v0_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v12) = v0 c
          ∧ r.2.mem ((c.tc : Thread Cert.PleRefIdeal.nD Cert.PleRefIdeal.τ).loc Cert.PleRefIdeal.main_v13) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_RetProj_RetProjIdeal : Prop :=
  True

def algebraic_RetProjIdeal_RetProjRefIdeal [hRetProjIdeal : Cert.RetProjIdeal.Facts] [hRetProjRefIdeal : Cert.RetProjRefIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RetProjRefIdeal.nD Cert.RetProjRefIdeal.τ Cert.RetProjRefIdeal.sig) → Buf (Elt Ideal) ℓ) (g' : Dev Cert.RetProjRefIdeal.nD → PrngReg), Pre_RetProjIdeal m →
    (∀ c : Dev Cert.RetProjIdeal.nD,
      m' ((c.tc : Thread Cert.RetProjRefIdeal.nD Cert.RetProjRefIdeal.τ).loc Cert.RetProjRefIdeal.main_arg0) = m ((c.tc : Thread Cert.RetProjIdeal.nD Cert.RetProjIdeal.τ).loc Cert.RetProjIdeal.main_arg0)
      ∧ m' ((c.tc : Thread Cert.RetProjRefIdeal.nD Cert.RetProjRefIdeal.τ).loc Cert.RetProjRefIdeal.main_arg1) = m ((c.tc : Thread Cert.RetProjIdeal.nD Cert.RetProjIdeal.τ).loc Cert.RetProjIdeal.main_arg1)) →
    ∃ (v0 : (c : Dev Cert.RetProjIdeal.nD) → Buf (Elt Ideal) ((c.tc : Thread Cert.RetProjIdeal.nD Cert.RetProjIdeal.τ).loc Cert.RetProjIdeal.main_v19)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v19) = v0 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1))
      ∧ θ_run (Cert.RetProjRefIdeal.defs (F := Ideal)) (onTc (τ := Cert.RetProjRefIdeal.τ) (Cert.RetProjRefIdeal.main (F := Ideal))) ⟨m', fun _ => 0, g'⟩ (fun r => ∀ c : Dev Cert.RetProjRefIdeal.nD,
          r.2.mem ((c.tc : Thread Cert.RetProjRefIdeal.nD Cert.RetProjRefIdeal.τ).loc Cert.RetProjRefIdeal.main_v86) = v0 c
          ∧ r.2.mem ((c.tc : Thread Cert.RetProjRefIdeal.nD Cert.RetProjRefIdeal.τ).loc Cert.RetProjRefIdeal.main_arg0) = m' ((c.tc : Thread Cert.RetProjRefIdeal.nD Cert.RetProjRefIdeal.τ).loc Cert.RetProjRefIdeal.main_arg0)
          ∧ r.2.mem ((c.tc : Thread Cert.RetProjRefIdeal.nD Cert.RetProjRefIdeal.τ).loc Cert.RetProjRefIdeal.main_arg1) = m' ((c.tc : Thread Cert.RetProjRefIdeal.nD Cert.RetProjRefIdeal.τ).loc Cert.RetProjRefIdeal.main_arg1))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)
      ∧ m' ((c.tc : Thread Cert.RetOutRefIdeal.nD Cert.RetOutRefIdeal.τ).loc Cert.RetOutRefIdeal.main_arg3) = m ((c.tc : Thread Cert.RetOutIdeal.nD Cert.RetOutIdeal.τ).loc Cert.RetOutIdeal.main_arg3)
      ∧ m' ((c.tc : Thread Cert.RetOutRefIdeal.nD Cert.RetOutRefIdeal.τ).loc Cert.RetOutRefIdeal.main_arg4) = m ((c.tc : Thread Cert.RetOutIdeal.nD Cert.RetOutIdeal.τ).loc Cert.RetOutIdeal.main_arg4)) →
    ∃ (v0 : (c : Dev Cert.RetOutIdeal.nD) → Buf (Elt Ideal) ((c.tc : Thread Cert.RetOutIdeal.nD Cert.RetOutIdeal.τ).loc Cert.RetOutIdeal.main_v2_0)) (v1 : (c : Dev Cert.RetOutIdeal.nD) → Buf (Elt Ideal) ((c.tc : Thread Cert.RetOutIdeal.nD Cert.RetOutIdeal.τ).loc Cert.RetOutIdeal.main_v2_1)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v2_0) = v0 c
          ∧ r.2.mem ((c.tc : Thread Cert.RetOutIdeal.nD Cert.RetOutIdeal.τ).loc Cert.RetOutIdeal.main_v2_1) = v1 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
          ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v29) = v0 c
          ∧ r.2.mem ((c.tc : Thread Cert.RetOutRefIdeal.nD Cert.RetOutRefIdeal.τ).loc Cert.RetOutRefIdeal.main_v30) = v1 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2)
          ∧ r.2.mem ((c.tc : Thread Cert.RetOutRefIdeal.nD Cert.RetOutRefIdeal.τ).loc Cert.RetOutRefIdeal.main_arg3) = m' ((c.tc : Thread Cert.RetOutRefIdeal.nD Cert.RetOutRefIdeal.τ).loc Cert.RetOutRefIdeal.main_arg3)
          ∧ r.2.mem ((c.tc : Thread Cert.RetOutRefIdeal.nD Cert.RetOutRefIdeal.τ).loc Cert.RetOutRefIdeal.main_arg4) = m' ((c.tc : Thread Cert.RetOutRefIdeal.nD Cert.RetOutRefIdeal.τ).loc Cert.RetOutRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v29) = v0 c
          ∧ r.2.mem ((c.tc : Thread Cert.MixOutRefIdeal.nD Cert.MixOutRefIdeal.τ).loc Cert.MixOutRefIdeal.main_v30) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_RetProjB_RetProjBIdeal : Prop :=
  True

def algebraic_RetProjBIdeal_RetProjBRefIdeal [hRetProjBIdeal : Cert.RetProjBIdeal.Facts] [hRetProjBRefIdeal : Cert.RetProjBRefIdeal.Facts] : Prop :=
  ∀ (m : (ℓ : Loc Cert.RetProjBIdeal.nD Cert.RetProjBIdeal.τ Cert.RetProjBIdeal.sig) → Buf (Elt Ideal) ℓ) (g : Dev Cert.RetProjBIdeal.nD → PrngReg)
    (m' : (ℓ : Loc Cert.RetProjBRefIdeal.nD Cert.RetProjBRefIdeal.τ Cert.RetProjBRefIdeal.sig) → Buf (Elt Ideal) ℓ) (g' : Dev Cert.RetProjBRefIdeal.nD → PrngReg), Pre_RetProjBIdeal m →
    (∀ c : Dev Cert.RetProjBIdeal.nD,
      m' ((c.tc : Thread Cert.RetProjBRefIdeal.nD Cert.RetProjBRefIdeal.τ).loc Cert.RetProjBRefIdeal.main_arg0) = m ((c.tc : Thread Cert.RetProjBIdeal.nD Cert.RetProjBIdeal.τ).loc Cert.RetProjBIdeal.main_arg0)
      ∧ m' ((c.tc : Thread Cert.RetProjBRefIdeal.nD Cert.RetProjBRefIdeal.τ).loc Cert.RetProjBRefIdeal.main_arg1) = m ((c.tc : Thread Cert.RetProjBIdeal.nD Cert.RetProjBIdeal.τ).loc Cert.RetProjBIdeal.main_arg1)) →
    ∃ (v0 : (c : Dev Cert.RetProjBIdeal.nD) → Buf (Elt Ideal) ((c.tc : Thread Cert.RetProjBIdeal.nD Cert.RetProjBIdeal.τ).loc Cert.RetProjBIdeal.main_v19)),
      θ_run (Cert.RetProjBIdeal.defs (F := Ideal)) (onTc (τ := Cert.RetProjBIdeal.τ) (Cert.RetProjBIdeal.main (F := Ideal))) ⟨m, fun _ => 0, g⟩ (fun r => ∀ c : Dev Cert.RetProjBIdeal.nD,
          r.2.mem ((c.tc : Thread Cert.RetProjBIdeal.nD Cert.RetProjBIdeal.τ).loc Cert.RetProjBIdeal.main_v19) = v0 c
          ∧ r.2.mem ((c.tc : Thread Cert.RetProjBIdeal.nD Cert.RetProjBIdeal.τ).loc Cert.RetProjBIdeal.main_arg0) = m ((c.tc : Thread Cert.RetProjBIdeal.nD Cert.RetProjBIdeal.τ).loc Cert.RetProjBIdeal.main_arg0)
          ∧ r.2.mem ((c.tc : Thread Cert.RetProjBIdeal.nD Cert.RetProjBIdeal.τ).loc Cert.RetProjBIdeal.main_arg1) = m ((c.tc : Thread Cert.RetProjBIdeal.nD Cert.RetProjBIdeal.τ).loc Cert.RetProjBIdeal.main_arg1))
      ∧ θ_run (Cert.RetProjBRefIdeal.defs (F := Ideal)) (onTc (τ := Cert.RetProjBRefIdeal.τ) (Cert.RetProjBRefIdeal.main (F := Ideal))) ⟨m', fun _ => 0, g'⟩ (fun r => ∀ c : Dev Cert.RetProjBRefIdeal.nD,
          r.2.mem ((c.tc : Thread Cert.RetProjBRefIdeal.nD Cert.RetProjBRefIdeal.τ).loc Cert.RetProjBRefIdeal.main_v87) = v0 c
          ∧ r.2.mem ((c.tc : Thread Cert.RetProjBRefIdeal.nD Cert.RetProjBRefIdeal.τ).loc Cert.RetProjBRefIdeal.main_arg0) = m' ((c.tc : Thread Cert.RetProjBRefIdeal.nD Cert.RetProjBRefIdeal.τ).loc Cert.RetProjBRefIdeal.main_arg0)
          ∧ r.2.mem ((c.tc : Thread Cert.RetProjBRefIdeal.nD Cert.RetProjBRefIdeal.τ).loc Cert.RetProjBRefIdeal.main_arg1) = m' ((c.tc : Thread Cert.RetProjBRefIdeal.nD Cert.RetProjBRefIdeal.τ).loc Cert.RetProjBRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Rkv_RkvIdeal : Prop :=
  True

def algebraic_RkvIdeal_RkvRefIdeal [hRkvIdeal : Cert.RkvIdeal.Facts] [hRkvRefIdeal : Cert.RkvRefIdeal.Facts] : Prop :=
  ∀ (m : (ℓ : Loc Cert.RkvIdeal.nD Cert.RkvIdeal.τ Cert.RkvIdeal.sig) → Buf (Elt Ideal) ℓ) (g : Dev Cert.RkvIdeal.nD → PrngReg)
    (m' : (ℓ : Loc Cert.RkvRefIdeal.nD Cert.RkvRefIdeal.τ Cert.RkvRefIdeal.sig) → Buf (Elt Ideal) ℓ) (g' : Dev Cert.RkvRefIdeal.nD → PrngReg), Pre_RkvIdeal m →
    (∀ c : Dev Cert.RkvIdeal.nD,
      m' ((c.tc : Thread Cert.RkvRefIdeal.nD Cert.RkvRefIdeal.τ).loc Cert.RkvRefIdeal.main_arg0) = m ((c.tc : Thread Cert.RkvIdeal.nD Cert.RkvIdeal.τ).loc Cert.RkvIdeal.main_arg0)
      ∧ m' ((c.tc : Thread Cert.RkvRefIdeal.nD Cert.RkvRefIdeal.τ).loc Cert.RkvRefIdeal.main_arg1) = m ((c.tc : Thread Cert.RkvIdeal.nD Cert.RkvIdeal.τ).loc Cert.RkvIdeal.main_arg1)
      ∧ m' ((c.tc : Thread Cert.RkvRefIdeal.nD Cert.RkvRefIdeal.τ).loc Cert.RkvRefIdeal.main_arg2) = m ((c.tc : Thread Cert.RkvIdeal.nD Cert.RkvIdeal.τ).loc Cert.RkvIdeal.main_arg2)) →
    ∃ (v0 : (c : Dev Cert.RkvIdeal.nD) → Buf (Elt Ideal) ((c.tc : Thread Cert.RkvIdeal.nD Cert.RkvIdeal.τ).loc Cert.RkvIdeal.main_v8)),
      θ_run (Cert.RkvIdeal.defs (F := Ideal)) (onTc (τ := Cert.RkvIdeal.τ) (Cert.RkvIdeal.main (F := Ideal))) ⟨m, fun _ => 0, g⟩ (fun r => ∀ c : Dev Cert.RkvIdeal.nD,
          r.2.mem ((c.tc : Thread Cert.RkvIdeal.nD Cert.RkvIdeal.τ).loc Cert.RkvIdeal.main_v8) = v0 c
          ∧ r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
          ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1)
          ∧ r.2.mem ((c.tc : Thread Cert.RkvIdeal.nD Cert.RkvIdeal.τ).loc Cert.RkvIdeal.main_arg2) = m ((c.tc : Thread Cert.RkvIdeal.nD Cert.RkvIdeal.τ).loc Cert.RkvIdeal.main_arg2))
      ∧ θ_run (Cert.RkvRefIdeal.defs (F := Ideal)) (onTc (τ := Cert.RkvRefIdeal.τ) (Cert.RkvRefIdeal.main (F := Ideal))) ⟨m', fun _ => 0, g'⟩ (fun r => ∀ c : Dev Cert.RkvRefIdeal.nD,
          r.2.mem ((c.tc : Thread Cert.RkvRefIdeal.nD Cert.RkvRefIdeal.τ).loc Cert.RkvRefIdeal.main_v36) = v0 c
          ∧ r.2.mem ((c.tc : Thread Cert.RkvRefIdeal.nD Cert.RkvRefIdeal.τ).loc Cert.RkvRefIdeal.main_arg0) = m' ((c.tc : Thread Cert.RkvRefIdeal.nD Cert.RkvRefIdeal.τ).loc Cert.RkvRefIdeal.main_arg0)
          ∧ r.2.mem ((c.tc : Thread Cert.RkvRefIdeal.nD Cert.RkvRefIdeal.τ).loc Cert.RkvRefIdeal.main_arg1) = m' ((c.tc : Thread Cert.RkvRefIdeal.nD Cert.RkvRefIdeal.τ).loc Cert.RkvRefIdeal.main_arg1)
          ∧ r.2.mem ((c.tc : Thread Cert.RkvRefIdeal.nD Cert.RkvRefIdeal.τ).loc Cert.RkvRefIdeal.main_arg2) = m' ((c.tc : Thread Cert.RkvRefIdeal.nD Cert.RkvRefIdeal.τ).loc Cert.RkvRefIdeal.main_arg2))

def preserves_Lora_LoraIdeal : Prop :=
  True

def algebraic_LoraIdeal_LoraRefIdeal [hLoraIdeal : Cert.LoraIdeal.Facts] [hLoraRefIdeal : Cert.LoraRefIdeal.Facts] : Prop :=
  ∀ (m : (ℓ : Loc Cert.LoraIdeal.nD Cert.LoraIdeal.τ Cert.LoraIdeal.sig) → Buf (Elt Ideal) ℓ) (g : Dev Cert.LoraIdeal.nD → PrngReg)
    (m' : (ℓ : Loc Cert.LoraRefIdeal.nD Cert.LoraRefIdeal.τ Cert.LoraRefIdeal.sig) → Buf (Elt Ideal) ℓ) (g' : Dev Cert.LoraRefIdeal.nD → PrngReg), Pre_LoraIdeal m →
    (∀ c : Dev Cert.LoraIdeal.nD,
      m' ((c.tc : Thread Cert.LoraRefIdeal.nD Cert.LoraRefIdeal.τ).loc Cert.LoraRefIdeal.main_arg0) = m ((c.tc : Thread Cert.LoraIdeal.nD Cert.LoraIdeal.τ).loc Cert.LoraIdeal.main_arg0)
      ∧ m' ((c.tc : Thread Cert.LoraRefIdeal.nD Cert.LoraRefIdeal.τ).loc Cert.LoraRefIdeal.main_arg1) = m ((c.tc : Thread Cert.LoraIdeal.nD Cert.LoraIdeal.τ).loc Cert.LoraIdeal.main_arg1)
      ∧ m' ((c.tc : Thread Cert.LoraRefIdeal.nD Cert.LoraRefIdeal.τ).loc Cert.LoraRefIdeal.main_arg2) = m ((c.tc : Thread Cert.LoraIdeal.nD Cert.LoraIdeal.τ).loc Cert.LoraIdeal.main_arg2)
      ∧ m' ((c.tc : Thread Cert.LoraRefIdeal.nD Cert.LoraRefIdeal.τ).loc Cert.LoraRefIdeal.main_arg3) = m ((c.tc : Thread Cert.LoraIdeal.nD Cert.LoraIdeal.τ).loc Cert.LoraIdeal.main_arg3)
      ∧ m' ((c.tc : Thread Cert.LoraRefIdeal.nD Cert.LoraRefIdeal.τ).loc Cert.LoraRefIdeal.main_arg4) = m ((c.tc : Thread Cert.LoraIdeal.nD Cert.LoraIdeal.τ).loc Cert.LoraIdeal.main_arg4)
      ∧ m' ((c.tc : Thread Cert.LoraRefIdeal.nD Cert.LoraRefIdeal.τ).loc Cert.LoraRefIdeal.main_arg5) = m ((c.tc : Thread Cert.LoraIdeal.nD Cert.LoraIdeal.τ).loc Cert.LoraIdeal.main_arg5)
      ∧ m' ((c.tc : Thread Cert.LoraRefIdeal.nD Cert.LoraRefIdeal.τ).loc Cert.LoraRefIdeal.main_arg6) = m ((c.tc : Thread Cert.LoraIdeal.nD Cert.LoraIdeal.τ).loc Cert.LoraIdeal.main_arg6)
      ∧ m' ((c.tc : Thread Cert.LoraRefIdeal.nD Cert.LoraRefIdeal.τ).loc Cert.LoraRefIdeal.main_arg7) = m ((c.tc : Thread Cert.LoraIdeal.nD Cert.LoraIdeal.τ).loc Cert.LoraIdeal.main_arg7)
      ∧ m' ((c.tc : Thread Cert.LoraRefIdeal.nD Cert.LoraRefIdeal.τ).loc Cert.LoraRefIdeal.main_arg8) = m ((c.tc : Thread Cert.LoraIdeal.nD Cert.LoraIdeal.τ).loc Cert.LoraIdeal.main_arg8)
      ∧ m' ((c.tc : Thread Cert.LoraRefIdeal.nD Cert.LoraRefIdeal.τ).loc Cert.LoraRefIdeal.main_arg9) = m ((c.tc : Thread Cert.LoraIdeal.nD Cert.LoraIdeal.τ).loc Cert.LoraIdeal.main_arg9)) →
    ∃ (v0 : (c : Dev Cert.LoraIdeal.nD) → Buf (Elt Ideal) ((c.tc : Thread Cert.LoraIdeal.nD Cert.LoraIdeal.τ).loc Cert.LoraIdeal.main_v19_0)) (v1 : (c : Dev Cert.LoraIdeal.nD) → Buf (Elt Ideal) ((c.tc : Thread Cert.LoraIdeal.nD Cert.LoraIdeal.τ).loc Cert.LoraIdeal.main_v19_1)) (v2 : (c : Dev Cert.LoraIdeal.nD) → Buf (Elt Ideal) ((c.tc : Thread Cert.LoraIdeal.nD Cert.LoraIdeal.τ).loc Cert.LoraIdeal.main_v19_2)),
      θ_run (Cert.LoraIdeal.defs (F := Ideal)) (onTc (τ := Cert.LoraIdeal.τ) (Cert.LoraIdeal.main (F := Ideal))) ⟨m, fun _ => 0, g⟩ (fun r => ∀ c : Dev Cert.LoraIdeal.nD,
          r.2.mem ((c.tc : Thread Cert.LoraIdeal.nD Cert.LoraIdeal.τ).loc Cert.LoraIdeal.main_v19_0) = v0 c
          ∧ r.2.mem ((c.tc : Thread Cert.LoraIdeal.nD Cert.LoraIdeal.τ).loc Cert.LoraIdeal.main_v19_1) = v1 c
          ∧ r.2.mem ((c.tc : Thread Cert.LoraIdeal.nD Cert.LoraIdeal.τ).loc Cert.LoraIdeal.main_v19_2) = v2 c
          ∧ r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
          ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1)
          ∧ r.2.mem ((c.tc : Thread Cert.LoraIdeal.nD Cert.LoraIdeal.τ).loc Cert.LoraIdeal.main_arg2) = m ((c.tc : Thread Cert.LoraIdeal.nD Cert.LoraIdeal.τ).loc Cert.LoraIdeal.main_arg2)
          ∧ r.2.mem ((c.tc : Thread Cert.LoraIdeal.nD Cert.LoraIdeal.τ).loc Cert.LoraIdeal.main_arg3) = m ((c.tc : Thread Cert.LoraIdeal.nD Cert.LoraIdeal.τ).loc Cert.LoraIdeal.main_arg3)
          ∧ r.2.mem ((c.tc : Thread Cert.LoraIdeal.nD Cert.LoraIdeal.τ).loc Cert.LoraIdeal.main_arg4) = m ((c.tc : Thread Cert.LoraIdeal.nD Cert.LoraIdeal.τ).loc Cert.LoraIdeal.main_arg4)
          ∧ r.2.mem ((c.tc : Thread Cert.LoraIdeal.nD Cert.LoraIdeal.τ).loc Cert.LoraIdeal.main_arg5) = m ((c.tc : Thread Cert.LoraIdeal.nD Cert.LoraIdeal.τ).loc Cert.LoraIdeal.main_arg5)
          ∧ r.2.mem ((c.tc : Thread Cert.LoraIdeal.nD Cert.LoraIdeal.τ).loc Cert.LoraIdeal.main_arg6) = m ((c.tc : Thread Cert.LoraIdeal.nD Cert.LoraIdeal.τ).loc Cert.LoraIdeal.main_arg6)
          ∧ r.2.mem ((c.tc : Thread Cert.LoraIdeal.nD Cert.LoraIdeal.τ).loc Cert.LoraIdeal.main_arg7) = m ((c.tc : Thread Cert.LoraIdeal.nD Cert.LoraIdeal.τ).loc Cert.LoraIdeal.main_arg7)
          ∧ r.2.mem ((c.tc : Thread Cert.LoraIdeal.nD Cert.LoraIdeal.τ).loc Cert.LoraIdeal.main_arg8) = m ((c.tc : Thread Cert.LoraIdeal.nD Cert.LoraIdeal.τ).loc Cert.LoraIdeal.main_arg8)
          ∧ r.2.mem ((c.tc : Thread Cert.LoraIdeal.nD Cert.LoraIdeal.τ).loc Cert.LoraIdeal.main_arg9) = m ((c.tc : Thread Cert.LoraIdeal.nD Cert.LoraIdeal.τ).loc Cert.LoraIdeal.main_arg9))
      ∧ θ_run (Cert.LoraRefIdeal.defs (F := Ideal)) (onTc (τ := Cert.LoraRefIdeal.τ) (Cert.LoraRefIdeal.main (F := Ideal))) ⟨m', fun _ => 0, g'⟩ (fun r => ∀ c : Dev Cert.LoraRefIdeal.nD,
          r.2.mem ((c.tc : Thread Cert.LoraRefIdeal.nD Cert.LoraRefIdeal.τ).loc Cert.LoraRefIdeal.main_v34) = v0 c
          ∧ r.2.mem ((c.tc : Thread Cert.LoraRefIdeal.nD Cert.LoraRefIdeal.τ).loc Cert.LoraRefIdeal.main_v45) = v1 c
          ∧ r.2.mem ((c.tc : Thread Cert.LoraRefIdeal.nD Cert.LoraRefIdeal.τ).loc Cert.LoraRefIdeal.main_v54) = v2 c
          ∧ r.2.mem ((c.tc : Thread Cert.LoraRefIdeal.nD Cert.LoraRefIdeal.τ).loc Cert.LoraRefIdeal.main_arg0) = m' ((c.tc : Thread Cert.LoraRefIdeal.nD Cert.LoraRefIdeal.τ).loc Cert.LoraRefIdeal.main_arg0)
          ∧ r.2.mem ((c.tc : Thread Cert.LoraRefIdeal.nD Cert.LoraRefIdeal.τ).loc Cert.LoraRefIdeal.main_arg1) = m' ((c.tc : Thread Cert.LoraRefIdeal.nD Cert.LoraRefIdeal.τ).loc Cert.LoraRefIdeal.main_arg1)
          ∧ r.2.mem ((c.tc : Thread Cert.LoraRefIdeal.nD Cert.LoraRefIdeal.τ).loc Cert.LoraRefIdeal.main_arg2) = m' ((c.tc : Thread Cert.LoraRefIdeal.nD Cert.LoraRefIdeal.τ).loc Cert.LoraRefIdeal.main_arg2)
          ∧ r.2.mem ((c.tc : Thread Cert.LoraRefIdeal.nD Cert.LoraRefIdeal.τ).loc Cert.LoraRefIdeal.main_arg3) = m' ((c.tc : Thread Cert.LoraRefIdeal.nD Cert.LoraRefIdeal.τ).loc Cert.LoraRefIdeal.main_arg3)
          ∧ r.2.mem ((c.tc : Thread Cert.LoraRefIdeal.nD Cert.LoraRefIdeal.τ).loc Cert.LoraRefIdeal.main_arg4) = m' ((c.tc : Thread Cert.LoraRefIdeal.nD Cert.LoraRefIdeal.τ).loc Cert.LoraRefIdeal.main_arg4)
          ∧ r.2.mem ((c.tc : Thread Cert.LoraRefIdeal.nD Cert.LoraRefIdeal.τ).loc Cert.LoraRefIdeal.main_arg5) = m' ((c.tc : Thread Cert.LoraRefIdeal.nD Cert.LoraRefIdeal.τ).loc Cert.LoraRefIdeal.main_arg5)
          ∧ r.2.mem ((c.tc : Thread Cert.LoraRefIdeal.nD Cert.LoraRefIdeal.τ).loc Cert.LoraRefIdeal.main_arg6) = m' ((c.tc : Thread Cert.LoraRefIdeal.nD Cert.LoraRefIdeal.τ).loc Cert.LoraRefIdeal.main_arg6)
          ∧ r.2.mem ((c.tc : Thread Cert.LoraRefIdeal.nD Cert.LoraRefIdeal.τ).loc Cert.LoraRefIdeal.main_arg7) = m' ((c.tc : Thread Cert.LoraRefIdeal.nD Cert.LoraRefIdeal.τ).loc Cert.LoraRefIdeal.main_arg7)
          ∧ r.2.mem ((c.tc : Thread Cert.LoraRefIdeal.nD Cert.LoraRefIdeal.τ).loc Cert.LoraRefIdeal.main_arg8) = m' ((c.tc : Thread Cert.LoraRefIdeal.nD Cert.LoraRefIdeal.τ).loc Cert.LoraRefIdeal.main_arg8)
          ∧ r.2.mem ((c.tc : Thread Cert.LoraRefIdeal.nD Cert.LoraRefIdeal.τ).loc Cert.LoraRefIdeal.main_arg9) = m' ((c.tc : Thread Cert.LoraRefIdeal.nD Cert.LoraRefIdeal.τ).loc Cert.LoraRefIdeal.main_arg9))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v0)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v2) = v0 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0))

def preserves_CastAll_CastAllIdeal : Prop :=
  True

def algebraic_CastAllIdeal_CastAllRefIdeal [hCastAllIdeal : Cert.CastAllIdeal.Facts] [hCastAllRefIdeal : Cert.CastAllRefIdeal.Facts] : Prop :=
  ∀ (m : (ℓ : Loc Cert.CastAllIdeal.nD Cert.CastAllIdeal.τ Cert.CastAllIdeal.sig) → Buf (Elt Ideal) ℓ) (g : Dev Cert.CastAllIdeal.nD → PrngReg)
    (m' : (ℓ : Loc Cert.CastAllRefIdeal.nD Cert.CastAllRefIdeal.τ Cert.CastAllRefIdeal.sig) → Buf (Elt Ideal) ℓ) (g' : Dev Cert.CastAllRefIdeal.nD → PrngReg), Pre_CastAllIdeal m →
    (∀ c : Dev Cert.CastAllIdeal.nD,
      m' ((c.tc : Thread Cert.CastAllRefIdeal.nD Cert.CastAllRefIdeal.τ).loc Cert.CastAllRefIdeal.main_arg0) = m ((c.tc : Thread Cert.CastAllIdeal.nD Cert.CastAllIdeal.τ).loc Cert.CastAllIdeal.main_arg0)) →
    ∃ (v0 : (c : Dev Cert.CastAllIdeal.nD) → Buf (Elt Ideal) ((c.tc : Thread Cert.CastAllIdeal.nD Cert.CastAllIdeal.τ).loc Cert.CastAllIdeal.main_v0)),
      θ_run (Cert.CastAllIdeal.defs (F := Ideal)) (onTc (τ := Cert.CastAllIdeal.τ) (Cert.CastAllIdeal.main (F := Ideal))) ⟨m, fun _ => 0, g⟩ (fun r => ∀ c : Dev Cert.CastAllIdeal.nD,
          r.2.mem ((c.tc : Thread Cert.CastAllIdeal.nD Cert.CastAllIdeal.τ).loc Cert.CastAllIdeal.main_v0) = v0 c
          ∧ r.2.mem ((c.tc : Thread Cert.CastAllIdeal.nD Cert.CastAllIdeal.τ).loc Cert.CastAllIdeal.main_arg0) = m ((c.tc : Thread Cert.CastAllIdeal.nD Cert.CastAllIdeal.τ).loc Cert.CastAllIdeal.main_arg0))
      ∧ θ_run (Cert.CastAllRefIdeal.defs (F := Ideal)) (onTc (τ := Cert.CastAllRefIdeal.τ) (Cert.CastAllRefIdeal.main (F := Ideal))) ⟨m', fun _ => 0, g'⟩ (fun r => ∀ c : Dev Cert.CastAllRefIdeal.nD,
          r.2.mem ((c.tc : Thread Cert.CastAllRefIdeal.nD Cert.CastAllRefIdeal.τ).loc Cert.CastAllRefIdeal.main_v0) = v0 c
          ∧ r.2.mem ((c.tc : Thread Cert.CastAllRefIdeal.nD Cert.CastAllRefIdeal.τ).loc Cert.CastAllRefIdeal.main_arg0) = m' ((c.tc : Thread Cert.CastAllRefIdeal.nD Cert.CastAllRefIdeal.τ).loc Cert.CastAllRefIdeal.main_arg0))

def Claim : Prop :=
  ∃ (hRet : Cert.Ret.Facts) (hRetIdeal : Cert.RetIdeal.Facts) (hRetRefIdeal : Cert.RetRefIdeal.Facts) (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hRetProj : Cert.RetProj.Facts) (hRetProjIdeal : Cert.RetProjIdeal.Facts) (hRetProjRefIdeal : Cert.RetProjRefIdeal.Facts) (hRetOut : Cert.RetOut.Facts) (hRetOutIdeal : Cert.RetOutIdeal.Facts) (hRetOutRefIdeal : Cert.RetOutRefIdeal.Facts) (hMixOut : Cert.MixOut.Facts) (hMixOutIdeal : Cert.MixOutIdeal.Facts) (hMixOutRefIdeal : Cert.MixOutRefIdeal.Facts) (hRetProjB : Cert.RetProjB.Facts) (hRetProjBIdeal : Cert.RetProjBIdeal.Facts) (hRetProjBRefIdeal : Cert.RetProjBRefIdeal.Facts) (hQkv : Cert.Qkv.Facts) (hQkvIdeal : Cert.QkvIdeal.Facts) (hQkvRefIdeal : Cert.QkvRefIdeal.Facts) (hRkv : Cert.Rkv.Facts) (hRkvIdeal : Cert.RkvIdeal.Facts) (hRkvRefIdeal : Cert.RkvRefIdeal.Facts) (hLora : Cert.Lora.Facts) (hLoraIdeal : Cert.LoraIdeal.Facts) (hLoraRefIdeal : Cert.LoraRefIdeal.Facts) (hUp : Cert.Up.Facts) (hUpIdeal : Cert.UpIdeal.Facts) (hUpRefIdeal : Cert.UpRefIdeal.Facts) (hCast : Cert.Cast.Facts) (hCastIdeal : Cert.CastIdeal.Facts) (hCastRefIdeal : Cert.CastRefIdeal.Facts) (hCastAll : Cert.CastAll.Facts) (hCastAllIdeal : Cert.CastAllIdeal.Facts) (hCastAllRefIdeal : Cert.CastAllRefIdeal.Facts),
    quiescent_Ret (hRet := hRet)
    ∧ quiescent_RetIdeal (hRetIdeal := hRetIdeal)
    ∧ quiescent_RetRefIdeal (hRetRefIdeal := hRetRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_RetProj (hRetProj := hRetProj)
    ∧ quiescent_RetProjIdeal (hRetProjIdeal := hRetProjIdeal)
    ∧ quiescent_RetProjRefIdeal (hRetProjRefIdeal := hRetProjRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_RetProjB (hRetProjB := hRetProjB)
    ∧ quiescent_RetProjBIdeal (hRetProjBIdeal := hRetProjBIdeal)
    ∧ quiescent_RetProjBRefIdeal (hRetProjBRefIdeal := hRetProjBRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Rkv (hRkv := hRkv)
    ∧ quiescent_RkvIdeal (hRkvIdeal := hRkvIdeal)
    ∧ quiescent_RkvRefIdeal (hRkvRefIdeal := hRkvRefIdeal)
    ∧ quiescent_Lora (hLora := hLora)
    ∧ quiescent_LoraIdeal (hLoraIdeal := hLoraIdeal)
    ∧ quiescent_LoraRefIdeal (hLoraRefIdeal := hLoraRefIdeal)
    ∧ quiescent_Up (hUp := hUp)
    ∧ quiescent_UpIdeal (hUpIdeal := hUpIdeal)
    ∧ quiescent_UpRefIdeal (hUpRefIdeal := hUpRefIdeal)
    ∧ quiescent_Cast (hCast := hCast)
    ∧ quiescent_CastIdeal (hCastIdeal := hCastIdeal)
    ∧ quiescent_CastRefIdeal (hCastRefIdeal := hCastRefIdeal)
    ∧ quiescent_CastAll (hCastAll := hCastAll)
    ∧ quiescent_CastAllIdeal (hCastAllIdeal := hCastAllIdeal)
    ∧ quiescent_CastAllRefIdeal (hCastAllRefIdeal := hCastAllRefIdeal)
    ∧ preserves_Ret_RetIdeal
    ∧ algebraic_RetIdeal_RetRefIdeal (hRetIdeal := hRetIdeal) (hRetRefIdeal := hRetRefIdeal)
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_RetProj_RetProjIdeal
    ∧ algebraic_RetProjIdeal_RetProjRefIdeal (hRetProjIdeal := hRetProjIdeal) (hRetProjRefIdeal := hRetProjRefIdeal)
    ∧ preserves_RetOut_RetOutIdeal
    ∧ algebraic_RetOutIdeal_RetOutRefIdeal (hRetOutIdeal := hRetOutIdeal) (hRetOutRefIdeal := hRetOutRefIdeal)
    ∧ preserves_MixOut_MixOutIdeal
    ∧ algebraic_MixOutIdeal_MixOutRefIdeal (hMixOutIdeal := hMixOutIdeal) (hMixOutRefIdeal := hMixOutRefIdeal)
    ∧ preserves_RetProjB_RetProjBIdeal
    ∧ algebraic_RetProjBIdeal_RetProjBRefIdeal (hRetProjBIdeal := hRetProjBIdeal) (hRetProjBRefIdeal := hRetProjBRefIdeal)
    ∧ preserves_Qkv_QkvIdeal
    ∧ algebraic_QkvIdeal_QkvRefIdeal (hQkvIdeal := hQkvIdeal) (hQkvRefIdeal := hQkvRefIdeal)
    ∧ preserves_Rkv_RkvIdeal
    ∧ algebraic_RkvIdeal_RkvRefIdeal (hRkvIdeal := hRkvIdeal) (hRkvRefIdeal := hRkvRefIdeal)
    ∧ preserves_Lora_LoraIdeal
    ∧ algebraic_LoraIdeal_LoraRefIdeal (hLoraIdeal := hLoraIdeal) (hLoraRefIdeal := hLoraRefIdeal)
    ∧ preserves_Up_UpIdeal
    ∧ algebraic_UpIdeal_UpRefIdeal (hUpIdeal := hUpIdeal) (hUpRefIdeal := hUpRefIdeal)
    ∧ preserves_Cast_CastIdeal
    ∧ algebraic_CastIdeal_CastRefIdeal (hCastIdeal := hCastIdeal) (hCastRefIdeal := hCastRefIdeal)
    ∧ preserves_CastAll_CastAllIdeal
    ∧ algebraic_CastAllIdeal_CastAllRefIdeal (hCastAllIdeal := hCastAllIdeal) (hCastAllRefIdeal := hCastAllRefIdeal)
-- ==== Ret.lean ====
abbrev S16384x12288 : Shape := ⟨2, ![16384, 12288]⟩
abbrev S4096 : Shape := ⟨1, ![4096]⟩
abbrev S8 : Shape := ⟨1, ![8]⟩
abbrev S_ : Shape := ⟨0, ![]⟩
abbrev S8x1x1 : Shape := ⟨3, ![8, 1, 1]⟩
abbrev S8x1x512 : Shape := ⟨3, ![8, 1, 512]⟩
abbrev S1x4096 : Shape := ⟨2, ![1, 4096]⟩
abbrev S16384x4096 : Shape := ⟨2, ![16384, 4096]⟩
abbrev S4096x256 : Shape := ⟨2, ![4096, 256]⟩
abbrev S4096x512 : Shape := ⟨2, ![4096, 512]⟩
abbrev S1x1x512 : Shape := ⟨3, ![1, 1, 512]⟩
abbrev S1x512 : Shape := ⟨2, ![1, 512]⟩
abbrev S256x512 : Shape := ⟨2, ![256, 512]⟩
abbrev S128x128 : Shape := ⟨2, ![128, 128]⟩
abbrev S1x128 : Shape := ⟨2, ![1, 128]⟩
abbrev S128x512 : Shape := ⟨2, ![128, 512]⟩
abbrev S128x256 : Shape := ⟨2, ![128, 256]⟩
abbrev S1x256 : Shape := ⟨2, ![1, 256]⟩
abbrev S128 : Shape := ⟨1, ![128]⟩
abbrev S128x1 : Shape := ⟨2, ![128, 1]⟩

abbrev nBuf : Space → Nat
  | .hbm => 17
  | .vmem => 15
  | .smem => 0
  | _ => 0

abbrev bufTy : (tb : Table) → Fin (tcTables nBuf tb) → BufTy
  | .hbm, ⟨0, _⟩ => ⟨S16384x12288, .bf16⟩
  | .hbm, ⟨1, _⟩ => ⟨S4096, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8x1x1, .f32⟩
  | .hbm, ⟨14, _⟩ => ⟨S8x1x512, .f32⟩
  | .hbm, ⟨15, _⟩ => ⟨S1x4096, .f32⟩
  | .hbm, ⟨16, _⟩ => ⟨S16384x4096, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S1x1x512, .f32⟩
  | .local _ .vmem, ⟨9, _⟩ => ⟨S1x1x512, .f32⟩
  | .local _ .vmem, ⟨10, _⟩ => ⟨S1x512, .f32⟩
  | .local _ .vmem, ⟨11, _⟩ => ⟨S1x512, .f32⟩
  | .local _ .vmem, ⟨12, _⟩ => ⟨S4096x512, .bf16⟩
  | .local _ .vmem, ⟨13, _⟩ => ⟨S4096x512, .bf16⟩
  | .local _ .vmem, ⟨14, _⟩ => ⟨S256x512, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== RetRefIdeal.lean ====
abbrev S16384x12288 : Shape := ⟨2, ![16384, 12288]⟩
abbrev S4096 : Shape := ⟨1, ![4096]⟩
abbrev S8 : Shape := ⟨1, ![8]⟩
abbrev S_ : Shape := ⟨0, ![]⟩
abbrev S128 : Shape := ⟨1, ![128]⟩
abbrev S1x8 : Shape := ⟨2, ![1, 8]⟩
abbrev S128x1 : Shape := ⟨2, ![128, 1]⟩
abbrev S128x8 : Shape := ⟨2, ![128, 8]⟩
abbrev S2x8192x12288 : Shape := ⟨3, ![2, 8192, 12288]⟩
abbrev S2x8192x2048 : Shape := ⟨3, ![2, 8192, 2048]⟩
abbrev S2x8192x4096 : Shape := ⟨3, ![2, 8192, 4096]⟩
abbrev S2x64x128x8x256 : Shape := ⟨5, ![2, 64, 128, 8, 256]⟩
abbrev S2x64x128x8x512 : Shape := ⟨5, ![2, 64, 128, 8, 512]⟩
abbrev S2x8x256x512 : Shape := ⟨4, ![2, 8, 256, 512]⟩
abbrev S64x2x128x8x256 : Shape := ⟨5, ![64, 2, 128, 8, 256]⟩
abbrev S64x2x128x8x512 : Shape := ⟨5, ![64, 2, 128, 8, 512]⟩
abbrev S1x2x128x8x256 : Shape := ⟨5, ![1, 2, 128, 8, 256]⟩
abbrev S2x128x8x256 : Shape := ⟨4, ![2, 128, 8, 256]⟩
abbrev S1x2x128x8x512 : Shape := ⟨5, ![1, 2, 128, 8, 512]⟩
abbrev S2x128x8x512 : Shape := ⟨4, ![2, 128, 8, 512]⟩
abbrev S2x8x512x128 : Shape := ⟨4, ![2, 8, 512, 128]⟩
abbrev S1x128x8x1 : Shape := ⟨4, ![1, 128, 8, 1]⟩
abbrev S1x8x1x1 : Shape := ⟨4, ![1, 8, 1, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S2x64x8x128x128 : Shape := ⟨5, ![2, 64, 8, 128, 128]⟩
abbrev S1x1x8x128x128 : Shape := ⟨5, ![1, 1, 8, 128, 128]⟩
abbrev S2x64x8x512x128 : Shape := ⟨5, ![2, 64, 8, 512, 128]⟩
abbrev S2x8192x8x512 : Shape := ⟨4, ![2, 8192, 8, 512]⟩
abbrev S2x8192x8 : Shape := ⟨3, ![2, 8192, 8]⟩
abbrev S2x8192x8x1 : Shape := ⟨4, ![2, 8192, 8, 1]⟩
abbrev S8x512 : Shape := ⟨2, ![8, 512]⟩
abbrev S1x1x8x512 : Shape := ⟨4, ![1, 1, 8, 512]⟩
abbrev S16384x4096 : Shape := ⟨2, ![16384, 4096]⟩

abbrev nBuf : Space → Nat
  | .hbm => 189
  | .vmem => 0
  | .smem => 0
  | _ => 0

abbrev hbmTy0_0 (i : Nat) : BufTy := match i % 128 with
  | 0 => ⟨S16384x12288, .bf16⟩
  | 1 => ⟨S4096, .f32⟩
  | 2 => ⟨S8, .f32⟩
  | 3 => ⟨S_, .f32⟩
  | 4 => ⟨S8, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S8, .f32⟩
  | 13 => ⟨S128, .f32⟩
  | 14 => ⟨S1x8, .f32⟩
  | 15 => ⟨S128x1, .f32⟩
  | 16 => ⟨S_, .f32⟩
  | 17 => ⟨S128x1, .f32⟩
  | 18 => ⟨S128x1, .f32⟩
  | 19 => ⟨S128x8, .f32⟩
  | 20 => ⟨S128x8, .f32⟩
  | 21 => ⟨S128x8, .f32⟩
  | 22 => ⟨S128x8, .f32⟩
  | 23 => ⟨S1x8, .f32⟩
  | 24 => ⟨S128x1, .f32⟩
  | 25 => ⟨S_, .f32⟩
  | 26 => ⟨S128x1, .f32⟩
  | 27 => ⟨S128x1, .f32⟩
  | 28 => ⟨S128x8, .f32⟩
  | 29 => ⟨S128x8, .f32⟩
  | 30 => ⟨S128x8, .f32⟩
  | 31 => ⟨S128x8, .f32⟩
  | 32 => ⟨S_, .f32⟩
  | 33 => ⟨S8, .f32⟩
  | 34 => ⟨S8, .f32⟩
  | 35 => ⟨S8, .f32⟩
  | 36 => ⟨S16384x12288, .f32⟩
  | 37 => ⟨S2x8192x12288, .f32⟩
  | 38 => ⟨S2x8192x2048, .f32⟩
  | 39 => ⟨S2x8192x2048, .f32⟩
  | 40 => ⟨S2x8192x4096, .f32⟩
  | 41 => ⟨S2x8192x4096, .f32⟩
  | 42 => ⟨S2x64x128x8x256, .f32⟩
  | 43 => ⟨S2x64x128x8x256, .f32⟩
  | 44 => ⟨S2x64x128x8x512, .f32⟩
  | 45 => ⟨S_, .f32⟩
  | 46 => ⟨S2x8x256x512, .f32⟩
  | 47 => ⟨S64x2x128x8x256, .f32⟩
  | 48 => ⟨S64x2x128x8x256, .f32⟩
  | 49 => ⟨S64x2x128x8x512, .f32⟩
  | 50 => ⟨S_, .f32⟩
  | 51 => ⟨S64x2x128x8x512, .f32⟩
  | 52 => ⟨S_, .i32⟩
  | 53 => ⟨S64x2x128x8x256, .f32⟩
  | 54 => ⟨S64x2x128x8x256, .f32⟩
  | 55 => ⟨S64x2x128x8x512, .f32⟩
  | 56 => ⟨S128x8, .f32⟩
  | 57 => ⟨S8, .f32⟩
  | 58 => ⟨S128x8, .f32⟩
  | 59 => ⟨S_, .i32⟩
  | 60 => ⟨S2x8x256x512, .f32⟩
  | 61 => ⟨S64x2x128x8x512, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S1x2x128x8x256, .f32⟩
  | 69 => ⟨S2x128x8x256, .f32⟩
  | 70 => ⟨S_, .i32⟩
  | 71 => ⟨S_, .i32⟩
  | 72 => ⟨S_, .i32⟩
  | 73 => ⟨S_, .i32⟩
  | 74 => ⟨S1x2x128x8x256, .f32⟩
  | 75 => ⟨S2x128x8x256, .f32⟩
  | 76 => ⟨S_, .i32⟩
  | 77 => ⟨S_, .i32⟩
  | 78 => ⟨S_, .i32⟩
  | 79 => ⟨S_, .i32⟩
  | 80 => ⟨S1x2x128x8x512, .f32⟩
  | 81 => ⟨S2x128x8x512, .f32⟩
  | 82 => ⟨S2x8x512x128, .f32⟩
  | 83 => ⟨S2x128x8x512, .f32⟩
  | 84 => ⟨S1x128x8x1, .f32⟩
  | 85 => ⟨S2x128x8x512, .f32⟩
  | 86 => ⟨S2x128x8x512, .f32⟩
  | 87 => ⟨S1x8x1x1, .f32⟩
  | 88 => ⟨S2x8x256x512, .f32⟩
  | 89 => ⟨S2x8x256x512, .f32⟩
  | 90 => ⟨S1x128x8x1, .f32⟩
  | 91 => ⟨S2x128x8x256, .f32⟩
  | 92 => ⟨S2x128x8x256, .f32⟩
  | 93 => ⟨S2x8x256x512, .f32⟩
  | 94 => ⟨S2x8x256x512, .f32⟩
  | 95 => ⟨S1x2x128x8x512, .f32⟩
  | 96 => ⟨S_, .i32⟩
  | 97 => ⟨S_, .i32⟩
  | 98 => ⟨S_, .i32⟩
  | 99 => ⟨S_, .i32⟩
  | 100 => ⟨S64x2x128x8x512, .f32⟩
  | 101 => ⟨S_, .i32⟩
  | 102 => ⟨S_, .i32⟩
  | 103 => ⟨S2x64x128x8x512, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S_, .f32⟩
  | 112 => ⟨S8, .f32⟩
  | 113 => ⟨S8, .f32⟩
  | 114 => ⟨S8, .f32⟩
  | 115 => ⟨S128, .i32⟩
  | 116 => ⟨S128, .f32⟩
  | 117 => ⟨S128x1, .f32⟩
  | 118 => ⟨S1x128, .f32⟩
  | 119 => ⟨S128x128, .f32⟩
  | 120 => ⟨S128x128, .f32⟩
  | 121 => ⟨S128x128, .f32⟩
  | 122 => ⟨S128x1, .i32⟩
  | 123 => ⟨S1x128, .i32⟩
  | 124 => ⟨S128x128, .i32⟩
  | 125 => ⟨S128x128, .i32⟩
  | 126 => ⟨S128x128, .i1⟩
  | 127 => ⟨S8x1x1, .f32⟩
  | _ => ⟨S16384x12288, .bf16⟩

abbrev hbmTy0_1 (i : Nat) : BufTy := match i % 128 with
  | 0 => ⟨S_, .f32⟩
  | 1 => ⟨S128x128, .f32⟩
  | 2 => ⟨S128x128, .f32⟩
  | 3 => ⟨S1x128x128, .f32⟩
  | 4 => ⟨S8x128x128, .f32⟩
  | 5 => ⟨S8x128x128, .f32⟩
  | 6 => ⟨S8x128x128, .f32⟩
  | 7 => ⟨S8x128x128, .f32⟩
  | 8 => ⟨S_, .f32⟩
  | 9 => ⟨S_, .f32⟩
  | 10 => ⟨S8x128x128, .i1⟩
  | 11 => ⟨S8x128x128, .f32⟩
  | 12 => ⟨S8x128x128, .f32⟩
  | 13 => ⟨S16384x12288, .f32⟩
  | 14 => ⟨S2x8192x12288, .f32⟩
  | 15 => ⟨S2x8192x2048, .f32⟩
  | 16 => ⟨S2x8192x2048, .f32⟩
  | 17 => ⟨S2x8192x4096, .f32⟩
  | 18 => ⟨S2x8192x4096, .f32⟩
  | 19 => ⟨S2x64x128x8x256, .f32⟩
  | 20 => ⟨S2x64x128x8x256, .f32⟩
  | 21 => ⟨S2x64x128x8x512, .f32⟩
  | 22 => ⟨S2x64x8x128x128, .f32⟩
  | 23 => ⟨S1x1x8x128x128, .f32⟩
  | 24 => ⟨S2x64x8x128x128, .f32⟩
  | 25 => ⟨S2x64x8x128x128, .f32⟩
  | 26 => ⟨S2x64x8x512x128, .f32⟩
  | 27 => ⟨S2x64x128x8x512, .f32⟩
  | 28 => ⟨S2x64x128x8x512, .f32⟩
  | 29 => ⟨S2x8192x8x512, .f32⟩
  | 30 => ⟨S_, .f32⟩
  | 31 => ⟨S2x8192x8, .f32⟩
  | 32 => ⟨S2x8192x8x1, .f32⟩
  | 33 => ⟨S_, .f32⟩
  | 34 => ⟨S2x8192x8x1, .f32⟩
  | 35 => ⟨S2x8192x8x1, .f32⟩
  | 36 => ⟨S2x8192x8x512, .f32⟩
  | 37 => ⟨S2x8192x8x512, .f32⟩
  | 38 => ⟨S2x8192x8x512, .f32⟩
  | 39 => ⟨S_, .f32⟩
  | 40 => ⟨S2x8192x8, .f32⟩
  | 41 => ⟨S2x8192x8x1, .f32⟩
  | 42 => ⟨S_, .f32⟩
  | 43 => ⟨S2x8192x8x1, .f32⟩
  | 44 => ⟨S2x8192x8x1, .f32⟩
  | 45 => ⟨S2x8192x8x512, .f32⟩
  | 46 => ⟨S2x8192x8x512, .f32⟩
  | 47 => ⟨S_, .f32⟩
  | 48 => ⟨S2x8192x8x1, .f32⟩
  | 49 => ⟨S2x8192x8x1, .f32⟩
  | 50 => ⟨S2x8192x8x1, .f32⟩
  | 51 => ⟨S2x8192x8x512, .f32⟩
  | 52 => ⟨S2x8192x8x512, .f32⟩
  | 53 => ⟨S8x512, .f32⟩
  | 54 => ⟨S1x1x8x512, .f32⟩
  | 55 => ⟨S2x8192x8x512, .f32⟩
  | 56 => ⟨S2x8192x8x512, .f32⟩
  | 57 => ⟨S2x8192x4096, .f32⟩
  | 58 => ⟨S2x8192x4096, .f32⟩
  | 59 => ⟨S16384x4096, .f32⟩
  | 60 => ⟨S16384x4096, .bf16⟩
  | _ => ⟨S16384x12288, .bf16⟩

abbrev hbmTy (i : Nat) : BufTy := match i / 128 with
  | 0 => hbmTy0_0 i
  | 1 => hbmTy0_1 i
  | _ => ⟨S16384x12288, .bf16⟩

abbrev bufTy : (tb : Table) → Fin (tcTables nBuf tb) → BufTy
  | .hbm, ⟨i, _⟩ => hbmTy i
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_c : Ref sig .tc := ⟨.hbm, 52, rfl⟩
abbrev main_v42_0 : Ref sig .tc := ⟨.hbm, 53, rfl⟩
abbrev main_v42_1 : Ref sig .tc := ⟨.hbm, 54, rfl⟩
abbrev main_v42_2 : Ref sig .tc := ⟨.hbm, 55, rfl⟩
abbrev main_v42_3 : Ref sig .tc := ⟨.hbm, 56, rfl⟩
abbrev main_v42_4 : Ref sig .tc := ⟨.hbm, 57, rfl⟩
abbrev main_v42_5 : Ref sig .tc := ⟨.hbm, 58, rfl⟩
abbrev main_v42_6 : Ref sig .tc := ⟨.hbm, 59, rfl⟩
abbrev main_v42_7 : Ref sig .tc := ⟨.hbm, 60, rfl⟩
abbrev main_v42_8 : Ref sig .tc := ⟨.hbm, 61, rfl⟩
abbrev main_while0c_c_25 : Ref sig .tc := ⟨.hbm, 62, rfl⟩
abbrev main_while0c_v116 : Ref sig .tc := ⟨.hbm, 63, rfl⟩
abbrev main_while0b_call0_c : Ref sig .tc := ⟨.hbm, 64, rfl⟩
abbrev main_while0b_call0_c_0 : Ref sig .tc := ⟨.hbm, 65, rfl⟩
abbrev main_while0b_call0_c_1 : Ref sig .tc := ⟨.hbm, 66, rfl⟩
abbrev main_while0b_call0_c_2 : Ref sig .tc := ⟨.hbm, 67, rfl⟩
abbrev main_while0b_call0_v0 : Ref sig .tc := ⟨.hbm, 68, rfl⟩
abbrev main_while0b_v116 : Ref sig .tc := ⟨.hbm, 69, rfl⟩
abbrev main_while0b_call1_c : Ref sig .tc := ⟨.hbm, 70, rfl⟩
abbrev main_while0b_call1_c_0 : Ref sig .tc := ⟨.hbm, 71, rfl⟩
abbrev main_while0b_call1_c_1 : Ref sig .tc := ⟨.hbm, 72, rfl⟩
abbrev main_while0b_call1_c_2 : Ref sig .tc := ⟨.hbm, 73, rfl⟩
abbrev main_while0b_call1_v0 : Ref sig .tc := ⟨.hbm, 74, rfl⟩
abbrev main_while0b_v117 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_c_2 : Ref sig .tc := ⟨.hbm, 79, rfl⟩
abbrev main_while0b_call2_v0 : Ref sig .tc := ⟨.hbm, 80, rfl⟩
abbrev main_while0b_v118 : Ref sig .tc := ⟨.hbm, 81, rfl⟩
abbrev main_while0b_v119 : Ref sig .tc := ⟨.hbm, 82, rfl⟩
abbrev main_while0b_v120 : Ref sig .tc := ⟨.hbm, 83, rfl⟩
abbrev main_while0b_v121 : Ref sig .tc := ⟨.hbm, 84, rfl⟩
abbrev main_while0b_v122 : Ref sig .tc := ⟨.hbm, 85, rfl⟩
abbrev main_while0b_v123 : Ref sig .tc := ⟨.hbm, 86, rfl⟩
abbrev main_while0b_v124 : Ref sig .tc := ⟨.hbm, 87, rfl⟩
abbrev main_while0b_v125 : Ref sig .tc := ⟨.hbm, 88, rfl⟩
abbrev main_while0b_v126 : Ref sig .tc := ⟨.hbm, 89, rfl⟩
abbrev main_while0b_v127 : Ref sig .tc := ⟨.hbm, 90, rfl⟩
abbrev main_while0b_v128 : Ref sig .tc := ⟨.hbm, 91, rfl⟩
abbrev main_while0b_v129 : Ref sig .tc := ⟨.hbm, 92, rfl⟩
abbrev main_while0b_v130 : Ref sig .tc := ⟨.hbm, 93, rfl⟩
abbrev main_while0b_v131 : Ref sig .tc := ⟨.hbm, 94, rfl⟩
abbrev main_while0b_call3_v0 : Ref sig .tc := ⟨.hbm, 95, rfl⟩
abbrev main_while0b_call3_c : Ref sig .tc := ⟨.hbm, 96, rfl⟩
abbrev main_while0b_call3_c_0 : Ref sig .tc := ⟨.hbm, 97, rfl⟩
abbrev main_while0b_call3_c_1 : Ref sig .tc := ⟨.hbm, 98, rfl⟩
abbrev main_while0b_call3_c_2 : Ref sig .tc := ⟨.hbm, 99, rfl⟩
abbrev main_while0b_v132 : Ref sig .tc := ⟨.hbm, 100, rfl⟩
abbrev main_while0b_c_25 : Ref sig .tc := ⟨.hbm, 101, rfl⟩
abbrev main_while0b_v133 : Ref sig .tc := ⟨.hbm, 102, rfl⟩
abbrev main_v43 : Ref sig .tc := ⟨.hbm, 103, rfl⟩
abbrev main_v44 : Ref sig .tc := ⟨.hbm, 104, rfl⟩
abbrev main_cst_7 : Ref sig .tc := ⟨.hbm, 105, rfl⟩
abbrev main_v45 : Ref sig .tc := ⟨.hbm, 106, rfl⟩
abbrev main_v46 : Ref sig .tc := ⟨.hbm, 107, rfl⟩
abbrev main_cst_8 : Ref sig .tc := ⟨.hbm, 108, rfl⟩
abbrev main_v47 : Ref sig .tc := ⟨.hbm, 109, rfl⟩
abbrev main_v48 : Ref sig .tc := ⟨.hbm, 110, rfl⟩
abbrev main_cst_9 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_cst_10 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_cst_11 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_cst_12 : Ref sig .tc := ⟨.hbm, 158, rfl⟩
abbrev main_v90 : Ref sig .tc := ⟨.hbm, 159, rfl⟩
abbrev main_v91 : Ref sig .tc := ⟨.hbm, 160, rfl⟩
abbrev main_cst_13 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_cst_14 : Ref sig .tc := ⟨.hbm, 167, rfl⟩
abbrev main_v97 : Ref sig .tc := ⟨.hbm, 168, rfl⟩
abbrev main_v98 : Ref sig .tc := ⟨.hbm, 169, rfl⟩
abbrev main_cst_15 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_cst_16 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S16384x2048 : Shape := ⟨2, ![16384, 2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S2048 : Shape := ⟨1, ![2048]⟩
abbrev S1x11008 : Shape := ⟨2, ![1, 11008]⟩
abbrev S4x11008 : Shape := ⟨2, ![4, 11008]⟩
abbrev S_ : Shape := ⟨0, ![]⟩
abbrev S8x11008 : Shape := ⟨2, ![8, 11008]⟩
abbrev S8x5504 : Shape := ⟨2, ![8, 5504]⟩
abbrev S8x5632 : Shape := ⟨2, ![8, 5632]⟩
abbrev S1x8x5632 : Shape := ⟨3, ![1, 8, 5632]⟩
abbrev S2x8x5632 : Shape := ⟨3, ![2, 8, 5632]⟩
abbrev S2048x5504 : Shape := ⟨2, ![2048, 5504]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S5632x2048 : Shape := ⟨2, ![5632, 2048]⟩
abbrev S1x2048 : Shape := ⟨2, ![1, 2048]⟩
abbrev S512x2048 : Shape := ⟨2, ![512, 2048]⟩
abbrev S16x2048 : Shape := ⟨2, ![16, 2048]⟩
abbrev S1x2048x512 : Shape := ⟨3, ![1, 2048, 512]⟩
abbrev S2x8x512 : Shape := ⟨3, ![2, 8, 512]⟩
abbrev S528x2048 : Shape := ⟨2, ![528, 2048]⟩
abbrev S2048x512 : Shape := ⟨2, ![2048, 512]⟩
abbrev S528x512 : Shape := ⟨2, ![528, 512]⟩
abbrev S1x8x512 : Shape := ⟨3, ![1, 8, 512]⟩
abbrev S8x512 : Shape := ⟨2, ![8, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 44
  | .vmem => 22
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x11008, .f32⟩
  | .hbm, ⟨3, _⟩ => ⟨S3x11008, .f32⟩
  | .hbm, ⟨4, _⟩ => ⟨S11008, .f32⟩
  | .hbm, ⟨5, _⟩ => ⟨S5504x2048, .f32⟩
  | .hbm, ⟨6, _⟩ => ⟨S2048, .f32⟩
  | .hbm, ⟨7, _⟩ => ⟨S2048, .f32⟩
  | .hbm, ⟨8, _⟩ => ⟨S1x11008, .f32⟩
  | .hbm, ⟨9, _⟩ => ⟨S4x11008, .f32⟩
  | .hbm, ⟨10, _⟩ => ⟨S_, .i32⟩
  | .hbm, ⟨11, _⟩ => ⟨S_, .f32⟩
  | .hbm, ⟨12, _⟩ => ⟨S8x11008, .f32⟩
  | .hbm, ⟨13, _⟩ => ⟨S8x5504, .f32⟩
  | .hbm, ⟨14, _⟩ => ⟨S_, .i32⟩
  | .hbm, ⟨15, _⟩ => ⟨S_, .f32⟩
  | .hbm, ⟨16, _⟩ => ⟨S8x5632, .f32⟩
  | .hbm, ⟨17, _⟩ => ⟨S8x5504, .f32⟩
  | .hbm, ⟨18, _⟩ => ⟨S_, .i32⟩
  | .hbm, ⟨19, _⟩ => ⟨S_, .f32⟩
  | .hbm, ⟨20, _⟩ => ⟨S8x5632, .f32⟩
  | .hbm, ⟨21, _⟩ => ⟨S1x8x5632, .f32⟩
  | .hbm, ⟨22, _⟩ => ⟨S1x8x5632, .f32⟩
  | .hbm, ⟨23, _⟩ => ⟨S2x8x5632, .f32⟩
  | .hbm, ⟨24, _⟩ => ⟨S2048x5504, .f32⟩
  | .hbm, ⟨25, _⟩ => ⟨S_, .i32⟩
  | .hbm, ⟨26, _⟩ => ⟨S_, .f32⟩
  | .hbm, ⟨27, _⟩ => ⟨S2048x5632, .f32⟩
  | .hbm, ⟨28, _⟩ => ⟨S2048x5504, .f32⟩
  | .hbm, ⟨29, _⟩ => ⟨S_, .i32⟩
  | .hbm, ⟨30, _⟩ => ⟨S_, .f32⟩
  | .hbm, ⟨31, _⟩ => ⟨S2048x5632, .f32⟩
  | .hbm, ⟨32, _⟩ => ⟨S1x2048x5632, .f32⟩
  | .hbm, ⟨33, _⟩ => ⟨S1x2048x5632, .f32⟩
  | .hbm, ⟨34, _⟩ => ⟨S2x2048x5632, .f32⟩
  | .hbm, ⟨35, _⟩ => ⟨S2x2048x5632, .bf16⟩
  | .hbm, ⟨36, _⟩ => ⟨S_, .i32⟩
  | .hbm, ⟨37, _⟩ => ⟨S_, .f32⟩
  | .hbm, ⟨38, _⟩ => ⟨S5632x2048, .f32⟩
  | .hbm, ⟨39, _⟩ => ⟨S5632x2048, .bf16⟩
  | .hbm, ⟨40, _⟩ => ⟨S1x2048, .f32⟩
  | .hbm, ⟨41, _⟩ => ⟨S1x2048, .f32⟩
  | .hbm, ⟨42, _⟩ => ⟨S16384x2048, .f32⟩
  | .hbm, ⟨43, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S512x2048, .f32⟩
  | .local _ .vmem, ⟨5, _⟩ => ⟨S512x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S2x8x512, .f32⟩
  | .local _ .vmem, ⟨11, _⟩ => ⟨S2x8x512, .f32⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .bf16⟩
  | .local _ .vmem, ⟨20, _⟩ => ⟨S512x2048, .f32⟩
  | .local _ .vmem, ⟨21, _⟩ => ⟨S528x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_call2_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_call3_v0 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_call4_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_call5_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v71 : BitVec 1 := Scalar.cmpi .eq arg1 c10_i32
  let v72 : BitVec 32 := Scalar.extui v71
  let c0_i32_28 : BitVec 32 := 0#32
  let v73 : BitVec 1 := Scalar.cmpi .ne v72 c0_i32_28
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnRefIdeal.lean ====
abbrev S16384x2048 : Shape := ⟨2, ![16384, 2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S2048 : Shape := ⟨1, ![2048]⟩
abbrev S16384x11008 : Shape := ⟨2, ![16384, 11008]⟩
abbrev S2x8192x11008 : Shape := ⟨3, ![2, 8192, 11008]⟩
abbrev S_ : Shape := ⟨0, ![]⟩
abbrev S2x8194x11008 : Shape := ⟨3, ![2, 8194, 11008]⟩
abbrev S1x11008 : Shape := ⟨2, ![1, 11008]⟩
abbrev S1x1x11008 : Shape := ⟨3, ![1, 1, 11008]⟩
abbrev S2x8192x5504 : Shape := ⟨3, ![2, 8192, 5504]⟩
abbrev S2x8192x2048 : Shape := ⟨3, ![2, 8192, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 85
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x11008, .f32⟩
  | .hbm, ⟨3, _⟩ => ⟨S3x11008, .f32⟩
  | .hbm, ⟨4, _⟩ => ⟨S11008, .f32⟩
  | .hbm, ⟨5, _⟩ => ⟨S5504x2048, .f32⟩
  | .hbm, ⟨6, _⟩ => ⟨S2048, .f32⟩
  | .hbm, ⟨7, _⟩ => ⟨S2048, .f32⟩
  | .hbm, ⟨8, _⟩ => ⟨S16384x2048, .f32⟩
  | .hbm, ⟨9, _⟩ => ⟨S16384x11008, .f32⟩
  | .hbm, ⟨10, _⟩ => ⟨S2x8192x11008, .f32⟩
  | .hbm, ⟨11, _⟩ => ⟨S_, .i32⟩
  | .hbm, ⟨12, _⟩ => ⟨S_, .f32⟩
  | .hbm, ⟨13, _⟩ => ⟨S2x8194x11008, .f32⟩
  | .hbm, ⟨14, _⟩ => ⟨S2x8192x11008, .f32⟩
  | .hbm, ⟨15, _⟩ => ⟨S1x11008, .f32⟩
  | .hbm, ⟨16, _⟩ => ⟨S11008, .f32⟩
  | .hbm, ⟨17, _⟩ => ⟨S1x1x11008, .f32⟩
  | .hbm, ⟨18, _⟩ => ⟨S2x8192x11008, .f32⟩
  | .hbm, ⟨19, _⟩ => ⟨S2x8192x11008, .f32⟩
  | .hbm, ⟨20, _⟩ => ⟨S1x1x11008, .f32⟩
  | .hbm, ⟨21, _⟩ => ⟨S2x8192x11008, .f32⟩
  | .hbm, ⟨22, _⟩ => ⟨S2x8192x11008, .f32⟩
  | .hbm, ⟨23, _⟩ => ⟨S2x8192x11008, .f32⟩
  | .hbm, ⟨24, _⟩ => ⟨S1x11008, .f32⟩
  | .hbm, ⟨25, _⟩ => ⟨S11008, .f32⟩
  | .hbm, ⟨26, _⟩ => ⟨S1x1x11008, .f32⟩
  | .hbm, ⟨27, _⟩ => ⟨S2x8192x11008, .f32⟩
  | .hbm, ⟨28, _⟩ => ⟨S2x8192x11008, .f32⟩
  | .hbm, ⟨29, _⟩ => ⟨S2x8192x11008, .f32⟩
  | .hbm, ⟨30, _⟩ => ⟨S2x8192x11008, .f32⟩
  | .hbm, ⟨31, _⟩ => ⟨S1x11008, .f32⟩
  | .hbm, ⟨32, _⟩ => ⟨S11008, .f32⟩
  | .hbm, ⟨33, _⟩ => ⟨S1x1x11008, .f32⟩
  | .hbm, ⟨34, _⟩ => ⟨S2x8192x11008, .f32⟩
  | .hbm, ⟨35, _⟩ => ⟨S2x8192x11008, .f32⟩
  | .hbm, ⟨36, _⟩ => ⟨S2x8192x11008, .f32⟩
  | .hbm, ⟨37, _⟩ => ⟨S2x8192x5504, .f32⟩
  | .hbm, ⟨38, _⟩ => ⟨S2x8192x5504, .f32⟩
  | .hbm, ⟨39, _⟩ => ⟨S2x8192x5504, .f32⟩
  | .hbm, ⟨40, _⟩ => ⟨S2x8192x5504, .f32⟩
  | .hbm, ⟨41, _⟩ => ⟨S_, .f32⟩
  | .hbm, ⟨42, _⟩ => ⟨S2x8192x5504, .f32⟩
  | .hbm, ⟨43, _⟩ => ⟨S2x8192x5504, .f32⟩
  | .hbm, ⟨44, _⟩ => ⟨S_, .f32⟩
  | .hbm, ⟨45, _⟩ => ⟨S2x8192x5504, .f32⟩
  | .hbm, ⟨46, _⟩ => ⟨S2x8192x5504, .f32⟩
  | .hbm, ⟨47, _⟩ => ⟨S2x8192x5504, .f32⟩
  | .hbm, ⟨48, _⟩ => ⟨S2x8192x5504, .f32⟩
  | .hbm, ⟨49, _⟩ => ⟨S2x8192x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x2048, .f32⟩
  | .hbm, ⟨71, _⟩ => ⟨S16384x2048, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x2048, .f32⟩
  | .hbm, ⟨77, _⟩ => ⟨S16384x2048, .f32⟩
  | .hbm, ⟨78, _⟩ => ⟨S1x2048, .f32⟩
  | .hbm, ⟨79, _⟩ => ⟨S16384x2048, .f32⟩
  | .hbm, ⟨80, _⟩ => ⟨S16384x2048, .f32⟩
  | .hbm, ⟨81, _⟩ => ⟨S1x2048, .f32⟩
  | .hbm, ⟨82, _⟩ => ⟨S16384x2048, .f32⟩
  | .hbm, ⟨83, _⟩ => ⟨S16384x2048, .f32⟩
  | .hbm, ⟨84, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_0 : Ref sig .tc := ⟨.hbm, 55, rfl⟩
abbrev main_v36 : Ref sig .tc := ⟨.hbm, 56, rfl⟩
abbrev main_v37 : Ref sig .tc := ⟨.hbm, 57, rfl⟩
abbrev main_cst_1 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_2 : Ref sig .tc := ⟨.hbm, 64, rfl⟩
abbrev main_v43 : Ref sig .tc := ⟨.hbm, 65, rfl⟩
abbrev main_v44 : Ref sig .tc := ⟨.hbm, 66, rfl⟩
abbrev main_cst_3 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Ple.lean ====
abbrev S16384x2048 : Shape := ⟨2, ![16384, 2048]⟩
abbrev S16384x256 : Shape := ⟨2, ![16384, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S16384x256, .f32⟩
  | .hbm, ⟨3, _⟩ => ⟨S2048x2048, .bf16⟩
  | .hbm, ⟨4, _⟩ => ⟨S256x2048, .bf16⟩
  | .hbm, ⟨5, _⟩ => ⟨S16384x2048, .f32⟩
  | .hbm, ⟨6, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x256, .f32⟩
  | .local _ .vmem, ⟨4, _⟩ => ⟨S512x256, .f32⟩
  | .local _ .vmem, ⟨5, _⟩ => ⟨S256x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S16384x2048 : Shape := ⟨2, ![16384, 2048]⟩
abbrev S16384x256 : Shape := ⟨2, ![16384, 256]⟩
abbrev S2048x2048 : Shape := ⟨2, ![2048, 2048]⟩
abbrev S256x2048 : Shape := ⟨2, ![256, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S16384x256, .f32⟩
  | .hbm, ⟨3, _⟩ => ⟨S2048x2048, .bf16⟩
  | .hbm, ⟨4, _⟩ => ⟨S256x2048, .bf16⟩
  | .hbm, ⟨5, _⟩ => ⟨S256x2048, .f32⟩
  | .hbm, ⟨6, _⟩ => ⟨S16384x2048, .f32⟩
  | .hbm, ⟨7, _⟩ => ⟨S16384x2048, .f32⟩
  | .hbm, ⟨8, _⟩ => ⟨S2048x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== RetProj.lean ====
abbrev S16384x2048 : Shape := ⟨2, ![16384, 2048]⟩
abbrev S2048x12288 : Shape := ⟨2, ![2048, 12288]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S16384x12288 : Shape := ⟨2, ![16384, 12288]⟩
abbrev S1024x2048 : Shape := ⟨2, ![1024, 2048]⟩
abbrev S2048x2048 : Shape := ⟨2, ![2048, 2048]⟩
abbrev S1024x128 : Shape := ⟨2, ![1024, 128]⟩

abbrev nBuf : Space → Nat
  | .hbm => 27
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048x12288, .bf16⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S8192, .f32⟩
  | .hbm, ⟨19, _⟩ => ⟨S8192x1, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S16384x12288, .bf16⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c1_i32 : BitVec 32 := 1#32
  let v6 : BitVec 1 := Scalar.cmpi .slt arg1 c1_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c1_i32_5 : BitVec 32 := 1#32
  let v9 : BitVec 1 := Scalar.cmpi .sge arg1 c1_i32_5
  let c2_i32 : BitVec 32 := 2#32
  let v10 : BitVec 1 := Scalar.cmpi .slt arg1 c2_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond4 (i : grid0.Coords) : BitVec 1 :=
  let arg1 : BitVec 32 := BitVec.ofNat 32 (i 1).val
  let c2_i32_7 : BitVec 32 := 2#32
  let v14 : BitVec 1 := Scalar.cmpi .sge arg1 c2_i32_7
  let c4_i32 : BitVec 32 := 4#32
  let v15 : BitVec 1 := Scalar.cmpi .slt arg1 c4_i32
  let v16 : BitVec 1 := Scalar.andi v14 v15
  let v17 : BitVec 32 := Scalar.extui v16
  let c0_i32_8 : BitVec 32 := 0#32
  let v18 : BitVec 1 := Scalar.cmpi .ne v17 c0_i32_8
  v18

def k0_cond5 (i : grid0.Coords) : BitVec 1 :=
  let arg1 : BitVec 32 := BitVec.ofNat 32 (i 1).val
  let c4_i32_9 : BitVec 32 := 4#32
  let v19 : BitVec 1 := Scalar.cmpi .sge arg1 c4_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RetProjRefIdeal.lean ====
abbrev S16384x2048 : Shape := ⟨2, ![16384, 2048]⟩
abbrev S2048x12288 : Shape := ⟨2, ![2048, 12288]⟩
abbrev S16384x12288 : Shape := ⟨2, ![16384, 12288]⟩
abbrev S2x8192x12288 : Shape := ⟨3, ![2, 8192, 12288]⟩
abbrev S2x8192x2048 : Shape := ⟨3, ![2, 8192, 2048]⟩
abbrev S2x8192x4096 : Shape := ⟨3, ![2, 8192, 4096]⟩
abbrev S2x8192x8x256 : Shape := ⟨4, ![2, 8192, 8, 256]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1x8192x1x128 : Shape := ⟨4, ![1, 8192, 1, 128]⟩
abbrev S2x8192x8x128 : Shape := ⟨4, ![2, 8192, 8, 128]⟩

abbrev nBuf : Space → Nat
  | .hbm => 108
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x12288, .bf16⟩
  | .hbm, ⟨2, _⟩ => ⟨S2048x12288, .f32⟩
  | .hbm, ⟨3, _⟩ => ⟨S16384x12288, .f32⟩
  | .hbm, ⟨4, _⟩ => ⟨S2x8192x12288, .f32⟩
  | .hbm, ⟨5, _⟩ => ⟨S2x8192x2048, .f32⟩
  | .hbm, ⟨6, _⟩ => ⟨S2x8192x2048, .f32⟩
  | .hbm, ⟨7, _⟩ => ⟨S2x8192x4096, .f32⟩
  | .hbm, ⟨8, _⟩ => ⟨S2x8192x4096, .f32⟩
  | .hbm, ⟨9, _⟩ => ⟨S2x8192x8x256, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S8192, .i32⟩
  | .hbm, ⟨27, _⟩ => ⟨S8192, .f32⟩
  | .hbm, ⟨28, _⟩ => ⟨S8192x1, .f32⟩
  | .hbm, ⟨29, _⟩ => ⟨S1x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S1x8192x1x128, .f32⟩
  | .hbm, ⟨35, _⟩ => ⟨S8192x128, .f32⟩
  | .hbm, ⟨36, _⟩ => ⟨S1x8192x1x128, .f32⟩
  | .hbm, ⟨37, _⟩ => ⟨S2x8192x8x128, .f32⟩
  | .hbm, ⟨38, _⟩ => ⟨S2x8192x8x128, .f32⟩
  | .hbm, ⟨39, _⟩ => ⟨S2x8192x8x128, .f32⟩
  | .hbm, ⟨40, _⟩ => ⟨S2x8192x8x128, .f32⟩
  | .hbm, ⟨41, _⟩ => ⟨S2x8192x8x128, .f32⟩
  | .hbm, ⟨42, _⟩ => ⟨S2x8192x8x128, .f32⟩
  | .hbm, ⟨43, _⟩ => ⟨S2x8192x8x128, .f32⟩
  | .hbm, ⟨44, _⟩ => ⟨S2x8192x8x128, .f32⟩
  | .hbm, ⟨45, _⟩ => ⟨S2x8192x8x128, .f32⟩
  | .hbm, ⟨46, _⟩ => ⟨S2x8192x8x128, .f32⟩
  | .hbm, ⟨47, _⟩ => ⟨S2x8192x8x128, .f32⟩
  | .hbm, ⟨48, _⟩ => ⟨S2x8192x8x128, .f32⟩
  | .hbm, ⟨49, _⟩ => ⟨S2x8192x8x256, .f32⟩
  | .hbm, ⟨50, _⟩ => ⟨S2x8192x2048, .f32⟩
  | .hbm, ⟨51, _⟩ => ⟨S2x8192x8x256, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S8192, .i32⟩
  | .hbm, ⟨69, _⟩ => ⟨S8192, .f32⟩
  | .hbm, ⟨70, _⟩ => ⟨S8192x1, .f32⟩
  | .hbm, ⟨71, _⟩ => ⟨S1x128, .f32⟩
  | .hbm, ⟨72, _⟩ => ⟨S8192x128, .f32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S1x8192x1x128, .f32⟩
  | .hbm, ⟨77, _⟩ => ⟨S8192x128, .f32⟩
  | .hbm, ⟨78, _⟩ => ⟨S1x8192x1x128, .f32⟩
  | .hbm, ⟨79, _⟩ => ⟨S2x8192x8x128, .f32⟩
  | .hbm, ⟨80, _⟩ => ⟨S2x8192x8x128, .f32⟩
  | .hbm, ⟨81, _⟩ => ⟨S2x8192x8x128, .f32⟩
  | .hbm, ⟨82, _⟩ => ⟨S2x8192x8x128, .f32⟩
  | .hbm, ⟨83, _⟩ => ⟨S2x8192x8x128, .f32⟩
  | .hbm, ⟨84, _⟩ => ⟨S2x8192x8x128, .f32⟩
  | .hbm, ⟨85, _⟩ => ⟨S2x8192x8x128, .f32⟩
  | .hbm, ⟨86, _⟩ => ⟨S2x8192x8x128, .f32⟩
  | .hbm, ⟨87, _⟩ => ⟨S2x8192x8x128, .f32⟩
  | .hbm, ⟨88, _⟩ => ⟨S2x8192x8x128, .f32⟩
  | .hbm, ⟨89, _⟩ => ⟨S2x8192x8x128, .f32⟩
  | .hbm, ⟨90, _⟩ => ⟨S2x8192x8x128, .f32⟩
  | .hbm, ⟨91, _⟩ => ⟨S2x8192x8x256, .f32⟩
  | .hbm, ⟨92, _⟩ => ⟨S_, .f32⟩
  | .hbm, ⟨93, _⟩ => ⟨S2x8192x8x256, .f32⟩
  | .hbm, ⟨94, _⟩ => ⟨S2x8192x8x256, .f32⟩
  | .hbm, ⟨95, _⟩ => ⟨S2x8192x2048, .f32⟩
  | .hbm, ⟨96, _⟩ => ⟨S2x8192x4096, .f32⟩
  | .hbm, ⟨97, _⟩ => ⟨S2x8192x4096, .f32⟩
  | .hbm, ⟨98, _⟩ => ⟨S_, .f32⟩
  | .hbm, ⟨99, _⟩ => ⟨S2x8192x4096, .f32⟩
  | .hbm, ⟨100, _⟩ => ⟨S2x8192x4096, .f32⟩
  | .hbm, ⟨101, _⟩ => ⟨S_, .f32⟩
  | .hbm, ⟨102, _⟩ => ⟨S2x8192x4096, .f32⟩
  | .hbm, ⟨103, _⟩ => ⟨S2x8192x4096, .f32⟩
  | .hbm, ⟨104, _⟩ => ⟨S2x8192x4096, .f32⟩
  | .hbm, ⟨105, _⟩ => ⟨S2x8192x12288, .f32⟩
  | .hbm, ⟨106, _⟩ => ⟨S16384x12288, .f32⟩
  | .hbm, ⟨107, _⟩ => ⟨S16384x12288, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_4 : Ref sig .tc := ⟨.hbm, 53, rfl⟩
abbrev main_v46 : Ref sig .tc := ⟨.hbm, 54, rfl⟩
abbrev main_v47 : Ref sig .tc := ⟨.hbm, 55, rfl⟩
abbrev main_cst_5 : Ref sig .tc := ⟨.hbm, 56, rfl⟩
abbrev main_v48 : Ref sig .tc := ⟨.hbm, 57, rfl⟩
abbrev main_v49 : Ref sig .tc := ⟨.hbm, 58, rfl⟩
abbrev main_cst_6 : Ref sig .tc := ⟨.hbm, 59, rfl⟩
abbrev main_v50 : Ref sig .tc := ⟨.hbm, 60, rfl⟩
abbrev main_v51 : Ref sig .tc := ⟨.hbm, 61, rfl⟩
abbrev main_cst_7 : Ref sig .tc := ⟨.hbm, 62, rfl⟩
abbrev main_v52 : Ref sig .tc := ⟨.hbm, 63, rfl⟩
abbrev main_v53 : Ref sig .tc := ⟨.hbm, 64, rfl⟩
abbrev main_cst_8 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_9 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_call0_v0 : Ref sig .tc := ⟨.hbm, 96, rfl⟩
abbrev main_call0_v1 : Ref sig .tc := ⟨.hbm, 97, rfl⟩
abbrev main_call0_cst : Ref sig .tc := ⟨.hbm, 98, rfl⟩
abbrev main_call0_v2 : Ref sig .tc := ⟨.hbm, 99, rfl⟩
abbrev main_call0_v3 : Ref sig .tc := ⟨.hbm, 100, rfl⟩
abbrev main_call0_cst_0 : Ref sig .tc := ⟨.hbm, 101, rfl⟩
abbrev main_call0_v4 : Ref sig .tc := ⟨.hbm, 102, rfl⟩
abbrev main_call0_v5 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩

abbrev nD : Nat := 1
abbrev τ : Topo := Topo.v7x

variable {F : FTy → Type} [FloatOps F]
-- ==== RetOut.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S1x2048 : Shape := ⟨2, ![1, 2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S256x4096, .bf16⟩
  | .local _ .vmem, ⟨1, _⟩ => ⟨S256x4096, .bf16⟩
  | .local _ .vmem, ⟨2, _⟩ => ⟨S4096x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RetOutRefIdeal.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x4096, .f32⟩
  | .hbm, ⟨6, _⟩ => ⟨S4096x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MixOut.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixOutRefIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S2048x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== RetProjB.lean ====
abbrev S16384x2048 : Shape := ⟨2, ![16384, 2048]⟩
abbrev S2048x12288 : Shape := ⟨2, ![2048, 12288]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S16384x12288 : Shape := ⟨2, ![16384, 12288]⟩
abbrev S1024x2048 : Shape := ⟨2, ![1024, 2048]⟩
abbrev S2048x2048 : Shape := ⟨2, ![2048, 2048]⟩
abbrev S1024x128 : Shape := ⟨2, ![1024, 128]⟩

abbrev nBuf : Space → Nat
  | .hbm => 27
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x12288, .bf16⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S8192, .f32⟩
  | .hbm, ⟨19, _⟩ => ⟨S8192x1, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S16384x12288, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x2048, .bf16⟩
  | .local _ .vmem, ⟨9, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c1_i32 : BitVec 32 := 1#32
  let v3 : BitVec 1 := Scalar.cmpi .slt arg1 c1_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c1_i32_3 : BitVec 32 := 1#32
  let v6 : BitVec 1 := Scalar.cmpi .sge arg1 c1_i32_3
  let c2_i32 : BitVec 32 := 2#32
  let v7 : BitVec 1 := Scalar.cmpi .slt arg1 c2_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond3 (i : grid0.Coords) : BitVec 1 :=
  let arg1 : BitVec 32 := BitVec.ofNat 32 (i 1).val
  let c2_i32_5 : BitVec 32 := 2#32
  let v11 : BitVec 1 := Scalar.cmpi .sge arg1 c2_i32_5
  let c4_i32 : BitVec 32 := 4#32
  let v12 : BitVec 1 := Scalar.cmpi .slt arg1 c4_i32
  let v13 : BitVec 1 := Scalar.andi v11 v12
  let v14 : BitVec 32 := Scalar.extui v13
  let c0_i32_6 : BitVec 32 := 0#32
  let v15 : BitVec 1 := Scalar.cmpi .ne v14 c0_i32_6
  v15

def k0_cond4 (i : grid0.Coords) : BitVec 1 :=
  let arg1 : BitVec 32 := BitVec.ofNat 32 (i 1).val
  let c4_i32_7 : BitVec 32 := 4#32
  let v16 : BitVec 1 := Scalar.cmpi .sge arg1 c4_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RetProjBRefIdeal.lean ====
abbrev S16384x2048 : Shape := ⟨2, ![16384, 2048]⟩
abbrev S2048x12288 : Shape := ⟨2, ![2048, 12288]⟩
abbrev S16384x12288 : Shape := ⟨2, ![16384, 12288]⟩
abbrev S2x8192x12288 : Shape := ⟨3, ![2, 8192, 12288]⟩
abbrev S2x8192x2048 : Shape := ⟨3, ![2, 8192, 2048]⟩
abbrev S2x8192x4096 : Shape := ⟨3, ![2, 8192, 4096]⟩
abbrev S2x8192x8x256 : Shape := ⟨4, ![2, 8192, 8, 256]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1x8192x1x128 : Shape := ⟨4, ![1, 8192, 1, 128]⟩
abbrev S2x8192x8x128 : Shape := ⟨4, ![2, 8192, 8, 128]⟩

abbrev nBuf : Space → Nat
  | .hbm => 109
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x12288, .bf16⟩
  | .hbm, ⟨2, _⟩ => ⟨S16384x2048, .f32⟩
  | .hbm, ⟨3, _⟩ => ⟨S2048x12288, .f32⟩
  | .hbm, ⟨4, _⟩ => ⟨S16384x12288, .f32⟩
  | .hbm, ⟨5, _⟩ => ⟨S2x8192x12288, .f32⟩
  | .hbm, ⟨6, _⟩ => ⟨S2x8192x2048, .f32⟩
  | .hbm, ⟨7, _⟩ => ⟨S2x8192x2048, .f32⟩
  | .hbm, ⟨8, _⟩ => ⟨S2x8192x4096, .f32⟩
  | .hbm, ⟨9, _⟩ => ⟨S2x8192x4096, .f32⟩
  | .hbm, ⟨10, _⟩ => ⟨S2x8192x8x256, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S8192, .i32⟩
  | .hbm, ⟨28, _⟩ => ⟨S8192, .f32⟩
  | .hbm, ⟨29, _⟩ => ⟨S8192x1, .f32⟩
  | .hbm, ⟨30, _⟩ => ⟨S1x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S1x8192x1x128, .f32⟩
  | .hbm, ⟨36, _⟩ => ⟨S8192x128, .f32⟩
  | .hbm, ⟨37, _⟩ => ⟨S1x8192x1x128, .f32⟩
  | .hbm, ⟨38, _⟩ => ⟨S2x8192x8x128, .f32⟩
  | .hbm, ⟨39, _⟩ => ⟨S2x8192x8x128, .f32⟩
  | .hbm, ⟨40, _⟩ => ⟨S2x8192x8x128, .f32⟩
  | .hbm, ⟨41, _⟩ => ⟨S2x8192x8x128, .f32⟩
  | .hbm, ⟨42, _⟩ => ⟨S2x8192x8x128, .f32⟩
  | .hbm, ⟨43, _⟩ => ⟨S2x8192x8x128, .f32⟩
  | .hbm, ⟨44, _⟩ => ⟨S2x8192x8x128, .f32⟩
  | .hbm, ⟨45, _⟩ => ⟨S2x8192x8x128, .f32⟩
  | .hbm, ⟨46, _⟩ => ⟨S2x8192x8x128, .f32⟩
  | .hbm, ⟨47, _⟩ => ⟨S2x8192x8x128, .f32⟩
  | .hbm, ⟨48, _⟩ => ⟨S2x8192x8x128, .f32⟩
  | .hbm, ⟨49, _⟩ => ⟨S2x8192x8x128, .f32⟩
  | .hbm, ⟨50, _⟩ => ⟨S2x8192x8x256, .f32⟩
  | .hbm, ⟨51, _⟩ => ⟨S2x8192x2048, .f32⟩
  | .hbm, ⟨52, _⟩ => ⟨S2x8192x8x256, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S8192, .i32⟩
  | .hbm, ⟨70, _⟩ => ⟨S8192, .f32⟩
  | .hbm, ⟨71, _⟩ => ⟨S8192x1, .f32⟩
  | .hbm, ⟨72, _⟩ => ⟨S1x128, .f32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S8192x128, .f32⟩
  | .hbm, ⟨77, _⟩ => ⟨S1x8192x1x128, .f32⟩
  | .hbm, ⟨78, _⟩ => ⟨S8192x128, .f32⟩
  | .hbm, ⟨79, _⟩ => ⟨S1x8192x1x128, .f32⟩
  | .hbm, ⟨80, _⟩ => ⟨S2x8192x8x128, .f32⟩
  | .hbm, ⟨81, _⟩ => ⟨S2x8192x8x128, .f32⟩
  | .hbm, ⟨82, _⟩ => ⟨S2x8192x8x128, .f32⟩
  | .hbm, ⟨83, _⟩ => ⟨S2x8192x8x128, .f32⟩
  | .hbm, ⟨84, _⟩ => ⟨S2x8192x8x128, .f32⟩
  | .hbm, ⟨85, _⟩ => ⟨S2x8192x8x128, .f32⟩
  | .hbm, ⟨86, _⟩ => ⟨S2x8192x8x128, .f32⟩
  | .hbm, ⟨87, _⟩ => ⟨S2x8192x8x128, .f32⟩
  | .hbm, ⟨88, _⟩ => ⟨S2x8192x8x128, .f32⟩
  | .hbm, ⟨89, _⟩ => ⟨S2x8192x8x128, .f32⟩
  | .hbm, ⟨90, _⟩ => ⟨S2x8192x8x128, .f32⟩
  | .hbm, ⟨91, _⟩ => ⟨S2x8192x8x128, .f32⟩
  | .hbm, ⟨92, _⟩ => ⟨S2x8192x8x256, .f32⟩
  | .hbm, ⟨93, _⟩ => ⟨S_, .f32⟩
  | .hbm, ⟨94, _⟩ => ⟨S2x8192x8x256, .f32⟩
  | .hbm, ⟨95, _⟩ => ⟨S2x8192x8x256, .f32⟩
  | .hbm, ⟨96, _⟩ => ⟨S2x8192x2048, .f32⟩
  | .hbm, ⟨97, _⟩ => ⟨S2x8192x4096, .f32⟩
  | .hbm, ⟨98, _⟩ => ⟨S2x8192x4096, .f32⟩
  | .hbm, ⟨99, _⟩ => ⟨S_, .f32⟩
  | .hbm, ⟨100, _⟩ => ⟨S2x8192x4096, .f32⟩
  | .hbm, ⟨101, _⟩ => ⟨S2x8192x4096, .f32⟩
  | .hbm, ⟨102, _⟩ => ⟨S_, .f32⟩
  | .hbm, ⟨103, _⟩ => ⟨S2x8192x4096, .f32⟩
  | .hbm, ⟨104, _⟩ => ⟨S2x8192x4096, .f32⟩
  | .hbm, ⟨105, _⟩ => ⟨S2x8192x4096, .f32⟩
  | .hbm, ⟨106, _⟩ => ⟨S2x8192x12288, .f32⟩
  | .hbm, ⟨107, _⟩ => ⟨S16384x12288, .f32⟩
  | .hbm, ⟨108, _⟩ => ⟨S16384x12288, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_4 : Ref sig .tc := ⟨.hbm, 54, rfl⟩
abbrev main_v47 : Ref sig .tc := ⟨.hbm, 55, rfl⟩
abbrev main_v48 : Ref sig .tc := ⟨.hbm, 56, rfl⟩
abbrev main_cst_5 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_cst_7 : Ref sig .tc := ⟨.hbm, 63, rfl⟩
abbrev main_v53 : Ref sig .tc := ⟨.hbm, 64, rfl⟩
abbrev main_v54 : Ref sig .tc := ⟨.hbm, 65, rfl⟩
abbrev main_cst_8 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_9 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_call0_v0 : Ref sig .tc := ⟨.hbm, 97, rfl⟩
abbrev main_call0_v1 : Ref sig .tc := ⟨.hbm, 98, rfl⟩
abbrev main_call0_cst : Ref sig .tc := ⟨.hbm, 99, rfl⟩
abbrev main_call0_v2 : Ref sig .tc := ⟨.hbm, 100, rfl⟩
abbrev main_call0_v3 : Ref sig .tc := ⟨.hbm, 101, rfl⟩
abbrev main_call0_cst_0 : Ref sig .tc := ⟨.hbm, 102, rfl⟩
abbrev main_call0_v4 : Ref sig .tc := ⟨.hbm, 103, rfl⟩
abbrev main_call0_v5 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]
-- ==== Qkv.lean ====
abbrev S16384x2048 : Shape := ⟨2, ![16384, 2048]⟩
abbrev S2048x2560 : Shape := ⟨2, ![2048, 2560]⟩
abbrev S16384x2560 : Shape := ⟨2, ![16384, 2560]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x2560, .bf16⟩
  | .hbm, ⟨2, _⟩ => ⟨S16384x2560, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefIdeal.lean ====
abbrev S16384x2048 : Shape := ⟨2, ![16384, 2048]⟩
abbrev S2048x2560 : Shape := ⟨2, ![2048, 2560]⟩
abbrev S16384x2560 : Shape := ⟨2, ![16384, 2560]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2560, .bf16⟩
  | .hbm, ⟨2, _⟩ => ⟨S16384x2048, .f32⟩
  | .hbm, ⟨3, _⟩ => ⟨S2048x2560, .f32⟩
  | .hbm, ⟨4, _⟩ => ⟨S16384x2560, .f32⟩
  | .hbm, ⟨5, _⟩ => ⟨S16384x2560, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Rkv.lean ====
abbrev S16384x2048 : Shape := ⟨2, ![16384, 2048]⟩
abbrev S6x2048 : Shape := ⟨2, ![6, 2048]⟩
abbrev S3x2048x2048 : Shape := ⟨3, ![3, 2048, 2048]⟩
abbrev S3 : Shape := ⟨1, ![3]⟩
abbrev S_ : Shape := ⟨0, ![]⟩
abbrev S3x1 : Shape := ⟨2, ![3, 1]⟩
abbrev S3x2048 : Shape := ⟨2, ![3, 2048]⟩
abbrev S3x1x2048 : Shape := ⟨3, ![3, 1, 2048]⟩
abbrev S3x16384x2048 : Shape := ⟨3, ![3, 16384, 2048]⟩
abbrev S512x2048 : Shape := ⟨2, ![512, 2048]⟩
abbrev S8x2048 : Shape := ⟨2, ![8, 2048]⟩
abbrev S1x1x2048 : Shape := ⟨3, ![1, 1, 2048]⟩
abbrev S1x2048x2048 : Shape := ⟨3, ![1, 2048, 2048]⟩
abbrev S1x512x2048 : Shape := ⟨3, ![1, 512, 2048]⟩
abbrev S1x2048 : Shape := ⟨2, ![1, 2048]⟩
abbrev S2048x2048 : Shape := ⟨2, ![2048, 2048]⟩

abbrev nBuf : Space → Nat
  | .hbm => 15
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S6x2048, .f32⟩
  | .hbm, ⟨2, _⟩ => ⟨S3x2048x2048, .bf16⟩
  | .hbm, ⟨3, _⟩ => ⟨S3, .i32⟩
  | .hbm, ⟨4, _⟩ => ⟨S_, .i32⟩
  | .hbm, ⟨5, _⟩ => ⟨S3, .i32⟩
  | .hbm, ⟨6, _⟩ => ⟨S3, .i1⟩
  | .hbm, ⟨7, _⟩ => ⟨S_, .i32⟩
  | .hbm, ⟨8, _⟩ => ⟨S3, .i32⟩
  | .hbm, ⟨9, _⟩ => ⟨S3, .i32⟩
  | .hbm, ⟨10, _⟩ => ⟨S3, .i32⟩
  | .hbm, ⟨11, _⟩ => ⟨S3x1, .i32⟩
  | .hbm, ⟨12, _⟩ => ⟨S3x2048, .f32⟩
  | .hbm, ⟨13, _⟩ => ⟨S3x1x2048, .f32⟩
  | .hbm, ⟨14, _⟩ => ⟨S3x16384x2048, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S8x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x2048, .bf16⟩
  | .local _ .vmem, ⟨7, _⟩ => ⟨S1x2048x2048, .bf16⟩
  | .local _ .vmem, ⟨8, _⟩ => ⟨S1x512x2048, .f32⟩
  | .local _ .vmem, ⟨9, _⟩ => ⟨S1x512x2048, .f32⟩
  | .local _ .vmem, ⟨10, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RkvRefIdeal.lean ====
abbrev S16384x2048 : Shape := ⟨2, ![16384, 2048]⟩
abbrev S6x2048 : Shape := ⟨2, ![6, 2048]⟩
abbrev S3x2048x2048 : Shape := ⟨3, ![3, 2048, 2048]⟩
abbrev S2x8192x2048 : Shape := ⟨3, ![2, 8192, 2048]⟩
abbrev S_ : Shape := ⟨0, ![]⟩
abbrev S2x8193x2048 : Shape := ⟨3, ![2, 8193, 2048]⟩
abbrev S1x2048 : Shape := ⟨2, ![1, 2048]⟩
abbrev S2048 : Shape := ⟨1, ![2048]⟩
abbrev S1x2048x2048 : Shape := ⟨3, ![1, 2048, 2048]⟩
abbrev S2048x2048 : Shape := ⟨2, ![2048, 2048]⟩
abbrev S1x16384x2048 : Shape := ⟨3, ![1, 16384, 2048]⟩
abbrev S3x16384x2048 : Shape := ⟨3, ![3, 16384, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S6x2048, .f32⟩
  | .hbm, ⟨2, _⟩ => ⟨S3x2048x2048, .bf16⟩
  | .hbm, ⟨3, _⟩ => ⟨S2x8192x2048, .f32⟩
  | .hbm, ⟨4, _⟩ => ⟨S_, .i32⟩
  | .hbm, ⟨5, _⟩ => ⟨S_, .f32⟩
  | .hbm, ⟨6, _⟩ => ⟨S2x8193x2048, .f32⟩
  | .hbm, ⟨7, _⟩ => ⟨S2x8192x2048, .f32⟩
  | .hbm, ⟨8, _⟩ => ⟨S2x8192x2048, .f32⟩
  | .hbm, ⟨9, _⟩ => ⟨S16384x2048, .f32⟩
  | .hbm, ⟨10, _⟩ => ⟨S3x2048x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S1x2048x2048, .f32⟩
  | .hbm, ⟨18, _⟩ => ⟨S2048x2048, .f32⟩
  | .hbm, ⟨19, _⟩ => ⟨S16384x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S1x2048x2048, .f32⟩
  | .hbm, ⟨27, _⟩ => ⟨S2048x2048, .f32⟩
  | .hbm, ⟨28, _⟩ => ⟨S16384x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S1x2048x2048, .f32⟩
  | .hbm, ⟨36, _⟩ => ⟨S2048x2048, .f32⟩
  | .hbm, ⟨37, _⟩ => ⟨S16384x2048, .f32⟩
  | .hbm, ⟨38, _⟩ => ⟨S1x16384x2048, .f32⟩
  | .hbm, ⟨39, _⟩ => ⟨S1x16384x2048, .f32⟩
  | .hbm, ⟨40, _⟩ => ⟨S1x16384x2048, .f32⟩
  | .hbm, ⟨41, _⟩ => ⟨S3x16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== Lora.lean ====
abbrev S16384x2048 : Shape := ⟨2, ![16384, 2048]⟩
abbrev S6x2048 : Shape := ⟨2, ![6, 2048]⟩
abbrev S2048 : Shape := ⟨1, ![2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S3 : Shape := ⟨1, ![3]⟩
abbrev S_ : Shape := ⟨0, ![]⟩
abbrev S3x1 : Shape := ⟨2, ![3, 1]⟩
abbrev S3x2048 : Shape := ⟨2, ![3, 2048]⟩
abbrev S1x2048 : Shape := ⟨2, ![1, 2048]⟩
abbrev S2048x128 : Shape := ⟨2, ![2048, 128]⟩
abbrev S128x2048 : Shape := ⟨2, ![128, 2048]⟩
abbrev S512x2048 : Shape := ⟨2, ![512, 2048]⟩
abbrev S8x2048 : Shape := ⟨2, ![8, 2048]⟩
abbrev S512x128 : Shape := ⟨2, ![512, 128]⟩
abbrev S512x256 : Shape := ⟨2, ![512, 256]⟩

abbrev nBuf : Space → Nat
  | .hbm => 43
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S6x2048, .f32⟩
  | .hbm, ⟨2, _⟩ => ⟨S2048, .f32⟩
  | .hbm, ⟨3, _⟩ => ⟨S2048x96, .f32⟩
  | .hbm, ⟨4, _⟩ => ⟨S96x2048, .f32⟩
  | .hbm, ⟨5, _⟩ => ⟨S2048, .f32⟩
  | .hbm, ⟨6, _⟩ => ⟨S2048x96, .f32⟩
  | .hbm, ⟨7, _⟩ => ⟨S96x2048, .f32⟩
  | .hbm, ⟨8, _⟩ => ⟨S2048x256, .f32⟩
  | .hbm, ⟨9, _⟩ => ⟨S256x2048, .f32⟩
  | .hbm, ⟨10, _⟩ => ⟨S3, .i32⟩
  | .hbm, ⟨11, _⟩ => ⟨S_, .i32⟩
  | .hbm, ⟨12, _⟩ => ⟨S3, .i32⟩
  | .hbm, ⟨13, _⟩ => ⟨S3, .i1⟩
  | .hbm, ⟨14, _⟩ => ⟨S_, .i32⟩
  | .hbm, ⟨15, _⟩ => ⟨S3, .i32⟩
  | .hbm, ⟨16, _⟩ => ⟨S3, .i32⟩
  | .hbm, ⟨17, _⟩ => ⟨S3, .i32⟩
  | .hbm, ⟨18, _⟩ => ⟨S3x1, .i32⟩
  | .hbm, ⟨19, _⟩ => ⟨S3x2048, .f32⟩
  | .hbm, ⟨20, _⟩ => ⟨S1x2048, .f32⟩
  | .hbm, ⟨21, _⟩ => ⟨S1x2048, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S2048x128, .bf16⟩
  | .hbm, ⟨26, _⟩ => ⟨S_, .i32⟩
  | .hbm, ⟨27, _⟩ => ⟨S_, .f32⟩
  | .hbm, ⟨28, _⟩ => ⟨S128x2048, .f32⟩
  | .hbm, ⟨29, _⟩ => ⟨S128x2048, .bf16⟩
  | .hbm, ⟨30, _⟩ => ⟨S_, .i32⟩
  | .hbm, ⟨31, _⟩ => ⟨S_, .f32⟩
  | .hbm, ⟨32, _⟩ => ⟨S2048x128, .f32⟩
  | .hbm, ⟨33, _⟩ => ⟨S2048x128, .bf16⟩
  | .hbm, ⟨34, _⟩ => ⟨S_, .i32⟩
  | .hbm, ⟨35, _⟩ => ⟨S_, .f32⟩
  | .hbm, ⟨36, _⟩ => ⟨S128x2048, .f32⟩
  | .hbm, ⟨37, _⟩ => ⟨S128x2048, .bf16⟩
  | .hbm, ⟨38, _⟩ => ⟨S2048x256, .bf16⟩
  | .hbm, ⟨39, _⟩ => ⟨S256x2048, .bf16⟩
  | .hbm, ⟨40, _⟩ => ⟨S16384x2048, .f32⟩
  | .hbm, ⟨41, _⟩ => ⟨S16384x2048, .f32⟩
  | .hbm, ⟨42, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S8x2048, .f32⟩
  | .local _ .vmem, ⟨4, _⟩ => ⟨S3x2048, .f32⟩
  | .local _ .vmem, ⟨5, _⟩ => ⟨S1x2048, .f32⟩
  | .local _ .vmem, ⟨6, _⟩ => ⟨S1x2048, .f32⟩
  | .local _ .vmem, ⟨7, _⟩ => ⟨S2048x128, .bf16⟩
  | .local _ .vmem, ⟨8, _⟩ => ⟨S128x2048, .bf16⟩
  | .local _ .vmem, ⟨9, _⟩ => ⟨S2048x128, .bf16⟩
  | .local _ .vmem, ⟨10, _⟩ => ⟨S128x2048, .bf16⟩
  | .local _ .vmem, ⟨11, _⟩ => ⟨S2048x256, .bf16⟩
  | .local _ .vmem, ⟨12, _⟩ => ⟨S256x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_call0_v0 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_call2_v0 : Ref sig .tc := ⟨.hbm, 31, rfl⟩
abbrev main_v13 : Ref sig .tc := ⟨.hbm, 32, rfl⟩
abbrev main_v14 : Ref sig .tc := ⟨.hbm, 33, rfl⟩
abbrev main_c_5 : Ref sig .tc := ⟨.hbm, 34, rfl⟩
abbrev main_call3_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19_0 : Ref sig .tc := ⟨.hbm, 40, rfl⟩
abbrev main_v19_1 : Ref sig .tc := ⟨.hbm, 41, rfl⟩
abbrev main_v19_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== LoraRefIdeal.lean ====
abbrev S16384x2048 : Shape := ⟨2, ![16384, 2048]⟩
abbrev S6x2048 : Shape := ⟨2, ![6, 2048]⟩
abbrev S2048 : Shape := ⟨1, ![2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S2x8192x2048 : Shape := ⟨3, ![2, 8192, 2048]⟩
abbrev S_ : Shape := ⟨0, ![]⟩
abbrev S2x8193x2048 : Shape := ⟨3, ![2, 8193, 2048]⟩
abbrev S1x2048 : Shape := ⟨2, ![1, 2048]⟩
abbrev S16384x96 : Shape := ⟨2, ![16384, 96]⟩
abbrev S16384x256 : Shape := ⟨2, ![16384, 256]⟩

abbrev nBuf : Space → Nat
  | .hbm => 85
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S6x2048, .f32⟩
  | .hbm, ⟨2, _⟩ => ⟨S2048, .f32⟩
  | .hbm, ⟨3, _⟩ => ⟨S2048x96, .f32⟩
  | .hbm, ⟨4, _⟩ => ⟨S96x2048, .f32⟩
  | .hbm, ⟨5, _⟩ => ⟨S2048, .f32⟩
  | .hbm, ⟨6, _⟩ => ⟨S2048x96, .f32⟩
  | .hbm, ⟨7, _⟩ => ⟨S96x2048, .f32⟩
  | .hbm, ⟨8, _⟩ => ⟨S2048x256, .f32⟩
  | .hbm, ⟨9, _⟩ => ⟨S256x2048, .f32⟩
  | .hbm, ⟨10, _⟩ => ⟨S2x8192x2048, .f32⟩
  | .hbm, ⟨11, _⟩ => ⟨S_, .i32⟩
  | .hbm, ⟨12, _⟩ => ⟨S_, .f32⟩
  | .hbm, ⟨13, _⟩ => ⟨S2x8193x2048, .f32⟩
  | .hbm, ⟨14, _⟩ => ⟨S2x8192x2048, .f32⟩
  | .hbm, ⟨15, _⟩ => ⟨S2x8192x2048, .f32⟩
  | .hbm, ⟨16, _⟩ => ⟨S16384x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x96, .f32⟩
  | .hbm, ⟨36, _⟩ => ⟨S16384x96, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .i1⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S_, .f32⟩
  | .hbm, ⟨59, _⟩ => ⟨S16384x2048, .f32⟩
  | .hbm, ⟨60, _⟩ => ⟨S16384x2048, .f32⟩
  | .hbm, ⟨61, _⟩ => ⟨S16384x96, .f32⟩
  | .hbm, ⟨62, _⟩ => ⟨S16384x2048, .f32⟩
  | .hbm, ⟨63, _⟩ => ⟨S1x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S_, .f32⟩
  | .hbm, ⟨69, _⟩ => ⟨S16384x2048, .f32⟩
  | .hbm, ⟨70, _⟩ => ⟨S16384x2048, .f32⟩
  | .hbm, ⟨71, _⟩ => ⟨S_, .f32⟩
  | .hbm, ⟨72, _⟩ => ⟨S16384x2048, .f32⟩
  | .hbm, ⟨73, _⟩ => ⟨S16384x2048, .f32⟩
  | .hbm, ⟨74, _⟩ => ⟨S16384x256, .f32⟩
  | .hbm, ⟨75, _⟩ => ⟨S16384x256, .f32⟩
  | .hbm, ⟨76, _⟩ => ⟨S16384x256, .f32⟩
  | .hbm, ⟨77, _⟩ => ⟨S_, .f32⟩
  | .hbm, ⟨78, _⟩ => ⟨S16384x256, .f32⟩
  | .hbm, ⟨79, _⟩ => ⟨S16384x256, .f32⟩
  | .hbm, ⟨80, _⟩ => ⟨S_, .f32⟩
  | .hbm, ⟨81, _⟩ => ⟨S16384x256, .f32⟩
  | .hbm, ⟨82, _⟩ => ⟨S16384x256, .f32⟩
  | .hbm, ⟨83, _⟩ => ⟨S16384x2048, .f32⟩
  | .hbm, ⟨84, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_0 : Ref sig .tc := ⟨.hbm, 68, rfl⟩
abbrev main_v42 : Ref sig .tc := ⟨.hbm, 69, rfl⟩
abbrev main_v43 : Ref sig .tc := ⟨.hbm, 70, rfl⟩
abbrev main_cst_1 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_2 : Ref sig .tc := ⟨.hbm, 77, rfl⟩
abbrev main_v49 : Ref sig .tc := ⟨.hbm, 78, rfl⟩
abbrev main_v50 : Ref sig .tc := ⟨.hbm, 79, rfl⟩
abbrev main_cst_3 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== Up.lean ====
abbrev S2048x11008 : Shape := ⟨2, ![2048, 11008]⟩
abbrev S1x2048x11008 : Shape := ⟨3, ![1, 2048, 11008]⟩
abbrev S2x2048x5632 : Shape := ⟨3, ![2, 2048, 5632]⟩
abbrev S1x128x11008 : Shape := ⟨3, ![1, 128, 11008]⟩
abbrev S2x128x5632 : Shape := ⟨3, ![2, 128, 5632]⟩
abbrev S1x128x5504 : Shape := ⟨3, ![1, 128, 5504]⟩
abbrev S128x5504 : Shape := ⟨2, ![128, 5504]⟩
abbrev S2x128x128 : Shape := ⟨3, ![2, 128, 128]⟩

abbrev nBuf : Space → Nat
  | .hbm => 3
  | .vmem => 4
  | .smem => 0
  | _ => 0

abbrev bufTy : (tb : Table) → Fin (tcTables nBuf tb) → BufTy
  | .hbm, ⟨0, _⟩ => ⟨S2048x11008, .f32⟩
  | .hbm, ⟨1, _⟩ => ⟨S1x2048x11008, .f32⟩
  | .hbm, ⟨2, _⟩ => ⟨S2x2048x5632, .bf16⟩
  | .local _ .vmem, ⟨0, _⟩ => ⟨S1x128x11008, .f32⟩
  | .local _ .vmem, ⟨1, _⟩ => ⟨S1x128x11008, .f32⟩
  | .local _ .vmem, ⟨2, _⟩ => ⟨S2x128x5632, .bf16⟩
  | .local _ .vmem, ⟨3, _⟩ => ⟨S2x128x5632, .bf16⟩
  | _, _ => ⟨S2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== UpRefIdeal.lean ====
abbrev S2048x11008 : Shape := ⟨2, ![2048, 11008]⟩
abbrev S2048x5504 : Shape := ⟨2, ![2048, 5504]⟩
abbrev S_ : Shape := ⟨0, ![]⟩
abbrev S2048x5632 : Shape := ⟨2, ![2048, 5632]⟩
abbrev S1x2048x5632 : Shape := ⟨3, ![1, 2048, 5632]⟩
abbrev S2x2048x5632 : Shape := ⟨3, ![2, 2048, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2048x11008, .f32⟩
  | .hbm, ⟨1, _⟩ => ⟨S2048x5504, .f32⟩
  | .hbm, ⟨2, _⟩ => ⟨S_, .i32⟩
  | .hbm, ⟨3, _⟩ => ⟨S_, .f32⟩
  | .hbm, ⟨4, _⟩ => ⟨S2048x5632, .f32⟩
  | .hbm, ⟨5, _⟩ => ⟨S2048x5504, .f32⟩
  | .hbm, ⟨6, _⟩ => ⟨S_, .i32⟩
  | .hbm, ⟨7, _⟩ => ⟨S_, .f32⟩
  | .hbm, ⟨8, _⟩ => ⟨S2048x5632, .f32⟩
  | .hbm, ⟨9, _⟩ => ⟨S1x2048x5632, .f32⟩
  | .hbm, ⟨10, _⟩ => ⟨S1x2048x5632, .f32⟩
  | .hbm, ⟨11, _⟩ => ⟨S2x2048x5632, .f32⟩
  | .hbm, ⟨12, _⟩ => ⟨S2x2048x5632, .bf16⟩
  | _, _ => ⟨S2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call1_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Cast.lean ====
abbrev S2x2048x12288 : Shape := ⟨3, ![2, 2048, 12288]⟩
abbrev S2048x12288 : Shape := ⟨2, ![2048, 12288]⟩
abbrev S1x128x12288 : Shape := ⟨3, ![1, 128, 12288]⟩
abbrev S128x12288 : Shape := ⟨2, ![128, 12288]⟩

abbrev nBuf : Space → Nat
  | .hbm => 2
  | .vmem => 4
  | .smem => 0
  | _ => 0

abbrev bufTy : (tb : Table) → Fin (tcTables nBuf tb) → BufTy
  | .hbm, ⟨0, _⟩ => ⟨S2x2048x12288, .f32⟩
  | .hbm, ⟨1, _⟩ => ⟨S2048x12288, .bf16⟩
  | .local _ .vmem, ⟨0, _⟩ => ⟨S1x128x12288, .f32⟩
  | .local _ .vmem, ⟨1, _⟩ => ⟨S1x128x12288, .f32⟩
  | .local _ .vmem, ⟨2, _⟩ => ⟨S128x12288, .bf16⟩
  | .local _ .vmem, ⟨3, _⟩ => ⟨S128x12288, .bf16⟩
  | _, _ => ⟨S2x2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x12288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastRefIdeal.lean ====
abbrev S2x2048x12288 : Shape := ⟨3, ![2, 2048, 12288]⟩
abbrev S1x2048x12288 : Shape := ⟨3, ![1, 2048, 12288]⟩
abbrev S2048x12288 : Shape := ⟨2, ![2048, 12288]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x12288, .f32⟩
  | .hbm, ⟨1, _⟩ => ⟨S1x2048x12288, .f32⟩
  | .hbm, ⟨2, _⟩ => ⟨S2048x12288, .f32⟩
  | .hbm, ⟨3, _⟩ => ⟨S2048x12288, .bf16⟩
  | _, _ => ⟨S2x2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== CastAll.lean ====
abbrev S3x2048x2048 : Shape := ⟨3, ![3, 2048, 2048]⟩
abbrev S1x1024x2048 : Shape := ⟨3, ![1, 1024, 2048]⟩
abbrev S1024x2048 : Shape := ⟨2, ![1024, 2048]⟩

abbrev nBuf : Space → Nat
  | .hbm => 2
  | .vmem => 4
  | .smem => 0
  | _ => 0

abbrev bufTy : (tb : Table) → Fin (tcTables nBuf tb) → BufTy
  | .hbm, ⟨0, _⟩ => ⟨S3x2048x2048, .f32⟩
  | .hbm, ⟨1, _⟩ => ⟨S3x2048x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .bf16⟩
  | .local _ .vmem, ⟨3, _⟩ => ⟨S1x1024x2048, .bf16⟩
  | _, _ => ⟨S3x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastAllRefIdeal.lean ====
abbrev S3x2048x2048 : Shape := ⟨3, ![3, 2048, 2048]⟩

abbrev nBuf : Space → Nat
  | .hbm => 2
  | .vmem => 0
  | .smem => 0
  | _ => 0

abbrev bufTy : (tb : Table) → Fin (tcTables nBuf tb) → BufTy
  | .hbm, ⟨0, _⟩ => ⟨S3x2048x2048, .f32⟩
  | .hbm, ⟨1, _⟩ => ⟨S3x2048x2048, .bf16⟩
  | _, _ => ⟨S3x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.RetMath.lean ====
/- The retention recurrence of one head as plain sums over the extended reals. The queries, keys, values and gates are
   the columns of one array `P` of rows and columns, both counted from zero. -/
module

public import Idealize.ShloMosaic.Lib.Pointwise

@[expose] public section

noncomputable section

namespace Cert.Retention

open Idealize.ShloMosaic

/-- A number as an element. -/
def num (n : ℕ) : EReal := FloatOps.sitofp (F := Ideal) .f32 (BitVec.ofNat 32 n)

/-- The logarithm of head `h`'s decay: of one less two to the power of minus five less `h`. -/
def logDecay (h : ℕ) : EReal :=
  Ideal.log (1 - Ideal.pow (Ideal.ofBits .f32 0x40000000#32) (Ideal.ofBits .f32 0xC0A00000#32 - num h))

/-- What the state before a chunk has decayed by at the chunk's row `i`. -/
def decayIn (h i : ℕ) : EReal := Ideal.exp (logDecay h * (num i + 1))

/-- What a chunk's row `j` decays by until the chunk's end. -/
def decayOut (h j : ℕ) : EReal := Ideal.exp (logDecay h * (Ideal.ofBits .f32 0x42FE0000#32 - num j))

/-- What the state decays by over a chunk. -/
def decayAll (h : ℕ) : EReal := Ideal.exp (logDecay h * Ideal.ofBits .f32 0x43000000#32)

/-- What row `j` of a chunk has decayed by at its row `i`, nothing of a later row. -/
def mask (h i j : ℕ) : EReal := if j ≤ i then Ideal.exp (logDecay h * max (num i - num j) 0) else 0

/-- The row of position `i` of chunk `n` of sequence `b`. -/
def pos (b n i : ℕ) : ℕ := 8192 * b + 128 * n + i

variable (P : ℕ → ℕ → EReal)

/-- Head `h`'s state before chunk `n` of sequence `b`, at key column `d` and value column `e`. -/
def state (b h : ℕ) : ℕ → ℕ → ℕ → EReal
  | 0, _, _ => 0
  | n + 1, d, e => state b h n d e * decayAll h
      + ∑ j : Fin 128, P (pos b n j) (2048 + 256 * h + d) * decayOut h j * P (pos b n j) (4096 + 512 * h + e)

/-- What the queries read: of their own chunk under the mask, and of the state before it. -/
def mixed (b h n i e : ℕ) : EReal :=
  (∑ j : Fin 128, (∑ d : Fin 256, P (pos b n i) (256 * h + d) * P (pos b n j) (2048 + 256 * h + d)) * mask h i j
      * P (pos b n j) (4096 + 512 * h + e))
    + (∑ d : Fin 256, P (pos b n i) (256 * h + d) * state P b h n d e) * decayIn h i

/-- The mean over a head's value columns. -/
def mean (f : ℕ → EReal) : EReal := Ideal.div (∑ e : Fin 512, f e) (Ideal.ofBits .f32 0x44000000#32)

/-- A head's row normed, at column `e`. -/
def normed (f : ℕ → EReal) (e : ℕ) : EReal :=
  (f e - mean f) * Ideal.rsqrt (mean (fun e => (f e - mean f) * (f e - mean f)) + Ideal.ofBits .f32 0x3727C5AC#32)

/-- The gated, normed read-out with gain `G`. -/
def out (G : ℕ → EReal) (b h n i e : ℕ) : EReal :=
  P (pos b n i) (8192 + 512 * h + e) * (normed (mixed P b h n i) e * G (512 * h + e))

end Cert.Retention

end
-- ==== Proof.RetTile.lean ====
/- The retention kernel's grid point, chunk by chunk. -/
module

public import proofs.«01_k».proof.Defs
public import proofs.«01_k».proof.Proof.Gen.RetIdeal.Value
public import Idealize.ShloMosaic.Lib.Pipeline.ValueKit
public import Idealize.ShloMosaic.Lib.Claim
public import proofs.«01_k».proof.Proof.RetMath
public import Idealize.ShloMosaic.Lib.DynamicIndex
public import Idealize.ShloMosaic.Lib.WordCmp
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetIdeal.Hand

open Cert.RetIdeal Cert.RetIdeal.Gen

theorem inb_narrow (n : ℕ) : ∀ a, (![128 * (n % 32), 0] : Fin 2 → ℕ) a + S128x256.size a ≤ S4096x256.size a := by
  intro a
  fin_cases a <;> (simp [Shape.size]; try omega)

theorem inb_wide (n : ℕ) : ∀ a, (![128 * (n % 32), 0] : Fin 2 → ℕ) a + S128x512.size a ≤ S4096x512.size a := by
  intro a
  fin_cases a <;> (simp [Shape.size]; try omega)

/-- Rows of chunk `n` of a tile of queries or keys. -/
def narrow (x : Vec Ideal S4096x256 .bf16) (n : ℕ) : Vec Ideal S128x256 .bf16 :=
  View.ld x (Rect.unit ![128 * (n % 32), 0] ![128, 256] (inb_narrow n))

/-- Rows of chunk `n` of a tile of values or gates. -/
def wide (x : Vec Ideal S4096x512 .bf16) (n : ℕ) : Vec Ideal S128x512 .bf16 :=
  View.ld x (Rect.unit ![128 * (n % 32), 0] ![128, 512] (inb_wide n))

/-- The state before chunk `n` of a tile, from the state `S` before the tile. -/
def chain (k : Vec Ideal S4096x256 .bf16) (v : Vec Ideal S4096x512 .bf16) (lg : Vec Ideal S1x1x512 .f32)
    (S : Vec Ideal S256x512 .f32) : ℕ → Vec Ideal S256x512 .f32
  | 0 => S
  | n + 1 => k0_pay110 (k0_pay6 lg) (k0_pay74 (k0_pay5 lg) (narrow k n) (wide v n)) (chain k v lg S n)

/-- What a tile leaves in the rows of its chunk `n`. -/
def chunk (q k : Vec Ideal S4096x256 .bf16) (v g : Vec Ideal S4096x512 .bf16) (lg : Vec Ideal S1x1x512 .f32)
    (gain : Vec Ideal S1x512 .f32) (S : Vec Ideal S256x512 .f32) (n : ℕ) : Vec Ideal S128x512 .bf16 :=
  k0_pay208 (k0_pay7 gain) (k0_pay40 (k0_pay8 (k0_pay3 lg) (narrow q n) (narrow k n)) (wide v n))
    (k0_pay176 (k0_pay4 lg) (k0_pay109 (chain k v lg S n)) (narrow q n)) (wide g n)

section Formulas

open Cert.Retention

variable (P : ℕ → ℕ → EReal) (G : ℕ → EReal) (b h s : ℕ)
  (q k : Vec Ideal S4096x256 .bf16) (v g : Vec Ideal S4096x512 .bf16) (lg : Vec Ideal S1x1x512 .f32)
  (gain : Vec Ideal S1x512 .f32) (S : Vec Ideal S256x512 .f32)

/-- A tile of 4096 rows of sequence `b` and head `h`: the columns of `P` its blocks hold, and the state before it. -/
structure Tile : Prop where
  q : ∀ (i : Fin 4096) (d : Fin 256), q (ix2 i d) = P (8192 * b + 4096 * s + i) (256 * h + d)
  k : ∀ (i : Fin 4096) (d : Fin 256), k (ix2 i d) = P (8192 * b + 4096 * s + i) (2048 + 256 * h + d)
  v : ∀ (i : Fin 4096) (e : Fin 512), v (ix2 i e) = P (8192 * b + 4096 * s + i) (4096 + 512 * h + e)
  g : ∀ (i : Fin 4096) (e : Fin 512), g (ix2 i e) = P (8192 * b + 4096 * s + i) (8192 + 512 * h + e)
  lg : ∀ e : Fin 512, lg (ix3 0 0 e) = logDecay h
  gain : ∀ e : Fin 512, gain (ix2 0 e) = G (512 * h + e)
  S : ∀ (d : Fin 256) (e : Fin 512), S (ix2 d e) = state P b h (32 * s) d e

variable {P G b h s q k v g lg gain S}

/-- A tile's row as a chunk's. -/
theorem row_eq {n : ℕ} (hn : n < 32) (i : ℕ) : 8192 * b + 4096 * s + (128 * (n % 32) + i) = pos b (32 * s + n) i := by
  unfold pos; omega

theorem narrow_apply (x : Vec Ideal S4096x256 .bf16) (n : ℕ) (i : Fin 128) (d : Fin 256) :
    narrow x n (ix2 i d) = x (ix2 ⟨128 * (n % 32) + i, by omega⟩ d) := by pointwise [narrow]

theorem wide_apply (x : Vec Ideal S4096x512 .bf16) (n : ℕ) (i : Fin 128) (d : Fin 512) :
    wide x n (ix2 i d) = x (ix2 ⟨128 * (n % 32) + i, by omega⟩ d) := by pointwise [wide]

theorem Tile.qn (T : Tile P G b h s q k v g lg gain S) {n : ℕ} (hn : n < 32) (i : Fin 128) (d : Fin 256) :
    narrow q n (ix2 i d) = P (pos b (32 * s + n) i) (256 * h + d) := by
  rw [narrow_apply, T.q, row_eq hn]

theorem Tile.kn (T : Tile P G b h s q k v g lg gain S) {n : ℕ} (hn : n < 32) (i : Fin 128) (d : Fin 256) :
    narrow k n (ix2 i d) = P (pos b (32 * s + n) i) (2048 + 256 * h + d) := by
  rw [narrow_apply, T.k, row_eq hn]

theorem Tile.vn (T : Tile P G b h s q k v g lg gain S) {n : ℕ} (hn : n < 32) (i : Fin 128) (e : Fin 512) :
    wide v n (ix2 i e) = P (pos b (32 * s + n) i) (4096 + 512 * h + e) := by
  rw [wide_apply, T.v, row_eq hn]

theorem Tile.gn (T : Tile P G b h s q k v g lg gain S) {n : ℕ} (hn : n < 32) (i : Fin 128) (e : Fin 512) :
    wide g n (ix2 i e) = P (pos b (32 * s + n) i) (8192 + 512 * h + e) := by
  rw [wide_apply, T.g, row_eq hn]

/-- The difference of two row numbers below 128 as a number. -/
theorem num_sub {i j : ℕ} (hi : i < 128) (hj : j < 128) (hij : j ≤ i) :
    (FloatOps.sitofp (F := Ideal) .f32 (IntOp.subi (BitVec.ofNat 32 i) (BitVec.ofNat 32 j)) : EReal) = num i - num j := by
  have e : IntOp.subi (BitVec.ofNat 32 i) (BitVec.ofNat 32 j) = BitVec.ofNat 32 (i - j) := by
    apply BitVec.eq_of_toNat_eq
    show (BitVec.ofNat 32 i - BitVec.ofNat 32 j).toNat = _
    simp only [BitVec.toNat_sub, BitVec.toNat_ofNat]; omega
  rw [e]
  have f : ∀ n : ℕ, n < 128 → (FloatOps.sitofp (F := Ideal) .f32 (BitVec.ofNat 32 n) : EReal) = ((n : ℝ) : EReal) := by
    intro n hn
    show (((BitVec.ofNat 32 n).toInt : ℝ) : EReal) = _
    rw [toInt_ofNat_of_lt (by omega)]; norm_cast
  unfold num
  rw [f _ (by omega), f _ hi, f _ hj, ← EReal.coe_sub, Nat.cast_sub hij]

theorem mask_apply (T : Tile P G b h s q k v g lg gain S) (i j : Fin 128) : k0_pay3 lg (ix2 i j) = mask h i j := by
  pointwise [k0_pay3, k0_pay2]
  rw [T.lg]
  simp (disch := word_cmp_side) only [hlo_ix]
  unfold mask
  by_cases hij : (j : ℕ) ≤ i
  · rw [if_pos hij, if_pos hij, num_sub i.isLt j.isLt hij]
  · rw [if_neg hij, if_neg hij]

theorem decayIn_apply (T : Tile P G b h s q k v g lg gain S) (i : Fin 128) (e : Fin 512) :
    k0_pay4 lg (ix2 i e) = decayIn h i := by
  pointwise [k0_pay4, k0_pay2]
  rw [T.lg]; rfl

theorem decayOut_apply (T : Tile P G b h s q k v g lg gain S) (j : Fin 128) (d : Fin 256) :
    k0_pay5 lg (ix2 j d) = decayOut h j := by
  pointwise [k0_pay5, k0_pay2]
  rw [T.lg]; rfl

theorem decayAll_apply (T : Tile P G b h s q k v g lg gain S) (e : Fin 512) :
    k0_pay6 lg (ix2 0 e) = decayAll h := by
  pointwise [k0_pay6, k0_pay2]
  rw [T.lg]; rfl

/-- One chunk's step of the state. -/
theorem step_apply (a : FVec Ideal S1x512 .f32) (kd : FVec Ideal S128x256 .f32) (k : Vec Ideal S128x256 .bf16) (v : Vec Ideal S128x512 .bf16)
    (S : Vec Ideal S256x512 .f32) (d : Fin 256) (e : Fin 512) :
    k0_pay110 a (k0_pay74 kd k v) S (ix2 d e)
      = S (ix2 d e) * a (ix2 0 e) + ∑ j : Fin 128, k (ix2 j d) * kd (ix2 j d) * v (ix2 j e) := by
  pointwise [k0_pay110, k0_pay74]

/-- The state before a tile's chunk `n`. -/
theorem Tile.chain (T : Tile P G b h s q k v g lg gain S) : ∀ (n : ℕ), n ≤ 32 → ∀ (d : Fin 256) (e : Fin 512),
    chain k v lg S n (ix2 d e) = state P b h (32 * s + n) d e
  | 0, _, d, e => T.S d e
  | n + 1, hn, d, e => by
    rw [Hand.chain, step_apply, T.chain n (by omega) d e, decayAll_apply T]
    simp only [T.kn (show n < 32 by omega), T.vn (show n < 32 by omega), decayOut_apply T]
    rfl

/-- What a tile leaves at row `i` of its chunk `n`. -/
theorem Tile.chunk (T : Tile P G b h s q k v g lg gain S) (n : ℕ) (hn : n < 32) (i : Fin 128) (e : Fin 512) :
    chunk q k v g lg gain S n (ix2 i e) = out P G b h (32 * s + n) i e := by
  have hi : ∀ (e : Fin 512), k0_pay40 (k0_pay8 (k0_pay3 lg) (narrow q n) (narrow k n)) (wide v n) (ix2 i e)
      + k0_pay176 (k0_pay4 lg) (k0_pay109 (Hand.chain k v lg S n)) (narrow q n) (ix2 i e) = mixed P b h (32 * s + n) i e := by
    intro e
    pointwise [k0_pay40, k0_pay8, k0_pay176, k0_pay109]
    simp only [T.qn hn, T.kn hn, T.vn hn, mask_apply T, decayIn_apply T, T.chain n hn.le]
    rfl
  unfold Hand.chunk
  generalize k0_pay40 (k0_pay8 (k0_pay3 lg) (narrow q n) (narrow k n)) (wide v n) = A at hi ⊢
  generalize k0_pay176 (k0_pay4 lg) (k0_pay109 (Hand.chain k v lg S n)) (narrow q n) = B at hi ⊢
  pointwise [k0_pay208, k0_pay7]
  simp only [hi, T.gn hn, T.gain]
  rfl

end Formulas

end Cert.RetIdeal.Hand

end
-- ==== Proof.RetPoint.lean ====
/- The retention kernel's grid points: what each leaves in its block of the result and in the carried state. -/
module

public import proofs.«01_k».proof.Proof.RetTile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetIdeal.Hand

open Cert.RetIdeal Cert.RetIdeal.Gen

section At

variable (q k : Vec Ideal S4096x256 .bf16) (v g : Vec Ideal S4096x512 .bf16) (lg : Vec Ideal S1x1x512 .f32)
  (gain : Vec Ideal S1x512 .f32) (S : Vec Ideal S256x512 .f32)

/-- What a tile leaves at index `y`. -/
def tile (y : S4096x512.Idx) : EReal :=
  chunk q k v g lg gain S ((y 0).val / 128) (ix2 ⟨(y 0).val % 128, Nat.mod_lt _ (by omega)⟩ (y 1))

/-- Index `y` of a tile as index `x` of its chunk `n`. -/
theorem tile_at (n : ℕ) (x : S128x512.Idx) (y : S4096x512.Idx) (h0 : (y 0).val = 128 * n + (x 0).val) (h1 : (y 1).val = (x 1).val) :
    chunk q k v g lg gain S n x = tile q k v g lg gain S y := by
  have hx : (x 0).val < 128 := (x 0).isLt
  unfold tile
  rw [show (y 0).val / 128 = n by omega]
  refine congrArg _ ?_
  funext a
  fin_cases a
  · exact Fin.ext (by show (x 0).val = (y 0).val % 128; omega)
  · exact Fin.ext h1.symm

end At

variable (m : (ℓ : Loc nD τ sig) → Buf (Elt Ideal) ℓ)

set_option maxHeartbeats 2000000 in
/-- A point's block of the result. -/
theorem outB (c : Dev nD) (t : Fin cfg0.N) (h : ¬ t.val % 2 = 0) (y) :
    (outsAt0 m c t.val t.isLt).1 y = tile (iblk m c 0 t) (iblk m c 1 t) (iblk m c 2 t) (iblk m c 3 t) (iblk m c 4 t) (iblk m c 5 t) (outsAt0 m c (t.val - 1) (Nat.lt_of_le_of_lt (Nat.sub_le _ _) t.isLt)).2 y := by
  rw [outsAt0_B m c t h]
  frame_out
  canon_tiles x h
  all_goals
    rw [read_unread_whole]
    generalize iblk m c 0 t = q
    generalize iblk m c 1 t = k
    generalize iblk m c 2 t = v
    generalize iblk m c 3 t = g
    generalize iblk m c 4 t = lg
    generalize iblk m c 5 t = gain
    generalize (outsAt0 m c (t.val - 1) (Nat.lt_of_le_of_lt (Nat.sub_le _ _) t.isLt)).2 = S
  · exact tile_at q k v g lg gain S 31 x y (by omega) h1
  · exact tile_at q k v g lg gain S 30 x y (by omega) h1
  · exact tile_at q k v g lg gain S 29 x y (by omega) h1
  · exact tile_at q k v g lg gain S 28 x y (by omega) h1
  · exact tile_at q k v g lg gain S 27 x y (by omega) h1
  · exact tile_at q k v g lg gain S 26 x y (by omega) h1
  · exact tile_at q k v g lg gain S 25 x y (by omega) h1
  · exact tile_at q k v g lg gain S 24 x y (by omega) h1
  · exact tile_at q k v g lg gain S 23 x y (by omega) h1
  · exact tile_at q k v g lg gain S 22 x y (by omega) h1
  · exact tile_at q k v g lg gain S 21 x y (by omega) h1
  · exact tile_at q k v g lg gain S 20 x y (by omega) h1
  · exact tile_at q k v g lg gain S 19 x y (by omega) h1
  · exact tile_at q k v g lg gain S 18 x y (by omega) h1
  · exact tile_at q k v g lg gain S 17 x y (by omega) h1
  · exact tile_at q k v g lg gain S 16 x y (by omega) h1
  · exact tile_at q k v g lg gain S 15 x y (by omega) h1
  · exact tile_at q k v g lg gain S 14 x y (by omega) h1
  · exact tile_at q k v g lg gain S 13 x y (by omega) h1
  · exact tile_at q k v g lg gain S 12 x y (by omega) h1
  · exact tile_at q k v g lg gain S 11 x y (by omega) h1
  · exact tile_at q k v g lg gain S 10 x y (by omega) h1
  · exact tile_at q k v g lg gain S 9 x y (by omega) h1
  · exact tile_at q k v g lg gain S 8 x y (by omega) h1
  · exact tile_at q k v g lg gain S 7 x y (by omega) h1
  · exact tile_at q k v g lg gain S 6 x y (by omega) h1
  · exact tile_at q k v g lg gain S 5 x y (by omega) h1
  · exact tile_at q k v g lg gain S 4 x y (by omega) h1
  · exact tile_at q k v g lg gain S 3 x y (by omega) h1
  · exact tile_at q k v g lg gain S 2 x y (by omega) h1
  · exact tile_at q k v g lg gain S 1 x y (by omega) h1
  · exact tile_at q k v g lg gain S 0 x y (by omega) h1

set_option maxHeartbeats 2000000 in
/-- The state a point leaves. -/
theorem stB (c : Dev nD) (t : Fin cfg0.N) (h : ¬ t.val % 2 = 0) (y) :
    (outsAt0 m c t.val t.isLt).2 y = chain (iblk m c 1 t) (iblk m c 2 t) (iblk m c 4 t) (outsAt0 m c (t.val - 1) (Nat.lt_of_le_of_lt (Nat.sub_le _ _) t.isLt)).2 32 y := by
  rw [outsAt0_B m c t h]
  dsimp only [sout0_B_0]
  frame_out
  rw [read_unread_whole]
  generalize iblk m c 1 t = k
  generalize iblk m c 2 t = v
  generalize iblk m c 4 t = lg
  generalize (outsAt0 m c (t.val - 1) (Nat.lt_of_le_of_lt (Nat.sub_le _ _) t.isLt)).2 = S
  refine Eq.trans (b := k0_pay175 (chain k v lg S 32) y) rfl ?_
  pointwise [k0_pay175]

set_option maxHeartbeats 2000000 in
/-- The state a point leaves, the first of its sequence and head. -/
theorem stA (c : Dev nD) (t : Fin cfg0.N) (h : t.val % 2 = 0) (y) :
    (outsAt0 m c t.val t.isLt).2 y = chain (iblk m c 1 t) (iblk m c 2 t) (iblk m c 4 t) (k0_pay1 (F := Ideal)) 32 y := by
  rw [outsAt0_A m c t h]
  dsimp only [sout0_A_0]
  frame_out
  generalize iblk m c 1 t = k
  generalize iblk m c 2 t = v
  generalize iblk m c 4 t = lg
  refine Eq.trans (b := k0_pay175 (chain k v lg (k0_pay1 (F := Ideal)) 32) y) rfl ?_
  pointwise [k0_pay175]

set_option maxHeartbeats 2000000 in
/-- A point's block of the result, the first of its sequence and head. -/
theorem outA (c : Dev nD) (t : Fin cfg0.N) (h : t.val % 2 = 0) (y) :
    (outsAt0 m c t.val t.isLt).1 y = tile (iblk m c 0 t) (iblk m c 1 t) (iblk m c 2 t) (iblk m c 3 t) (iblk m c 4 t) (iblk m c 5 t) (k0_pay1 (F := Ideal)) y := by
  rw [outsAt0_A m c t h]
  frame_out
  canon_tiles x h
  all_goals
    generalize iblk m c 0 t = q
    generalize iblk m c 1 t = k
    generalize iblk m c 2 t = v
    generalize iblk m c 3 t = g
    generalize iblk m c 4 t = lg
    generalize iblk m c 5 t = gain
  · exact tile_at q k v g lg gain (k0_pay1 (F := Ideal)) 31 x y (by omega) h1
  · exact tile_at q k v g lg gain (k0_pay1 (F := Ideal)) 30 x y (by omega) h1
  · exact tile_at q k v g lg gain (k0_pay1 (F := Ideal)) 29 x y (by omega) h1
  · exact tile_at q k v g lg gain (k0_pay1 (F := Ideal)) 28 x y (by omega) h1
  · exact tile_at q k v g lg gain (k0_pay1 (F := Ideal)) 27 x y (by omega) h1
  · exact tile_at q k v g lg gain (k0_pay1 (F := Ideal)) 26 x y (by omega) h1
  · exact tile_at q k v g lg gain (k0_pay1 (F := Ideal)) 25 x y (by omega) h1
  · exact tile_at q k v g lg gain (k0_pay1 (F := Ideal)) 24 x y (by omega) h1
  · exact tile_at q k v g lg gain (k0_pay1 (F := Ideal)) 23 x y (by omega) h1
  · exact tile_at q k v g lg gain (k0_pay1 (F := Ideal)) 22 x y (by omega) h1
  · exact tile_at q k v g lg gain (k0_pay1 (F := Ideal)) 21 x y (by omega) h1
  · exact tile_at q k v g lg gain (k0_pay1 (F := Ideal)) 20 x y (by omega) h1
  · exact tile_at q k v g lg gain (k0_pay1 (F := Ideal)) 19 x y (by omega) h1
  · exact tile_at q k v g lg gain (k0_pay1 (F := Ideal)) 18 x y (by omega) h1
  · exact tile_at q k v g lg gain (k0_pay1 (F := Ideal)) 17 x y (by omega) h1
  · exact tile_at q k v g lg gain (k0_pay1 (F := Ideal)) 16 x y (by omega) h1
  · exact tile_at q k v g lg gain (k0_pay1 (F := Ideal)) 15 x y (by omega) h1
  · exact tile_at q k v g lg gain (k0_pay1 (F := Ideal)) 14 x y (by omega) h1
  · exact tile_at q k v g lg gain (k0_pay1 (F := Ideal)) 13 x y (by omega) h1
  · exact tile_at q k v g lg gain (k0_pay1 (F := Ideal)) 12 x y (by omega) h1
  · exact tile_at q k v g lg gain (k0_pay1 (F := Ideal)) 11 x y (by omega) h1
  · exact tile_at q k v g lg gain (k0_pay1 (F := Ideal)) 10 x y (by omega) h1
  · exact tile_at q k v g lg gain (k0_pay1 (F := Ideal)) 9 x y (by omega) h1
  · exact tile_at q k v g lg gain (k0_pay1 (F := Ideal)) 8 x y (by omega) h1
  · exact tile_at q k v g lg gain (k0_pay1 (F := Ideal)) 7 x y (by omega) h1
  · exact tile_at q k v g lg gain (k0_pay1 (F := Ideal)) 6 x y (by omega) h1
  · exact tile_at q k v g lg gain (k0_pay1 (F := Ideal)) 5 x y (by omega) h1
  · exact tile_at q k v g lg gain (k0_pay1 (F := Ideal)) 4 x y (by omega) h1
  · exact tile_at q k v g lg gain (k0_pay1 (F := Ideal)) 3 x y (by omega) h1
  · exact tile_at q k v g lg gain (k0_pay1 (F := Ideal)) 2 x y (by omega) h1
  · exact tile_at q k v g lg gain (k0_pay1 (F := Ideal)) 1 x y (by omega) h1
  · exact tile_at q k v g lg gain (k0_pay1 (F := Ideal)) 0 x y (by omega) h1

end Cert.RetIdeal.Hand

end
-- ==== Proof.RetLoop.lean ====
/- The reference's loop over chunks as a sequence of states: what a trip reads and leaves. -/
module

public import proofs.«01_k».proof.Proof.Gen.RetRefIdeal.Run
public import proofs.«01_k».proof.Proof.Gen.RetRefIdeal.Step
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem Idealize.ShloMosaic.StableHlo

namespace Cert.RetRefIdeal.Hand

open Cert.RetRefIdeal Cert.RetRefIdeal.Gen Cert.RetRefIdeal.Value
open Cert.RetRefIdeal.Step (State step init b30 b36 R_main_v115 K_main_v16 K_main_v24 K_main_v27)

/-- Before trip `j` the loop's buffers hold the state `s`, the decays and the number `j`. -/
structure At (V0 : Valuation τ sig (Elt Ideal)) (s : State Ideal) (j : ℕ) : Prop where
  r : V0 (Proc.devRef .tc main_v42_7) = s.main_v42_7
  o : V0 (Proc.devRef .tc main_v42_8) = s.main_v42_8
  q : V0 (Proc.devRef .tc main_v42_0) = s.main_v42_0
  k : V0 (Proc.devRef .tc main_v42_1) = s.main_v42_1
  v : V0 (Proc.devRef .tc main_v42_2) = s.main_v42_2
  n : V0 (Proc.devRef .tc main_v42_6) = constantI S_ 32 (BitVec.ofNat 32 j)
  qd : V0 (Proc.devRef .tc main_v42_3) = K_main_v16 (F := Ideal)
  cd : V0 (Proc.devRef .tc main_v42_4) = K_main_v27 (F := Ideal)
  kd : V0 (Proc.devRef .tc main_v42_5) = K_main_v24 (F := Ideal)

variable {V0 : Valuation τ sig (Elt Ideal)} {s : State Ideal} {j : ℕ}

/-- A trip leaves the next decayed state. -/
theorem next_r (h : At V0 s j) : step_main_v42_7 V0 = (step j s).main_v42_7 := by
  unfold step_main_v42_7
  rw [h.r, h.cd, h.k, h.v, h.n, h.kd]
  rfl

/-- A trip writes its chunk's read-out. -/
theorem next_o (h : At V0 s j) : step_main_v42_8 V0 = (step j s).main_v42_8 := by
  unfold step_main_v42_8
  rw [h.r, h.o, h.q, h.n, h.qd]
  rfl

/-- A trip counts. -/
theorem next_n (h : At V0 s j) : step_main_v42_6 V0 = constantI S_ 32 (BitVec.ofNat 32 (j + 1)) := by
  unfold step_main_v42_6
  rw [h.n]
  funext i
  show BitVec.ofNat 32 j + 1#32 = BitVec.ofNat 32 (j + 1)
  simp only [BitVec.ofNat_add]

/-- After a trip the buffers hold the next state. -/
theorem next (h : At V0 s j) : At (STEP V0) (step j s) (j + 1) where
  r := (STEP_main_v42_7 V0).trans (next_r h)
  o := (STEP_main_v42_8 V0).trans (next_o h)
  q := (STEP_main_v42_0 V0).trans h.q
  k := (STEP_main_v42_1 V0).trans h.k
  v := (STEP_main_v42_2 V0).trans h.v
  n := (STEP_main_v42_6 V0).trans (next_n h)
  qd := (STEP_main_v42_3 V0).trans h.qd
  cd := (STEP_main_v42_4 V0).trans h.cd
  kd := (STEP_main_v42_5 V0).trans h.kd

variable (m : (ℓ : Loc nD τ sig) → Buf (Elt Ideal) ℓ) (c : Dev nD)

set_option maxRecDepth 65536 in
set_option maxHeartbeats 400000 in
/-- The loop starts from the zero state and the chunked arguments. -/
theorem start : At (entryContents preI m c) (init (m ((c.tc : Thread nD τ).loc main_arg0))) 0 := by
  constructor <;> (simp only [entryContents, afterL_cons, afterL_nil]; after_reads_simp) <;> rfl

/-- The state before trip `j`. -/
def states (x : FVec Ideal S16384x12288 .bf16) : ℕ → State Ideal
  | 0 => init x
  | n + 1 => step n (states x n)

/-- Before every trip the buffers hold that trip's state. -/
theorem at_trip : ∀ k, At (STEP^[k] (entryContents preI m c)) (states (m ((c.tc : Thread nD τ).loc main_arg0)) k) k
  | 0 => start m c
  | k + 1 => by
    rw [Function.iterate_succ_apply']
    exact next (at_trip k)

/-- What the operations after the loop leave, from the last state. -/
theorem result : out_main_v115 (STEP^[64] (entryContents preI m c))
    = R_main_v115 (states (m ((c.tc : Thread nD τ).loc main_arg0)) 64) (m ((c.tc : Thread nD τ).loc main_arg0)) (m ((c.tc : Thread nD τ).loc main_arg1)) := by
  unfold out_main_v115
  rw [(at_trip m c 64).o, iter_main_arg0 m c 64, iter_main_arg1 m c 64]
  rfl

end Cert.RetRefIdeal.Hand

end
-- ==== Proof.RetRead.lean ====
/- The reference of the retention recurrence, read at an index. -/
module

public import proofs.«01_k».proof.Proof.RetLoop
public import proofs.«01_k».proof.Proof.RetMath
public import Idealize.ShloMosaic.Lib.Pipeline.ValueKit
public import Idealize.ShloMosaic.Lib.DynamicIndex
public import Idealize.ShloMosaic.Lib.WordCmp

@[expose] public section

set_option maxRecDepth 16384

noncomputable section

open Idealize.ShloMosaic Idealize.ShloMosaic.TcCoe Idealize.SL.Sem Idealize.ShloMosaic.StableHlo

namespace Cert.RetRefIdeal.Hand

open Cert.RetRefIdeal Cert.RetRefIdeal.Gen
open Cert.RetRefIdeal.Step
open Cert.Retention (logDecay decayIn decayOut decayAll num mask pos state mixed normed mean)

/-- The array of queries, keys, values and gates by row and column number. -/
def cols (x : FVec Ideal S16384x12288 .bf16) (r c : ℕ) : EReal :=
  x (ix2 ⟨r % 16384, Nat.mod_lt _ (by omega)⟩ ⟨c % 12288, Nat.mod_lt _ (by omega)⟩)

/-- The gain by column number. -/
def gains (x : FVec Ideal S4096 .f32) (c : ℕ) : EReal := x (ix1 ⟨c % 4096, Nat.mod_lt _ (by omega)⟩)

theorem cols_eq (x : FVec Ideal S16384x12288 .bf16) {r c r' c' : ℕ} (hr : r < 16384) (hc : c < 12288) (er : r = r') (ec : c = c') :
    x (ix2 ⟨r, hr⟩ ⟨c, hc⟩) = cols x r' c' := by
  subst er ec
  unfold cols
  congr 2 <;> exact Fin.ext (Nat.mod_eq_of_lt (by assumption)).symm

theorem gains_eq (x : FVec Ideal S4096 .f32) {c c' : ℕ} (hc : c < 4096) (ec : c = c') : x (ix1 ⟨c, hc⟩) = gains x c' := by
  subst ec
  unfold gains
  congr 2
  exact Fin.ext (Nat.mod_eq_of_lt hc).symm

theorem logDecay_apply (h : Fin 8) : K_main_v7 (F := Ideal) (ix1 h) = logDecay h := by
  pointwise [K_main_v7, K_main_v6, K_main_v5, K_main_v4, K_main_v3, K_main_v2, K_main_v1, K_main_v0, K_main_cst, K_main_cst_0, K_main_cst_1]
  rfl

theorem decayIn_apply (i : Fin 128) (h : Fin 8) : K_main_v16 (F := Ideal) (ix2 i h) = decayIn h i := by
  pointwise [K_main_v16, K_main_v15, K_main_v14, K_main_v13, K_main_v12, K_main_v11, K_main_v10, K_main_v9, K_main_v8, K_main_cst_2]
  rw [logDecay_apply]; rfl

theorem decayOut_apply (i : Fin 128) (h : Fin 8) : K_main_v24 (F := Ideal) (ix2 i h) = decayOut h i := by
  pointwise [K_main_v24, K_main_v23, K_main_v22, K_main_v21, K_main_v20, K_main_v19, K_main_v18, K_main_v17, K_main_v8, K_main_cst_3]
  rw [logDecay_apply]; rfl

theorem decayAll_apply (h : Fin 8) : K_main_v27 (F := Ideal) (ix1 h) = decayAll h := by
  pointwise [K_main_v27, K_main_v26, K_main_v25, K_main_cst_4]
  rw [logDecay_apply]; rfl

variable (x : FVec Ideal S16384x12288 .bf16)

theorem q_apply (n : Fin 64) (b : Fin 2) (i : Fin 128) (h : Fin 8) (d : Fin 256) :
    A_main_v38 (F := Ideal) x (ix5 n b i h d) = cols x (pos b n i) (256 * h + d) := by
  pointwise [A_main_v38, A_main_v34, A_main_v30, A_main_v29, A_main_v28]
  exact cols_eq x _ _ (by unfold pos; omega) (by omega)

theorem k_apply (n : Fin 64) (b : Fin 2) (i : Fin 128) (h : Fin 8) (d : Fin 256) :
    A_main_v39 (F := Ideal) x (ix5 n b i h d) = cols x (pos b n i) (2048 + 256 * h + d) := by
  pointwise [A_main_v39, A_main_v35, A_main_v31, A_main_v29, A_main_v28]
  exact cols_eq x _ _ (by unfold pos; omega) (by omega)

theorem v_apply (n : Fin 64) (b : Fin 2) (i : Fin 128) (h : Fin 8) (e : Fin 512) :
    A_main_v40 (F := Ideal) x (ix5 n b i h e) = cols x (pos b n i) (4096 + 512 * h + e) := by
  pointwise [A_main_v40, A_main_v36, A_main_v32, A_main_v29, A_main_v28]
  exact cols_eq x _ _ (by unfold pos; omega) (by omega)

/-- The numbers a trip's slices start at, as words. -/
theorem starts (j : ℕ) (hj : j < 64) (a : Fin 5) :
    ((![(constantI S_ 32 (BitVec.ofNat 32 j)), (constantI S_ 32 0#32), (constantI S_ 32 0#32), (constantI S_ 32 0#32), (constantI S_ 32 0#32)]
      : Fin 5 → (⟨S_, .i32⟩ : BufTy).Contents (Elt Ideal)) a (Shape.Idx.first h_S_)).toInt = ((![j, 0, 0, 0, 0] : Fin 5 → ℕ) a : ℤ) := by
  fin_cases a
  · exact toInt_ofNat_of_lt (by omega)
  all_goals rfl

theorem fits256 (j : ℕ) (hj : j < 64) : S64x2x128x8x256.Slices ![j, 0, 0, 0, 0] S1x2x128x8x256 :=
  ⟨rfl, fun a => by fin_cases a <;> (simp [Shape.size]; try omega)⟩

theorem fits512 (j : ℕ) (hj : j < 64) : S64x2x128x8x512.Slices ![j, 0, 0, 0, 0] S1x2x128x8x512 :=
  ⟨rfl, fun a => by fin_cases a <;> (simp [Shape.size]; try omega)⟩

theorem b4_apply (j : ℕ) (hj : j < 64) (s : State Ideal) (b : Fin 2) (i : Fin 128) (h : Fin 8) (d : Fin 256) :
    b5 j s (ix4 b i h d) = s.main_v42_0 (ix5 ⟨j, hj⟩ b i h d) := by
  have e : b4 j s = extractStridedSlice S1x2x128x8x256 ![j, 0, 0, 0, 0] s.main_v42_0 (fits256 j hj) :=
    WordCmp.dynamicSlice_eq_extract _ _ _ _ _ _ (starts j hj)
  unfold b5; rw [e]
  pointwise []

theorem b10_apply (j : ℕ) (hj : j < 64) (s : State Ideal) (b : Fin 2) (i : Fin 128) (h : Fin 8) (d : Fin 256) :
    b11 j s (ix4 b i h d) = s.main_v42_1 (ix5 ⟨j, hj⟩ b i h d) := by
  have e : b10 j s = extractStridedSlice S1x2x128x8x256 ![j, 0, 0, 0, 0] s.main_v42_1 (fits256 j hj) :=
    WordCmp.dynamicSlice_eq_extract _ _ _ _ _ _ (starts j hj)
  unfold b11; rw [e]
  pointwise []

theorem b16_apply (j : ℕ) (hj : j < 64) (s : State Ideal) (b : Fin 2) (i : Fin 128) (h : Fin 8) (d : Fin 512) :
    b17 j s (ix4 b i h d) = s.main_v42_2 (ix5 ⟨j, hj⟩ b i h d) := by
  have e : b16 j s = extractStridedSlice S1x2x128x8x512 ![j, 0, 0, 0, 0] s.main_v42_2 (fits512 j hj) :=
    WordCmp.dynamicSlice_eq_extract _ _ _ _ _ _ (starts j hj)
  unfold b17; rw [e]
  pointwise []

/-- A trip's next state at an index. -/
theorem b30_apply (j : ℕ) (s : State Ideal) (b : Fin 2) (h : Fin 8) (d : Fin 256) (e : Fin 512) :
    b30 j s (ix4 b h d e) = s.main_v42_7 (ix4 b h d e) * decayAll h
      + ∑ i : Fin 128, b11 j s (ix4 b i h d) * decayOut h i * b17 j s (ix4 b i h e) := by
  pointwise [b30, b29, b28, b27, b26, b25, b24, b23]
  simp only [decayAll_apply, decayOut_apply]

/-- A trip's read-out at an index. -/
theorem b22_apply (j : ℕ) (s : State Ideal) (b : Fin 2) (i : Fin 128) (h : Fin 8) (e : Fin 512) :
    b22 j s (ix4 b i h e) = (∑ d : Fin 256, s.main_v42_7 (ix4 b h d e) * b5 j s (ix4 b i h d)) * decayIn h i := by
  pointwise [b22, b21, b20, b19, b18]
  simp only [decayIn_apply]

/-- What a trip leaves of the stacked read-outs at an index. -/
theorem b36_apply (j : ℕ) (hj : j < 64) (s : State Ideal) (n : Fin 64) (b : Fin 2) (i : Fin 128) (h : Fin 8) (e : Fin 512) :
    b36 j s (ix5 n b i h e) = if n.val = j then b22 j s (ix4 b i h e) else s.main_v42_8 (ix5 n b i h e) := by
  have e0 : b36 j s = updateSlice s.main_v42_8 (b31 j s) ![j, 0, 0, 0, 0] (fits512 j hj) :=
    WordCmp.dynamicUpdateSlice_eq_update _ _ _ _ _ _ (starts j hj)
  rw [e0]
  pointwise [b31]
  by_cases hn : n.val = j
  · rw [if_pos hn, dif_pos (by omega)]
  · rw [if_neg hn, dif_neg (by omega)]

/-- The arrays of chunks stay what they were. -/
theorem states_args : ∀ n, (states x n).main_v42_0 = A_main_v38 x ∧ (states x n).main_v42_1 = A_main_v39 x ∧ (states x n).main_v42_2 = A_main_v40 x
  | 0 => ⟨rfl, rfl, rfl⟩
  | n + 1 => states_args n

/-- The decayed state before trip `n`. -/
theorem states_r : ∀ n, n ≤ 64 → ∀ (b : Fin 2) (h : Fin 8) (d : Fin 256) (e : Fin 512),
    (states x n).main_v42_7 (ix4 b h d e) = state (cols x) b h n d e
  | 0, _, b, h, d, e => by
    show K_main_v37 (F := Ideal) (ix4 b h d e) = 0
    pointwise [K_main_v37, K_main_cst_5]
  | n + 1, hn, b, h, d, e => by
    show b30 n (states x n) (ix4 b h d e) = _
    obtain ⟨e0, e1, e2⟩ := states_args x n
    rw [b30_apply, states_r n (by omega) b h d e]
    simp only [b10_apply n (by omega), b16_apply n (by omega), e1, e2, k_apply, v_apply]
    rfl

/-- The read-outs stacked before trip `n`. -/
theorem states_o : ∀ n, n ≤ 64 → ∀ (k : Fin 64) (b : Fin 2) (i : Fin 128) (h : Fin 8) (e : Fin 512), k.val < n →
    (states x n).main_v42_8 (ix5 k b i h e)
      = (∑ d : Fin 256, cols x (pos b k i) (256 * h + d) * state (cols x) b h k d e) * decayIn h i
  | 0, _, k, b, i, h, e, hk => absurd hk (Nat.not_lt_zero _)
  | n + 1, hn, k, b, i, h, e, hk => by
    show b36 n (states x n) (ix5 k b i h e) = _
    rw [b36_apply n (by omega)]
    by_cases hkn : k.val = n
    · rw [if_pos hkn]
      subst hkn
      obtain ⟨e0, e1, e2⟩ := states_args x k.val
      rw [b22_apply]
      simp only [b4_apply k.val k.isLt, e0, q_apply, states_r x k.val (by omega)]
      congr 1
      exact Finset.sum_congr rfl fun d _ => mul_comm _ _
    · rw [if_neg hkn]
      exact states_o n (by omega) k b i h e (by omega)

/-- The scores of every chunk, with the decay between their rows, none to a later row. -/
def scores (x : FVec Ideal S16384x12288 .bf16) : FVec Ideal S2x64x8x128x128 .f32 :=
  mulf (Host.dotGeneral (φ₁ := .f32) (φ₂ := .f32) dot_S2x64x128x8x256_S2x64x128x8x256_S2x64x8x128x128_4_4_2_2_013_013 none (A_main_v34 (F := Ideal) x : FVec Ideal S2x64x128x8x256 .f32) (A_main_v35 (F := Ideal) x : FVec Ideal S2x64x128x8x256 .f32))
    (broadcastInDim S2x64x8x128x128 ![0, 1, 2, 3, 4] bcast_S1x1x8x128x128_S2x64x8x128x128_0_1_2_3_4
      (broadcastInDim S1x1x8x128x128 ![2, 3, 4] bcast_S8x128x128_S1x1x8x128x128_2_3_4
        (select (broadcastInDim S8x128x128 ![1, 2] bcast_S128x128_S8x128x128_1_2
            (cmpi .sge (broadcastInDim S128x128 ![0, 1] bcast_S128x1_S128x128_0_1 (broadcastInDim S128x1 ![0] bcast_S128_S128x1_0 (iotaInDim S128 32 0)))
              (broadcastInDim S128x128 ![0, 1] bcast_S1x128_S128x128_0_1 (broadcastInDim S1x128 ![1] bcast_S128_S1x128_1 (iotaInDim S128 32 0)))))
          (Host.exp (mulf (broadcastInDim S8x128x128 ![0, 1, 2] bcast_S8x1x1_S8x128x128_0_1_2 (broadcastInDim S8x1x1 ![0] bcast_S8_S8x1x1_0 (K_main_v7 (F := Ideal) : FVec Ideal S8 .f32)))
            (broadcastInDim S8x128x128 ![0, 1, 2] bcast_S1x128x128_S8x128x128_0_1_2 (broadcastInDim S1x128x128 ![1, 2] bcast_S128x128_S1x128x128_1_2
              (maximumf (subf (broadcastInDim S128x128 ![0, 1] bcast_S128x1_S128x128_0_1 (broadcastInDim S128x1 ![0] bcast_S128_S128x1_0 (K_main_v8 (F := Ideal) : FVec Ideal S128 .f32)))
                  (broadcastInDim S128x128 ![0, 1] bcast_S1x128_S128x128_0_1 (broadcastInDim S1x128 ![1] bcast_S128_S1x128_1 (K_main_v8 (F := Ideal) : FVec Ideal S128 .f32))))
                (broadcastInDim S128x128 ![] bcast_S_S128x128 (constant S_ .f32 0x00000000#32)))))))
          (broadcastInDim S8x128x128 ![] bcast_S_S8x128x128 (id (constant S_ .f32 0x00000000#32))))))

/-- What the queries read of their own chunks and, `o`, of the states before them. -/
def reads (x : FVec Ideal S16384x12288 .bf16) (o : FVec Ideal S64x2x128x8x512 .f32) : FVec Ideal S2x64x128x8x512 .f32 :=
  addf (transpose S2x64x128x8x512 [0, 1, 4, 2, 3]
      (Host.dotGeneral (φ₁ := .f32) (φ₂ := .f32) dot_S2x64x128x8x512_S2x64x8x128x128_S2x64x8x512x128_2_4_4_3_013_012 none (A_main_v36 (F := Ideal) x : FVec Ideal S2x64x128x8x512 .f32) (scores x))
      transposes_S2x64x8x512x128_S2x64x128x8x512_0_1_4_2_3)
    (transpose S2x64x128x8x512 [1, 0, 2, 3, 4] o transposes_S64x2x128x8x512_S2x64x128x8x512_1_0_2_3_4)

/-- A head's row less its mean. -/
def centred (y : FVec Ideal S2x8192x8x512 .f32) : FVec Ideal S2x8192x8x512 .f32 :=
  subf y (broadcastInDim S2x8192x8x512 ![0, 1, 2, 3] bcast_S2x8192x8x1_S2x8192x8x512_0_1_2_3
    (Host.divf (broadcastInDim S2x8192x8x1 ![0, 1, 2] bcast_S2x8192x8_S2x8192x8x1_0_1_2
        (Host.reduceAdd y (constant S_ .f32 0x00000000#32) reducesTo_S2x8192x8x512_S2x8192x8_d3 h_S_))
      (broadcastInDim S2x8192x8x1 ![] bcast_S_S2x8192x8x1 (constant S_ .f32 0x44000000#32))))

/-- The rows normed, with gain and gate. -/
def gated (x : FVec Ideal S16384x12288 .bf16) (gain : FVec Ideal S4096 .f32) (y : FVec Ideal S2x8192x8x512 .f32) : FVec Ideal S16384x4096 .bf16 :=
  truncf .bf16 (shapeCast _ (mulf (extractStridedSlice S2x8192x4096 ![0, 0, 8192] (A_main_v29 (F := Ideal) x : FVec Ideal S2x8192x12288 .f32) slices_S2x8192x12288_S2x8192x4096_0_0_8192)
    (shapeCast _ (mulf (mulf (centred y) (broadcastInDim S2x8192x8x512 ![0, 1, 2, 3] bcast_S2x8192x8x1_S2x8192x8x512_0_1_2_3
        (Host.rsqrt (addf (Host.divf (broadcastInDim S2x8192x8x1 ![0, 1, 2] bcast_S2x8192x8_S2x8192x8x1_0_1_2
              (Host.reduceAdd (mulf (centred y) (centred y)) (constant S_ .f32 0x00000000#32) reducesTo_S2x8192x8x512_S2x8192x8_d3 h_S_))
            (broadcastInDim S2x8192x8x1 ![] bcast_S_S2x8192x8x1 (constant S_ .f32 0x44000000#32)))
          (broadcastInDim S2x8192x8x1 ![] bcast_S_S2x8192x8x1 (constant S_ .f32 0x3727C5AC#32))))))
      (broadcastInDim S2x8192x8x512 ![0, 1, 2, 3] bcast_S1x1x8x512_S2x8192x8x512_0_1_2_3
        (broadcastInDim S1x1x8x512 ![2, 3] bcast_S8x512_S1x1x8x512_2_3 (shapeCast _ gain shapeCasts_S4096_S8x512))))
      shapeCasts_S2x8192x8x512_S2x8192x4096)) shapeCasts_S2x8192x4096_S16384x4096) bitsLt_bf16_f32

/-- The operations after the loop, in those parts. -/
theorem parts (s : State Ideal) (gain : FVec Ideal S4096 .f32) :
    R_main_v115 s x gain = gated x gain (shapeCast _ (reads x s.main_v42_8) shapeCasts_S2x64x128x8x512_S2x8192x8x512) := by
  rfl

theorem scores_apply (b : Fin 2) (n : Fin 64) (h : Fin 8) (i j : Fin 128) :
    scores x (ix5 b n h i j) = (∑ d : Fin 256, cols x (pos b n i) (256 * h + d) * cols x (pos b n j) (2048 + 256 * h + d)) * mask h i j := by
  have eq : ∀ (i : Fin 128) (d : Fin 256), A_main_v34 (F := Ideal) x (ix5 b n i h d) = cols x (pos b n i) (256 * h + d) := by
    intro i d
    pointwise [A_main_v34, A_main_v30, A_main_v29, A_main_v28]
    exact cols_eq x _ _ (by unfold pos; omega) (by omega)
  have ek : ∀ (i : Fin 128) (d : Fin 256), A_main_v35 (F := Ideal) x (ix5 b n i h d) = cols x (pos b n i) (2048 + 256 * h + d) := by
    intro i d
    pointwise [A_main_v35, A_main_v31, A_main_v29, A_main_v28]
    exact cols_eq x _ _ (by unfold pos; omega) (by omega)
  pointwise [scores, K_main_v8, id_eq]
  simp only [eq, ek, logDecay_apply]
  simp (disch := word_cmp_side) only [hlo_ix]
  unfold mask
  by_cases hij : j.val ≤ i.val
  · rw [if_pos hij, if_pos hij]; rfl
  · rw [if_neg hij, if_neg hij, mul_zero]

theorem reads_apply (o : FVec Ideal S64x2x128x8x512 .f32) (b : Fin 2) (n : Fin 64) (i : Fin 128) (h : Fin 8) (e : Fin 512)
    (ho : o (ix5 n b i h e) = (∑ d : Fin 256, cols x (pos b n i) (256 * h + d) * state (cols x) b h n d e) * decayIn h i) :
    reads x o (ix5 b n i h e) = mixed (cols x) b h n i e := by
  have ev : ∀ (i : Fin 128), A_main_v36 (F := Ideal) x (ix5 b n i h e) = cols x (pos b n i) (4096 + 512 * h + e) := by
    intro i
    pointwise [A_main_v36, A_main_v32, A_main_v29, A_main_v28]
    exact cols_eq x _ _ (by unfold pos; omega) (by omega)
  pointwise [reads]
  rw [ho]
  simp only [ev, scores_apply]
  unfold mixed
  congr 1
  exact Finset.sum_congr rfl fun j _ => mul_comm _ _

theorem gated_apply (gain : FVec Ideal S4096 .f32) (y : FVec Ideal S2x8192x8x512 .f32) (r : Fin 16384) (c : Fin 4096) (f : ℕ → EReal)
    (hf : ∀ (b : Fin 2) (p : Fin 8192) (h : Fin 8) (e : Fin 512), b.val = r.val / 8192 → p.val = r.val % 8192 → h.val = c.val / 512 → y (ix4 b p h e) = f e) :
    gated x gain y (ix2 r c) = cols x r (8192 + c) * (normed f (c.val % 512) * gains gain c) := by
  pointwise [gated, centred, A_main_v29, A_main_v28]
  have hy : ∀ e : Fin 512, y (ix4 ⟨r.val / 8192, by omega⟩ ⟨r.val % 8192, by omega⟩ ⟨c.val / 512, by omega⟩ e) = f e :=
    fun e => hf _ _ _ e rfl rfl rfl
  refine congrArg₂ (· * ·) (cols_eq x _ _ (by omega) rfl) (congrArg₂ (· * ·) ?_ (gains_eq gain c.isLt rfl))
  unfold normed mean
  simp only [hy]

/-- The reference's result at a row and column. -/
theorem result_apply (gain : FVec Ideal S4096 .f32) (r : Fin 16384) (c : Fin 4096) :
    R_main_v115 (states x 64) x gain (ix2 r c)
      = Cert.Retention.out (cols x) (gains gain) (r.val / 8192) (c.val / 512) (r.val % 8192 / 128) (r.val % 128) (c.val % 512) := by
  rw [parts, gated_apply x gain _ r c (mixed (cols x) (r.val / 8192) (c.val / 512) (r.val % 8192 / 128) (r.val % 128))]
  · unfold Cert.Retention.out
    rw [show pos (r.val / 8192) (r.val % 8192 / 128) (r.val % 128) = r.val by unfold pos; omega,
      show 512 * (c.val / 512) + c.val % 512 = c.val by omega, show 8192 + 512 * (c.val / 512) + c.val % 512 = 8192 + c.val by omega]
  · intro b p h e hb hp hh
    have e0 : (shapeCast S2x8192x8x512 (reads x (states x 64).main_v42_8) shapeCasts_S2x64x128x8x512_S2x8192x8x512) (ix4 b p h e)
        = reads x (states x 64).main_v42_8 (ix5 b ⟨p.val / 128, by omega⟩ ⟨p.val % 128, by omega⟩ h e) := by
      pointwise []
    rw [e0, reads_apply x _ _ _ _ _ _ (states_o x 64 le_rfl _ _ _ _ _ (by show p.val / 128 < 64; omega))]
    show mixed (cols x) b h (p.val / 128) (p.val % 128) e = _
    rw [hb, hh, hp, show r.val % 8192 % 128 = r.val % 128 by omega]

end Cert.RetRefIdeal.Hand

end
-- ==== Proof.Ret.lean ====
/- The retention recurrence: the kernel's result and the reference's are the same gated, normed read-out. -/
module

public import proofs.«01_k».proof.Proof.RetPoint
public import proofs.«01_k».proof.Proof.RetRead

@[expose] public section

set_option maxRecDepth 16384

noncomputable section

open Idealize.ShloMosaic Idealize.ShloMosaic.TcCoe Idealize.SL.Sem
open Idealize.ShloMosaic.Pipeline (Dat)

namespace Cert.RetIdeal.Hand

open Cert.RetIdeal Cert.RetIdeal.Gen

/-- The array of queries, keys, values and gates by row and column number. -/
def cols (x : FVec Ideal S16384x12288 .bf16) (r c : ℕ) : EReal :=
  x (ix2 ⟨r % 16384, Nat.mod_lt _ (by omega)⟩ ⟨c % 12288, Nat.mod_lt _ (by omega)⟩)

/-- The gain by column number. -/
def gains (x : FVec Ideal S4096 .f32) (c : ℕ) : EReal := x (ix1 ⟨c % 4096, Nat.mod_lt _ (by omega)⟩)

theorem cols_eq (x : FVec Ideal S16384x12288 .bf16) {r c : ℕ} (hr : r < 16384) (hc : c < 12288) :
    x (ix2 ⟨r, hr⟩ ⟨c, hc⟩) = cols x r c := by
  unfold cols
  congr 2 <;> exact Fin.ext (Nat.mod_eq_of_lt (by assumption)).symm

theorem gains_eq (x : FVec Ideal S4096 .f32) {c : ℕ} (hc : c < 4096) : x (ix1 ⟨c, hc⟩) = gains x c := by
  unfold gains
  congr 2
  exact Fin.ext (Nat.mod_eq_of_lt hc).symm

/-- The result: at each row and column, its sequence, chunk, position in the chunk, head and column of the head. -/
def out (x : FVec Ideal S16384x12288 .bf16) (gain : FVec Ideal S4096 .f32) : FVec Ideal S16384x4096 .bf16 := fun i =>
  Cert.Retention.out (cols x) (gains gain) ((i 0).val / 8192) ((i 1).val / 512) ((i 0).val % 8192 / 128) ((i 0).val % 128) ((i 1).val % 512)

variable (m : (ℓ : Loc nD τ sig) → Buf (Elt Ideal) ℓ)

/-- Where every window stands at grid point `t`. -/
theorem idx : ∀ t : Fin cfg0.N, win0_0.index t = ![2 * (t.val / 16) + t.val % 2, t.val % 16 / 2]
    ∧ win0_1.index t = ![2 * (t.val / 16) + t.val % 2, 8 + t.val % 16 / 2]
    ∧ win0_2.index t = ![2 * (t.val / 16) + t.val % 2, 8 + t.val % 16 / 2]
    ∧ win0_3.index t = ![2 * (t.val / 16) + t.val % 2, 16 + t.val % 16 / 2]
    ∧ win0_4.index t = ![t.val % 16 / 2, 0, 0]
    ∧ win0_5.index t = ![0, t.val % 16 / 2]
    ∧ win0_6.index t = ![2 * (t.val / 16) + t.val % 2, t.val % 16 / 2] :=
  (by decide +kernel : ∀ t : Fin grid0.N, _)

theorem lt_N (t : Fin cfg0.N) : t.val < 32 := lt_of_lt_of_eq t.isLt (show cfg0.N = 32 from N_0)

theorem q_apply (c : Dev nD) (t : Fin cfg0.N) (i : Fin 4096) (d : Fin 256) :
    iblk m c 0 t (ix2 i d) = cols (m ((c : Thread nD τ).loc main_arg0)) (8192 * (t.val / 16) + 4096 * (t.val % 2) + i) (256 * (t.val % 16 / 2) + d) := by
  have := lt_N t
  rw [← cols_eq _ (by omega) (by omega)]
  blk_point [iblk, V, idx t]

theorem k_apply (c : Dev nD) (t : Fin cfg0.N) (i : Fin 4096) (d : Fin 256) :
    iblk m c 1 t (ix2 i d) = cols (m ((c : Thread nD τ).loc main_arg0)) (8192 * (t.val / 16) + 4096 * (t.val % 2) + i) (2048 + 256 * (t.val % 16 / 2) + d) := by
  have := lt_N t
  rw [← cols_eq _ (by omega) (by omega)]
  blk_point [iblk, V, idx t]

theorem v_apply (c : Dev nD) (t : Fin cfg0.N) (i : Fin 4096) (d : Fin 512) :
    iblk m c 2 t (ix2 i d) = cols (m ((c : Thread nD τ).loc main_arg0)) (8192 * (t.val / 16) + 4096 * (t.val % 2) + i) (4096 + 512 * (t.val % 16 / 2) + d) := by
  have := lt_N t
  rw [← cols_eq _ (by omega) (by omega)]
  blk_point [iblk, V, idx t]

theorem g_apply (c : Dev nD) (t : Fin cfg0.N) (i : Fin 4096) (d : Fin 512) :
    iblk m c 3 t (ix2 i d) = cols (m ((c : Thread nD τ).loc main_arg0)) (8192 * (t.val / 16) + 4096 * (t.val % 2) + i) (8192 + 512 * (t.val % 16 / 2) + d) := by
  have := lt_N t
  rw [← cols_eq _ (by omega) (by omega)]
  blk_point [iblk, V, idx t]

theorem V_lg (c : Dev nD) (i : S8x1x512.Idx) : V m c main_v9 i = Cert.Retention.logDecay (i 0).val := by
  unfold V
  after_results
  unfold Cert.Retention.logDecay Cert.Retention.num
  pointwise []

theorem lg_apply (c : Dev nD) (t : Fin cfg0.N) (e : Fin 512) :
    iblk m c 4 t (ix3 0 0 e) = Cert.Retention.logDecay (t.val % 16 / 2) := by
  have := lt_N t
  have h0 : (((cfg0.win 4).blk t).view.emb (ix3 0 0 e) 0).val = t.val % 16 / 2 := by
    blk_simp [idx t] <;> rfl
  rw [← h0]
  exact V_lg m c _

theorem gain_apply (c : Dev nD) (t : Fin cfg0.N) (e : Fin 512) :
    iblk m c 5 t (ix2 0 e) = gains (m ((c : Thread nD τ).loc main_arg1)) (512 * (t.val % 16 / 2) + e) := by
  have := lt_N t
  rw [← gains_eq _ (by omega)]
  blk_point [iblk, V, idx t]

/-- The blocks of grid point `t`, over the state `S` before its tile. -/
theorem tile_of (c : Dev nD) (t : Fin cfg0.N) (S : Vec Ideal S256x512 .f32)
    (hS : ∀ (d : Fin 256) (e : Fin 512), S (ix2 d e)
      = Cert.Retention.state (cols (m ((c : Thread nD τ).loc main_arg0))) (t.val / 16) (t.val % 16 / 2) (32 * (t.val % 2)) d e) :
    Tile (cols (m ((c : Thread nD τ).loc main_arg0))) (gains (m ((c : Thread nD τ).loc main_arg1))) (t.val / 16) (t.val % 16 / 2) (t.val % 2)
      (iblk m c 0 t) (iblk m c 1 t) (iblk m c 2 t) (iblk m c 3 t) (iblk m c 4 t) (iblk m c 5 t) S where
  q := q_apply m c t
  k := k_apply m c t
  v := v_apply m c t
  g := g_apply m c t
  lg := lg_apply m c t
  gain := gain_apply m c t
  S := hS

/-- The state a first tile starts from is zero. -/
theorem zero_apply (d : Fin 256) (e : Fin 512) : k0_pay1 (F := Ideal) (ix2 d e) = 0 := by pointwise [k0_pay1]

/-- The state the first of a sequence and head's two points leaves. -/
theorem st_first (c : Dev nD) (t : Fin cfg0.N) (h : t.val % 2 = 0) (d : Fin 256) (e : Fin 512) :
    (outsAt0 m c t.val t.isLt).2 (ix2 d e)
      = Cert.Retention.state (cols (m ((c : Thread nD τ).loc main_arg0))) (t.val / 16) (t.val % 16 / 2) 32 d e := by
  rw [stA m c t h]
  have T := tile_of m c t (k0_pay1 (F := Ideal)) (fun d e => by rw [zero_apply, h]; rfl)
  rw [h] at T
  exact T.chain 32 le_rfl d e

/-- A tile's read-out. -/
theorem tile_eq {P : ℕ → ℕ → EReal} {G : ℕ → EReal} {b h s : ℕ} {q k : Vec Ideal S4096x256 .bf16} {v g : Vec Ideal S4096x512 .bf16}
    {lg : Vec Ideal S1x1x512 .f32} {gain : Vec Ideal S1x512 .f32} {S : Vec Ideal S256x512 .f32}
    (T : Tile P G b h s q k v g lg gain S) (y : S4096x512.Idx) :
    tile q k v g lg gain S y = Cert.Retention.out P G b h (32 * s + (y 0).val / 128) ((y 0).val % 128) (y 1).val := by
  have hy : (y 0).val < 4096 := (y 0).isLt
  exact T.chunk ((y 0).val / 128) (by omega) _ _

/-- What grid point `t` leaves in its block of the result. -/
theorem point (c : Dev nD) (t : Fin cfg0.N) (y : S4096x512.Idx) :
    (outsAt0 m c t.val t.isLt).1 y
      = Cert.Retention.out (cols (m ((c : Thread nD τ).loc main_arg0))) (gains (m ((c : Thread nD τ).loc main_arg1)))
          (t.val / 16) (t.val % 16 / 2) (32 * (t.val % 2) + (y 0).val / 128) ((y 0).val % 128) (y 1).val := by
  by_cases h : t.val % 2 = 0
  · rw [outA m c t h]
    exact tile_eq (tile_of m c t _ (fun d e => by rw [zero_apply, h]; rfl)) y
  · rw [outB m c t h]
    refine tile_eq (tile_of m c t _ (fun d e => ?_)) y
    have ht := lt_N t
    have e0 := st_first m c ⟨t.val - 1, Nat.lt_of_le_of_lt (Nat.sub_le _ _) t.isLt⟩ (by show (t.val - 1) % 2 = 0; omega) d e
    refine e0.trans ?_
    show Cert.Retention.state _ ((t.val - 1) / 16) ((t.val - 1) % 16 / 2) 32 d e = _
    rw [show (t.val - 1) / 16 = t.val / 16 by omega, show (t.val - 1) % 16 / 2 = t.val % 16 / 2 by omega,
      show 32 * (t.val % 2) = 32 by omega]

/-- The result array after the run. -/
theorem final (c : Dev nD) : (dats m 0 c).arrAt 6 (cfgs 0).N
    = out (m ((c : Thread nD τ).loc main_arg0)) (m ((c : Thread nD τ).loc main_arg1)) := by
  refine (dats m 0 c).arrAt_eq_of_covers 6 _ (by decide +kernel) fun t _ y => ?_
  blk_simp
  rw [after0_6]
  refine (point m c t y).trans ?_
  have ht := lt_N t
  have h0 : (((cfg0.win 6).blk t).view.emb y 0).val = 8192 * (t.val / 16) + 4096 * (t.val % 2) + (y 0).val := by
    blk_simp [idx t] <;> try omega
  have h1 : (((cfg0.win 6).blk t).view.emb y 1).val = 512 * (t.val % 16 / 2) + (y 1).val := by
    blk_simp [idx t] <;> try omega
  have hy0 : (y 0).val < 4096 := (y 0).isLt
  have hy1 : (y 1).val < 512 := (y 1).isLt
  show _ = Cert.Retention.out _ _ ((((cfg0.win 6).blk t).view.emb y 0).val / 8192) ((((cfg0.win 6).blk t).view.emb y 1).val / 512)
    ((((cfg0.win 6).blk t).view.emb y 0).val % 8192 / 128) ((((cfg0.win 6).blk t).view.emb y 0).val % 128) ((((cfg0.win 6).blk t).view.emb y 1).val % 512)
  rw [h0, h1]
  congr 1 <;> omega

end Cert.RetIdeal.Hand

/-- The kernel's result is the reference's, element by element, over the extended reals. -/
theorem Cert.RetIdeal.Hand.alg : Cert.algebraic_RetIdeal_RetRefIdeal
    (hRetIdeal := Cert.RetIdeal.Gen.facts) (hRetRefIdeal := Cert.RetRefIdeal.Gen.facts) := by
  intro m ρ m' ρ' _ hag
  refine ⟨fun c => Cert.RetIdeal.Hand.out (m (c.tc.loc Cert.RetIdeal.main_arg0)) (m (c.tc.loc Cert.RetIdeal.main_arg1)),
    (θ_run _ _ _).mono ?_ (Cert.RetIdeal.Value.run_blocks m ρ), (θ_run _ _ _).mono ?_ (Cert.RetRefIdeal.Value.run m' ρ')⟩
  · intro r h c
    obtain ⟨h6, hrest⟩ := h c
    exact ⟨h6.trans (Cert.RetIdeal.Hand.final m c), hrest⟩
  · intro r h c
    obtain ⟨h6, hrest⟩ := h c
    obtain ⟨a0, a1⟩ := hag c
    refine ⟨h6.trans ?_, hrest⟩
    rw [Cert.RetRefIdeal.Hand.result m' c, a0, a1]
    funext i
    have e := Cert.RetRefIdeal.Hand.result_apply (m (c.tc.loc Cert.RetIdeal.main_arg0)) (m (c.tc.loc Cert.RetIdeal.main_arg1)) (i 0) (i 1)
    have hi : i = ix2 (i 0) (i 1) := by funext a; fin_cases a <;> rfl
    rw [hi]
    exact e

end
-- ==== Proof.Norm.lean ====
/- A row's norm over the extended reals: the row less its mean, times the reciprocal root of its variance. -/
module

public import Idealize.ShloMosaic.Lib.Pointwise

@[expose] public section

noncomputable section

namespace Cert.Norm

open Idealize.ShloMosaic

/-- The mean of a row of 2048 elements. -/
def mean (h : Fin 2048 → EReal) : EReal := Ideal.div (∑ k : Fin 2048, h k) (Ideal.ofBits .f32 0x45000000#32)

/-- The norm of row `h` at column `q`, with that column's gain and bias. -/
def row (h : Fin 2048 → EReal) (q : Fin 2048) (gain bias : EReal) : EReal :=
  (h q - mean h) * Ideal.rsqrt (mean (fun k => (h k - mean h) * (h k - mean h)) + Ideal.ofBits .f32 0x3727C5AC#32)
    * gain + bias

end Cert.Norm

end
-- ==== Proof.FfnMath.lean ====
/- The convolutional feed-forward part as plain sums over the extended reals: the hidden columns of a row, the
   convolution over a row and the two rows before it in its sequence, the gate, and the projection back. -/
module

public import Idealize.ShloMosaic.Lib.Pointwise
public import proofs.«01_k».proof.Proof.Norm

@[expose] public section

noncomputable section

namespace Cert.Ffn

open Idealize.ShloMosaic

/-- The gated product of a gate and a value. -/
def act (g u : EReal) : EReal := g * Ideal.div 1 (1 + Ideal.exp (-g)) * u

variable (X W C : ℕ → ℕ → EReal) (cb : ℕ → EReal) (D : ℕ → ℕ → EReal)

/-- Hidden column `c` of row `r`. -/
def hid (r c : ℕ) : EReal := ∑ k : Fin 2048, X r k * W k c

/-- Hidden column `c` of the row `d` rows before `r` in its sequence, nothing before the sequence. -/
def past (d r c : ℕ) : EReal := if r % 8192 < d then 0 else hid X W (r - d) c

/-- The convolution at row `r` and column `c`. -/
def conv (r c : ℕ) : EReal := cb c + hid X W r c * C 2 c + past X W 1 r c * C 1 c + past X W 2 r c * C 0 c

/-- What gated column `c` of row `r` adds to column `q` of the projection. -/
def term (r q c : ℕ) : EReal := act (conv X W C cb r (5504 + c)) (conv X W C cb r c) * D c q

/-- The same, and nothing from a column past the last. -/
def padded (r q c : ℕ) : EReal := if c < 5504 then term X W C cb D r q c else 0

/-- The projection at row `r` and column `q`. -/
def ffn (r q : ℕ) : EReal := ∑ c : Fin 5504, term X W C cb D r q c

/-- The normed sum of the scaled residual `x` and the projection. -/
def out (x : ℕ → ℕ → EReal) (gain bias : ℕ → EReal) (r : ℕ) (q : Fin 2048) : EReal :=
  Cert.Norm.row (fun q => Ideal.ofBits .f32 0x3FD744FD#32 * x r q + ffn X W C cb D r q) q (gain q) (bias q)

/-- What the first `n` tiles of 512 columns add. -/
def partSum (r q n : ℕ) : EReal := ∑ c ∈ Finset.range (512 * n), padded X W C cb D r q c

theorem partSum_succ (r q n : ℕ) :
    partSum X W C cb D r q (n + 1) = partSum X W C cb D r q n + ∑ c : Fin 512, padded X W C cb D r q (512 * n + c) := by
  unfold partSum
  rw [Nat.mul_succ, Finset.sum_range_add, Finset.sum_range (fun c => padded X W C cb D r q (512 * n + c))]

/-- The eleven tiles add the whole projection: past the last column they add nothing. -/
theorem partSum_all (r q : ℕ) : partSum X W C cb D r q 11 = ffn X W C cb D r q := by
  unfold partSum ffn
  rw [show 512 * 11 = 5504 + 128 from rfl, Finset.sum_range_add,
    Finset.sum_eq_zero (s := Finset.range 128) (fun c _ => by unfold padded; rw [if_neg (by omega)]), add_zero,
    ← Finset.sum_range (fun c => term X W C cb D r q c)]
  exact Finset.sum_congr rfl fun c hc => by unfold padded; rw [if_pos (Finset.mem_range.mp hc)]

end Cert.Ffn

end
-- ==== Proof.FfnTile.lean ====
/- A grid point of the feed-forward kernel: what its row tile's gated columns add to the accumulator. -/
module

public import proofs.«01_k».proof.Defs
public import proofs.«01_k».proof.Proof.FfnMath
public import proofs.«01_k».proof.Proof.Gen.FfnIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.Ffn

/-- One point's accumulator from the one before it: the rows `xs`, the two halves `wu`, `wg` of the weights up, the
    taps and offset `cv` of each half, and the weights down `wd`. -/
def step (xs : Vec Ideal S528x2048 .bf16) (wu wg : Vec Ideal S1x2048x512 .bf16) (cv : Vec Ideal S2x8x512 .f32)
    (wd : Vec Ideal S512x2048 .bf16) (acc : Vec Ideal S512x2048 .f32) : FVec Ideal S512x2048 .f32 :=
  k0_pay1
    (k0_pay6 xs wu (View.ld cv (Rect.unit ![0, 0, 0] ![1, 8, 512] inb_S2x8x512_S1x8x512_0_0_0)))
    (k0_pay7 xs wg)
    (k0_pay8 (View.ld cv (Rect.unit ![1, 0, 0] ![1, 8, 512] inb_S2x8x512_S1x8x512_1_0_0)))
    (k0_pay9 (View.ld cv (Rect.unit ![1, 0, 0] ![1, 8, 512] inb_S2x8x512_S1x8x512_1_0_0)))
    acc wd

/-- The hidden columns of a tile's rows and the sixteen before them. -/
def hidden (xs : Vec Ideal S528x2048 .bf16) (w : Vec Ideal S1x2048x512 .bf16) (j : Fin 528) (c : Fin 512) : EReal :=
  ∑ k : Fin 2048, xs (ix2 j k) * w (ix3 0 k c)

/-- The convolution of half `a` over those. -/
def convolved (xs : Vec Ideal S528x2048 .bf16) (w : Vec Ideal S1x2048x512 .bf16) (cv : Vec Ideal S2x8x512 .f32) (a : Fin 2)
    (p : Fin 512) (c : Fin 512) : EReal :=
  cv (ix3 a 3 c) + hidden xs w ⟨16 + p, by omega⟩ c * cv (ix3 a 2 c) + hidden xs w ⟨15 + p, by omega⟩ c * cv (ix3 a 1 c)
    + hidden xs w ⟨14 + p, by omega⟩ c * cv (ix3 a 0 c)

theorem step_apply (xs : Vec Ideal S528x2048 .bf16) (wu wg : Vec Ideal S1x2048x512 .bf16) (cv : Vec Ideal S2x8x512 .f32)
    (wd : Vec Ideal S512x2048 .bf16) (acc : Vec Ideal S512x2048 .f32) (p : Fin 512) (q : Fin 2048) :
    step xs wu wg cv wd acc (ix2 p q) = acc (ix2 p q)
      + ∑ c : Fin 512, act (convolved xs wg cv 1 p c) (convolved xs wu cv 0 p c) * wd (ix2 c q) := by
  pointwise [step, k0_pay1, k0_pay6, k0_pay7, k0_pay8, k0_pay9, act, convolved, hidden]
  have e1 : (⟨(16 + p.val + 528 - 1) % 528, Nat.mod_lt _ (by omega)⟩ : Fin 528) = ⟨15 + p.val, by omega⟩ := Fin.ext (by show (16 + p.val + 528 - 1) % 528 = 15 + p.val; omega)
  have e2 : (⟨(16 + p.val + 528 - 2) % 528, Nat.mod_lt _ (by omega)⟩ : Fin 528) = ⟨14 + p.val, by omega⟩ := Fin.ext (by show (16 + p.val + 528 - 2) % 528 = 14 + p.val; omega)
  simp only [e1, e2, zero_sub]

/-- The blocks of the point at row tile `i` and column tile `f`. -/
structure Tile (X W C : ℕ → ℕ → EReal) (cb : ℕ → EReal) (D : ℕ → ℕ → EReal) (i f : ℕ) (xs : Vec Ideal S528x2048 .bf16)
    (wu wg : Vec Ideal S1x2048x512 .bf16) (cv : Vec Ideal S2x8x512 .f32) (wd : Vec Ideal S512x2048 .bf16) : Prop where
  xs : ∀ (j : Fin 528) (k : Fin 2048), xs (ix2 j k) = if i % 16 = 0 ∧ j.val < 16 then 0 else X (512 * i + j - 16) k
  wu : ∀ (k : Fin 2048) (c : Fin 512), 512 * f + c.val < 5504 → wu (ix3 0 k c) = W k (512 * f + c)
  wg : ∀ (k : Fin 2048) (c : Fin 512), 512 * f + c.val < 5504 → wg (ix3 0 k c) = W k (5504 + (512 * f + c))
  tapU : ∀ (j : Fin 3) (c : Fin 512), 512 * f + c.val < 5504 → cv (ix3 0 ⟨j.val, by omega⟩ c) = C j (512 * f + c)
  tapG : ∀ (j : Fin 3) (c : Fin 512), 512 * f + c.val < 5504 → cv (ix3 1 ⟨j.val, by omega⟩ c) = C j (5504 + (512 * f + c))
  offU : ∀ c : Fin 512, 512 * f + c.val < 5504 → cv (ix3 0 3 c) = cb (512 * f + c)
  offG : ∀ c : Fin 512, 512 * f + c.val < 5504 → cv (ix3 1 3 c) = cb (5504 + (512 * f + c))
  wd : ∀ (c : Fin 512) (q : Fin 2048), wd (ix2 c q) = if 512 * f + c.val < 5504 then D (512 * f + c) q else 0

variable {X W C : ℕ → ℕ → EReal} {cb : ℕ → EReal} {D : ℕ → ℕ → EReal} {i f : ℕ} {xs : Vec Ideal S528x2048 .bf16}
  {wu wg : Vec Ideal S1x2048x512 .bf16} {cv : Vec Ideal S2x8x512 .f32} {wd : Vec Ideal S512x2048 .bf16}

/-- A hidden column `d` rows before row `p` of the tile. -/
theorem hidden_apply (hxs : ∀ (j : Fin 528) (k : Fin 2048), xs (ix2 j k) = if i % 16 = 0 ∧ j.val < 16 then 0 else X (512 * i + j - 16) k)
    (w : Vec Ideal S1x2048x512 .bf16) (c' : ℕ) (c : Fin 512) (hw : ∀ k : Fin 2048, w (ix3 0 k c) = W k c')
    (d : ℕ) (hd : d ≤ 16) (p : Fin 512) (j : Fin 528) (hj : j.val + d = 16 + p.val) :
    hidden xs w j c = past X W d (512 * i + p) c' := by
  unfold hidden past hid
  have hp := p.isLt
  by_cases h : (512 * i + p.val) % 8192 < d
  · rw [if_pos h]
    refine Finset.sum_eq_zero fun k _ => ?_
    rw [hxs, if_pos (by omega), zero_mul]
  · rw [if_neg h]
    refine Finset.sum_congr rfl fun k _ => ?_
    rw [hxs, if_neg (by omega), hw, show 512 * i + j.val - 16 = 512 * i + p.val - d by omega]

theorem past_zero (r c : ℕ) : past X W 0 r c = hid X W r c := by
  unfold past
  rw [if_neg (Nat.not_lt_zero _), Nat.sub_zero]

theorem Tile.convU (T : Tile X W C cb D i f xs wu wg cv wd) (p c : Fin 512) (hc : 512 * f + c.val < 5504) :
    convolved xs wu cv 0 p c = conv X W C cb (512 * i + p) (512 * f + c) := by
  unfold convolved conv
  rw [T.offU c hc, hidden_apply T.xs wu (512 * f + c) c (fun k => T.wu k c hc) 0 (by omega) p ⟨16 + p, by omega⟩ rfl,
    hidden_apply T.xs wu (512 * f + c) c (fun k => T.wu k c hc) 1 (by omega) p ⟨15 + p, by omega⟩ (by show 15 + p.val + 1 = _; omega),
    hidden_apply T.xs wu (512 * f + c) c (fun k => T.wu k c hc) 2 (by omega) p ⟨14 + p, by omega⟩ (by show 14 + p.val + 2 = _; omega), past_zero]
  exact congrArg₂ _ (congrArg₂ _ (congrArg₂ _ rfl (congrArg₂ _ rfl (T.tapU 2 c hc))) (congrArg₂ _ rfl (T.tapU 1 c hc))) (congrArg₂ _ rfl (T.tapU 0 c hc))

theorem Tile.convG (T : Tile X W C cb D i f xs wu wg cv wd) (p c : Fin 512) (hc : 512 * f + c.val < 5504) :
    convolved xs wg cv 1 p c = conv X W C cb (512 * i + p) (5504 + (512 * f + c)) := by
  unfold convolved conv
  rw [T.offG c hc, hidden_apply T.xs wg (5504 + (512 * f + c)) c (fun k => T.wg k c hc) 0 (by omega) p ⟨16 + p, by omega⟩ rfl,
    hidden_apply T.xs wg (5504 + (512 * f + c)) c (fun k => T.wg k c hc) 1 (by omega) p ⟨15 + p, by omega⟩ (by show 15 + p.val + 1 = _; omega),
    hidden_apply T.xs wg (5504 + (512 * f + c)) c (fun k => T.wg k c hc) 2 (by omega) p ⟨14 + p, by omega⟩ (by show 14 + p.val + 2 = _; omega), past_zero]
  exact congrArg₂ _ (congrArg₂ _ (congrArg₂ _ rfl (congrArg₂ _ rfl (T.tapG 2 c hc))) (congrArg₂ _ rfl (T.tapG 1 c hc))) (congrArg₂ _ rfl (T.tapG 0 c hc))

/-- A point adds its tile of columns. -/
theorem Tile.step (T : Tile X W C cb D i f xs wu wg cv wd) (acc : Vec Ideal S512x2048 .f32) (p : Fin 512) (q : Fin 2048)
    (hacc : acc (ix2 p q) = partSum X W C cb D (512 * i + p) q f) :
    step xs wu wg cv wd acc (ix2 p q) = partSum X W C cb D (512 * i + p) q (f + 1) := by
  rw [step_apply, partSum_succ, hacc]
  refine congrArg₂ _ rfl (Finset.sum_congr rfl fun c _ => ?_)
  unfold padded term
  rw [T.wd]
  by_cases hc : 512 * f + c.val < 5504
  · rw [if_pos hc, if_pos hc, T.convU p c hc, T.convG p c hc]
  · rw [if_neg hc, if_neg hc, mul_zero]

end Cert.FfnIdeal.Hand

end
-- ==== Proof.Words.lean ====
/- Words the kernels compute from a grid point, and what they say. -/
module

public import Idealize.ShloMosaic.Lib.Pointwise
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Words

/-- The word of the integer zero, as a number. -/
theorem zero_word : FloatOps.sitofp (F := Ideal) .f32 0#32 = (0 : EReal) := by
  show ((((0#32 : BitVec 32).toInt : ℝ)) : EReal) = 0
  simp

/-- The kernel's question whether a tile of rows is its sequence's first. -/
theorem first_tile : ∀ n : Fin 32, Scalar.cmpi .eq (Scalar.select (Scalar.andi (Scalar.xori (Scalar.cmpi .slt (Scalar.remsi (BitVec.ofNat 32 n.val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 n.val) (Scalar.select (Scalar.cmpi .eq 16#32 0#32) 1#32 16#32)) 0#32)) (Scalar.addi (Scalar.remsi (BitVec.ofNat 32 n.val) (Scalar.select (Scalar.cmpi .eq 16#32 0#32) 1#32 16#32)) (Scalar.select (Scalar.cmpi .eq 16#32 0#32) 1#32 16#32)) (Scalar.remsi (BitVec.ofNat 32 n.val) (Scalar.select (Scalar.cmpi .eq 16#32 0#32) 1#32 16#32))) 0#32 = if n.val % 16 = 0 then 1#1 else 0#1 := by
  decide +kernel

/-- A choice by a one-bit word that says whether `P` holds. -/
theorem choose {P : Prop} [Decidable P] {b : BitVec 1} (h : b = if P then 1#1 else 0#1) {a c : EReal} :
    Scalar.select b a c = if P then a else c := by
  subst h
  by_cases hp : P
  · rw [if_pos hp, if_pos hp]; rfl
  · rw [if_neg hp, if_neg hp]; rfl

end Cert.Words

end
-- ==== Proof.FfnWin.lean ====
/- What the feed-forward kernel's windows hold: blocks of the rows, and of the weights, taps and offsets padded with zeros. -/
module

public import proofs.«01_k».proof.Proof.FfnTile
public import proofs.«01_k».proof.Proof.Words
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.Ffn
open Cert.Words (zero_word)

variable (m : (ℓ : Loc nD τ sig) → Buf (Elt Ideal) ℓ)

/-- The arguments by row and column number, zero outside: rows, weights up, taps, offsets, weights down, and a row. -/
def rowsOf (x : FVec Ideal S16384x2048 .bf16) (r c : ℕ) : EReal := if h : r < 16384 ∧ c < 2048 then x (ix2 ⟨r, h.1⟩ ⟨c, h.2⟩) else 0
def resOf (x : FVec Ideal S16384x2048 .f32) (r c : ℕ) : EReal := if h : r < 16384 ∧ c < 2048 then x (ix2 ⟨r, h.1⟩ ⟨c, h.2⟩) else 0
def upOf (x : FVec Ideal S2048x11008 .f32) (r c : ℕ) : EReal := if h : r < 2048 ∧ c < 11008 then x (ix2 ⟨r, h.1⟩ ⟨c, h.2⟩) else 0
def tapOf (x : FVec Ideal S3x11008 .f32) (r c : ℕ) : EReal := if h : r < 3 ∧ c < 11008 then x (ix2 ⟨r, h.1⟩ ⟨c, h.2⟩) else 0
def offOf (x : FVec Ideal S11008 .f32) (c : ℕ) : EReal := if h : c < 11008 then x (ix1 ⟨c, h⟩) else 0
def downOf (x : FVec Ideal S5504x2048 .f32) (r c : ℕ) : EReal := if h : r < 5504 ∧ c < 2048 then x (ix2 ⟨r, h.1⟩ ⟨c, h.2⟩) else 0
def rowOf (x : FVec Ideal S2048 .f32) (c : ℕ) : EReal := if h : c < 2048 then x (ix1 ⟨c, h⟩) else 0

theorem rowsOf_eq (x : FVec Ideal S16384x2048 .bf16) {r c : ℕ} (hr : r < 16384) (hc : c < 2048) : rowsOf x r c = x (ix2 ⟨r, hr⟩ ⟨c, hc⟩) := dif_pos ⟨hr, hc⟩
theorem resOf_eq (x : FVec Ideal S16384x2048 .f32) {r c : ℕ} (hr : r < 16384) (hc : c < 2048) : resOf x r c = x (ix2 ⟨r, hr⟩ ⟨c, hc⟩) := dif_pos ⟨hr, hc⟩
theorem upOf_eq (x : FVec Ideal S2048x11008 .f32) {r c : ℕ} (hr : r < 2048) (hc : c < 11008) : upOf x r c = x (ix2 ⟨r, hr⟩ ⟨c, hc⟩) := dif_pos ⟨hr, hc⟩
theorem tapOf_eq (x : FVec Ideal S3x11008 .f32) {r c : ℕ} (hr : r < 3) (hc : c < 11008) : tapOf x r c = x (ix2 ⟨r, hr⟩ ⟨c, hc⟩) := dif_pos ⟨hr, hc⟩
theorem downOf_eq (x : FVec Ideal S5504x2048 .f32) {r c : ℕ} (hr : r < 5504) (hc : c < 2048) : downOf x r c = x (ix2 ⟨r, hr⟩ ⟨c, hc⟩) := dif_pos ⟨hr, hc⟩
theorem offOf_eq (x : FVec Ideal S11008 .f32) {c : ℕ} (hc : c < 11008) : offOf x c = x (ix1 ⟨c, hc⟩) := dif_pos hc
theorem rowOf_eq (x : FVec Ideal S2048 .f32) {c : ℕ} (hc : c < 2048) : rowOf x c = x (ix1 ⟨c, hc⟩) := dif_pos hc

theorem V_up (c : Dev nD) (a : Fin 2) (k : Fin 2048) (e : Fin 5632) (he : e.val < 5504) :
    V m c main_v17 (ix3 a k e) = upOf (m ((c : Thread nD τ).loc main_arg2)) k (5504 * a + e) := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results
  simp only [StableHlo.TRef.toBuf, StableHlo.TRef.ofBuf, StableHlo.TRef.of, cast_eq, eqRec_eq_cast]
  rw [upOf_eq _ k.isLt (by omega)]
  pointwise []
  rw [dif_pos he, dif_pos he]
  fin_cases a
  · rw [dif_pos (by decide)]; congr 3; exact (Nat.zero_add _).symm
  · rw [dif_neg (by decide)]; rfl

theorem V_tap (c : Dev nD) (a : Fin 2) (j : Fin 3) (e : Fin 5632) (he : e.val < 5504) :
    V m c main_v9 (ix3 a (⟨j.val, by omega⟩ : Fin 8) e) = tapOf (m ((c : Thread nD τ).loc main_arg3)) j (5504 * a + e) := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results
  simp only [StableHlo.TRef.toBuf, StableHlo.TRef.ofBuf, StableHlo.TRef.of, cast_eq, eqRec_eq_cast]
  rw [tapOf_eq _ j.isLt (by omega)]
  have hj := j.isLt
  have h8 : j.val < 8 := by omega
  have h4 : j.val < 4 := by omega
  have h5 : e.val < 11008 := by omega
  have h6 : 5504 + e.val < 11008 := by omega
  pointwise []
  simp only [he, hj, h4, h8, h5, h6, and_self, and_true, ↓reduceDIte]
  by_cases ha : a.val < 1
  · rw [dif_pos ha]
    exact congrArg _ (congrArg (ix2 j) (Fin.ext (by show e.val = 5504 * a.val + e.val; omega)))
  · rw [dif_neg ha]
    exact congrArg _ (congrArg (ix2 j) (Fin.ext (by show 5504 + e.val = 5504 * a.val + e.val; omega)))

theorem V_off (c : Dev nD) (a : Fin 2) (e : Fin 5632) (he : e.val < 5504) :
    V m c main_v9 (ix3 a (3 : Fin 8) e) = offOf (m ((c : Thread nD τ).loc main_arg4)) (5504 * a + e) := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results
  simp only [StableHlo.TRef.toBuf, StableHlo.TRef.ofBuf, StableHlo.TRef.of, cast_eq, eqRec_eq_cast]
  rw [offOf_eq _ (by omega)]
  have h5 : e.val < 11008 := by omega
  have h6 : 5504 + e.val < 11008 := by omega
  pointwise []
  simp only [he, h5, h6, and_self, and_true, ↓reduceDIte]
  by_cases ha : a.val < 1
  · rw [dif_pos ha]
    exact congrArg _ (congrArg ix1 (Fin.ext (by show e.val = 5504 * a.val + e.val; omega)))
  · rw [dif_neg ha]
    exact congrArg _ (congrArg ix1 (Fin.ext (by show 5504 + e.val = 5504 * a.val + e.val; omega)))

theorem V_down (c : Dev nD) (k : Fin 5632) (q : Fin 2048) :
    V m c main_v19 (ix2 k q) = if k.val < 5504 then downOf (m ((c : Thread nD τ).loc main_arg5)) k q else 0 := by
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results
  simp only [StableHlo.TRef.toBuf, StableHlo.TRef.ofBuf, StableHlo.TRef.of, cast_eq, eqRec_eq_cast]
  pointwise []
  by_cases h : k.val < 5504
  · rw [dif_pos h, if_pos h, downOf_eq _ h q.isLt]
  · rw [dif_neg h, if_neg h]; exact zero_word

theorem V_gain (c : Dev nD) (q : Fin 2048) :
    V m c main_v20 (ix2 (0 : Fin 1) q) = rowOf (m ((c : Thread nD τ).loc main_arg6)) q := by
  rw [rowOf_eq _ q.isLt]
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results
  pointwise []

theorem V_bias (c : Dev nD) (q : Fin 2048) :
    V m c main_v21 (ix2 (0 : Fin 1) q) = rowOf (m ((c : Thread nD τ).loc main_arg7)) q := by
  rw [rowOf_eq _ q.isLt]
  unfold V
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results
  pointwise []

/-- Where every window stands at grid point `t`. -/
theorem idx : ∀ t : Fin cfg0.N, win0_0.index t = ![t.val / 11, 0] ∧ win0_1.index t = ![32 * (t.val / 11) - 1, 0]
    ∧ win0_2.index t = ![t.val / 11, 0] ∧ win0_3.index t = ![0, 0, t.val % 11] ∧ win0_4.index t = ![1, 0, t.val % 11]
    ∧ win0_5.index t = ![0, 0, t.val % 11] ∧ win0_6.index t = ![t.val % 11, 0] ∧ win0_7.index t = ![0, 0]
    ∧ win0_8.index t = ![0, 0] ∧ win0_9.index t = ![t.val / 11, 0] ∧ win0_10.index t = ![t.val / 11, 0] :=
  (by decide +kernel : ∀ t : Fin grid0.N, _)

theorem coords0 : ∀ t : Fin cfg0.N, (grid0.coords t 0).val = t.val / 11 :=
  (by decide +kernel : ∀ t : Fin grid0.N, _)

theorem lt_N (t : Fin cfg0.N) : t.val < 352 := lt_of_lt_of_eq t.isLt (show cfg0.N = 352 from N_0)

theorem xb_apply (c : Dev nD) (t : Fin cfg0.N) (j : Fin 512) (k : Fin 2048) :
    iblk m c 0 t (ix2 j k) = rowsOf (m ((c : Thread nD τ).loc main_arg0)) (512 * (t.val / 11) + j) k := by
  have := lt_N t
  have h : iblk m c 0 t (ix2 j k) = V m c main_arg0 (ix2 (⟨512 * (t.val / 11) + j, by omega⟩ : Fin 16384) k) := by
    blk_point [iblk, idx t]
  rw [h, V_main_arg0, rowsOf_eq _ (by omega) k.isLt]

theorem halo_apply (c : Dev nD) (t : Fin cfg0.N) (ht : ¬ t.val / 11 = 0) (j : Fin 16) (k : Fin 2048) :
    iblk m c 1 t (ix2 j k) = rowsOf (m ((c : Thread nD τ).loc main_arg0)) (512 * (t.val / 11) + j - 16) k := by
  have := lt_N t
  have h : iblk m c 1 t (ix2 j k) = V m c main_arg0 (ix2 (⟨16 * (32 * (t.val / 11) - 1) + j, by omega⟩ : Fin 16384) k) := by
    blk_point [iblk, idx t]
  rw [h, V_main_arg0, show 512 * (t.val / 11) + j.val - 16 = 16 * (32 * (t.val / 11) - 1) + j.val by omega, rowsOf_eq _ (by omega) k.isLt]

theorem res_apply (c : Dev nD) (t : Fin cfg0.N) (j : Fin 512) (k : Fin 2048) :
    iblk m c 2 t (ix2 j k) = resOf (m ((c : Thread nD τ).loc main_arg1)) (512 * (t.val / 11) + j) k := by
  have := lt_N t
  have h : iblk m c 2 t (ix2 j k) = V m c main_arg1 (ix2 (⟨512 * (t.val / 11) + j, by omega⟩ : Fin 16384) k) := by
    blk_point [iblk, idx t]
  rw [h, V_main_arg1, resOf_eq _ (by omega) k.isLt]

theorem wu_apply (c : Dev nD) (t : Fin cfg0.N) (k : Fin 2048) (e : Fin 512) (he : 512 * (t.val % 11) + e.val < 5504) :
    iblk m c 3 t (ix3 0 k e) = upOf (m ((c : Thread nD τ).loc main_arg2)) k (512 * (t.val % 11) + e) := by
  have h : iblk m c 3 t (ix3 0 k e) = V m c main_v17 (ix3 (0 : Fin 2) k (⟨512 * (t.val % 11) + e, by omega⟩ : Fin 5632)) := by
    blk_point [iblk, idx t]
  rw [h, V_up m c 0 k _ he]
  congr 1; exact Nat.zero_add _

theorem wg_apply (c : Dev nD) (t : Fin cfg0.N) (k : Fin 2048) (e : Fin 512) (he : 512 * (t.val % 11) + e.val < 5504) :
    iblk m c 4 t (ix3 0 k e) = upOf (m ((c : Thread nD τ).loc main_arg2)) k (5504 + (512 * (t.val % 11) + e)) := by
  have h : iblk m c 4 t (ix3 0 k e) = V m c main_v17 (ix3 (1 : Fin 2) k (⟨512 * (t.val % 11) + e, by omega⟩ : Fin 5632)) := by
    blk_point [iblk, idx t]
  rw [h, V_up m c 1 k _ he]
  rfl

theorem cv_apply (c : Dev nD) (t : Fin cfg0.N) (a : Fin 2) (j : Fin 8) (e : Fin 512) :
    iblk m c 5 t (ix3 a j e) = V m c main_v9 (ix3 a j (⟨512 * (t.val % 11) + e, by omega⟩ : Fin 5632)) := by
  blk_point [iblk, idx t]

theorem wd_apply (c : Dev nD) (t : Fin cfg0.N) (k : Fin 512) (q : Fin 2048) :
    iblk m c 6 t (ix2 k q) = if 512 * (t.val % 11) + k.val < 5504 then downOf (m ((c : Thread nD τ).loc main_arg5)) (512 * (t.val % 11) + k) q else 0 := by
  have h : iblk m c 6 t (ix2 k q) = V m c main_v19 (ix2 (⟨512 * (t.val % 11) + k, by omega⟩ : Fin 5632) q) := by
    blk_point [iblk, idx t]
  rw [h, V_down]

theorem gain_apply (c : Dev nD) (t : Fin cfg0.N) (q : Fin 2048) :
    iblk m c 7 t (ix2 0 q) = rowOf (m ((c : Thread nD τ).loc main_arg6)) q := by
  have h : iblk m c 7 t (ix2 0 q) = V m c main_v20 (ix2 (0 : Fin 1) q) := by
    blk_point [iblk, idx t]
  rw [h, V_gain]

theorem bias_apply (c : Dev nD) (t : Fin cfg0.N) (q : Fin 2048) :
    iblk m c 8 t (ix2 0 q) = rowOf (m ((c : Thread nD τ).loc main_arg7)) q := by
  have h : iblk m c 8 t (ix2 0 q) = V m c main_v21 (ix2 (0 : Fin 1) q) := by
    blk_point [iblk, idx t]
  rw [h, V_bias]

end Cert.FfnIdeal.Hand

end
-- ==== Proof.FfnPoint.lean ====
/- The feed-forward kernel's points: what each leaves in the row buffer, in the accumulator and in the results' blocks. -/
module

public import proofs.«01_k».proof.Proof.FfnWin
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.Ffn
open Cert.Words (first_tile choose)

variable (m : (ℓ : Loc nD τ sig) → Buf (Elt Ideal) ℓ)

/-- The rows a tile keeps: the sixteen before it, zeros at a sequence's start, then its own. -/
theorem rows_apply (i : grid0.Coords) (hl : Vec Ideal S16x2048 .bf16) (xb : Vec Ideal S512x2048 .bf16) (j : Fin 528) (k : Fin 2048) :
    k0_pay4 i hl xb (ix2 j k) = if h : j.val < 16 then (if (i 0).val % 16 = 0 then (0 : EReal) else hl (ix2 ⟨j.val, h⟩ k))
      else xb (ix2 ⟨j.val - 16, by omega⟩ k) := by
  pointwise [k0_pay4]
  exact dite_congr rfl (fun h => choose (first_tile (i 0))) fun h => rfl

/-- The point before `t`. -/
theorem prev_lt (t : Fin cfg0.N) : t.val - 1 < cfg0.N := Nat.lt_of_le_of_lt (Nat.sub_le _ _) t.isLt

theorem rowsA (c : Dev nD) (t : Fin cfg0.N) (h0 : t.val % 11 = 0) (h1 : ¬ t.val % 11 = 10) (y) :
    (outsAt0 m c t.val t.isLt).2.2.2 y = k0_pay4 (grid0.coords t) (iblk m c 1 t) (iblk m c 0 t) y := by
  rw [outsAt0_A m c t h0 h1]
  dsimp only [sout0_A_1]
  frame_out

theorem rowsB (c : Dev nD) (t : Fin cfg0.N) (h0 : ¬ t.val % 11 = 0) (h1 : ¬ t.val % 11 = 10) (y) :
    (outsAt0 m c t.val t.isLt).2.2.2 y = (outsAt0 m c (t.val - 1) (prev_lt t)).2.2.2 y := by
  rw [outsAt0_B m c t h0 h1]
  dsimp only [sout0_B_1]

theorem accA (c : Dev nD) (t : Fin cfg0.N) (h0 : t.val % 11 = 0) (h1 : ¬ t.val % 11 = 10) (y) :
    (outsAt0 m c t.val t.isLt).2.2.1 y = step (k0_pay4 (grid0.coords t) (iblk m c 1 t) (iblk m c 0 t)) (iblk m c 3 t) (iblk m c 4 t)
      (iblk m c 5 t) (iblk m c 6 t) (k0_pay5 (F := Ideal)) y := by
  rw [outsAt0_A m c t h0 h1]
  dsimp only [sout0_A_0]
  frame_out
  rfl

theorem accB (c : Dev nD) (t : Fin cfg0.N) (h0 : ¬ t.val % 11 = 0) (h1 : ¬ t.val % 11 = 10) (y) :
    (outsAt0 m c t.val t.isLt).2.2.1 y = step (outsAt0 m c (t.val - 1) (prev_lt t)).2.2.2 (iblk m c 3 t) (iblk m c 4 t)
      (iblk m c 5 t) (iblk m c 6 t) (outsAt0 m c (t.val - 1) (prev_lt t)).2.2.1 y := by
  rw [outsAt0_B m c t h0 h1]
  dsimp only [sout0_B_0]
  frame_out
  repeat rw [read_unread_whole]
  rfl

set_option maxHeartbeats 2000000 in
theorem firstC (c : Dev nD) (t : Fin cfg0.N) (h0 : ¬ t.val % 11 = 0) (h1 : t.val % 11 = 10) (y) :
    (outsAt0 m c t.val t.isLt).1 y = k0_pay2 (iblk m c 2 t) (step (outsAt0 m c (t.val - 1) (prev_lt t)).2.2.2 (iblk m c 3 t) (iblk m c 4 t)
      (iblk m c 5 t) (iblk m c 6 t) (outsAt0 m c (t.val - 1) (prev_lt t)).2.2.1) (iblk m c 7 t) (iblk m c 8 t) y := by
  rw [outsAt0_C m c t h0 h1]
  frame_out
  repeat rw [read_unread_whole]
  rfl

set_option maxHeartbeats 2000000 in
theorem secondC (c : Dev nD) (t : Fin cfg0.N) (h0 : ¬ t.val % 11 = 0) (h1 : t.val % 11 = 10) (y) :
    (outsAt0 m c t.val t.isLt).2.1 y = k0_pay3 (iblk m c 2 t) (step (outsAt0 m c (t.val - 1) (prev_lt t)).2.2.2 (iblk m c 3 t) (iblk m c 4 t)
      (iblk m c 5 t) (iblk m c 6 t) (outsAt0 m c (t.val - 1) (prev_lt t)).2.2.1) (iblk m c 7 t) (iblk m c 8 t) y := by
  rw [outsAt0_C m c t h0 h1]
  frame_out
  repeat rw [read_unread_whole]
  rfl

/-- The last step's norm. -/
theorem norm_apply (x acc : Vec Ideal S512x2048 .f32) (gain bias : Vec Ideal S1x2048 .f32) (p : Fin 512) (q : Fin 2048) :
    k0_pay2 x acc gain bias (ix2 p q)
      = Cert.Norm.row (fun q => Ideal.ofBits .f32 0x3FD744FD#32 * x (ix2 p q) + acc (ix2 p q)) q (gain (ix2 0 q)) (bias (ix2 0 q)) := by
  pointwise [k0_pay2, Cert.Norm.row, Cert.Norm.mean]

theorem norm_apply' (x acc : Vec Ideal S512x2048 .f32) (gain bias : Vec Ideal S1x2048 .f32) (p : Fin 512) (q : Fin 2048) :
    k0_pay3 x acc gain bias (ix2 p q) = k0_pay2 x acc gain bias (ix2 p q) := by
  pointwise [k0_pay3]

end Cert.FfnIdeal.Hand

end
-- ==== Proof.FfnSum.lean ====
/- The feed-forward kernel's grid: what its rows and its sum hold after every point of a tile, and what the tile's last point stores. -/
module

public import proofs.«01_k».proof.Proof.FfnPoint

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.Ffn

variable (m : (ℓ : Loc nD τ sig) → Buf (Elt Ideal) ℓ)

/-- The six arguments of the projection, by row and column number. -/
def X0 (c : Dev nD) : ℕ → ℕ → EReal := rowsOf (m ((c : Thread nD τ).loc main_arg0))
def W0 (c : Dev nD) : ℕ → ℕ → EReal := upOf (m ((c : Thread nD τ).loc main_arg2))
def C0 (c : Dev nD) : ℕ → ℕ → EReal := tapOf (m ((c : Thread nD τ).loc main_arg3))
def B0 (c : Dev nD) : ℕ → EReal := offOf (m ((c : Thread nD τ).loc main_arg4))
def D0 (c : Dev nD) : ℕ → ℕ → EReal := downOf (m ((c : Thread nD τ).loc main_arg5))

/-- A point's windows, with rows `xs` that hold what they should. -/
theorem tile_of (c : Dev nD) (t : Fin cfg0.N) (xs : Vec Ideal S528x2048 .bf16)
    (hxs : ∀ (j : Fin 528) (k : Fin 2048), xs (ix2 j k) = if t.val / 11 % 16 = 0 ∧ j.val < 16 then 0 else X0 m c (512 * (t.val / 11) + j - 16) k) :
    Tile (X0 m c) (W0 m c) (C0 m c) (B0 m c) (D0 m c) (t.val / 11) (t.val % 11) xs (iblk m c 3 t) (iblk m c 4 t) (iblk m c 5 t) (iblk m c 6 t) where
  xs := hxs
  wu k e he := wu_apply m c t k e he
  wg k e he := wg_apply m c t k e he
  tapU j e he := (cv_apply m c t 0 _ e).trans ((V_tap m c 0 j _ he).trans (congrArg (C0 m c j) (Nat.zero_add _)))
  tapG j e he := (cv_apply m c t 1 _ e).trans (V_tap m c 1 j _ he)
  offU e he := (cv_apply m c t 0 3 e).trans ((V_off m c 0 _ he).trans (congrArg (B0 m c) (Nat.zero_add _)))
  offG e he := (cv_apply m c t 1 3 e).trans (V_off m c 1 _ he)
  wd k q := wd_apply m c t k q

/-- The rows a tile's first point keeps. -/
theorem first_rows (c : Dev nD) (t : Fin cfg0.N) (j : Fin 528) (k : Fin 2048) :
    k0_pay4 (grid0.coords t) (iblk m c 1 t) (iblk m c 0 t) (ix2 j k)
      = if t.val / 11 % 16 = 0 ∧ j.val < 16 then 0 else X0 m c (512 * (t.val / 11) + j - 16) k := by
  refine (rows_apply (grid0.coords t) (iblk m c 1 t) (iblk m c 0 t) j k).trans ?_
  rw [coords0]
  by_cases hj : j.val < 16
  · rw [dif_pos hj]
    by_cases ht : t.val / 11 % 16 = 0
    · rw [if_pos ht, if_pos ⟨ht, hj⟩]
    · rw [if_neg ht, if_neg (fun h => ht h.1)]
      exact halo_apply m c t (fun h => ht (by rw [h])) ⟨j.val, hj⟩ k
  · rw [dif_neg hj, if_neg (fun h => hj h.2)]
    refine (xb_apply m c t ⟨j.val - 16, by omega⟩ k).trans ?_
    exact congrArg (fun r => X0 m c r k) (show 512 * (t.val / 11) + (j.val - 16) = 512 * (t.val / 11) + j.val - 16 by omega)

/-- The rows and the sum after the point `n` of a tile, before its last. -/
theorem state (c : Dev nD) : ∀ (n : ℕ), n < 10 → ∀ t : Fin cfg0.N, t.val % 11 = n →
    (∀ (j : Fin 528) (k : Fin 2048), (outsAt0 m c t.val t.isLt).2.2.2 (ix2 j k)
        = if t.val / 11 % 16 = 0 ∧ j.val < 16 then 0 else X0 m c (512 * (t.val / 11) + j - 16) k)
      ∧ ∀ (p : Fin 512) (q : Fin 2048), (outsAt0 m c t.val t.isLt).2.2.1 (ix2 p q)
        = partSum (X0 m c) (W0 m c) (C0 m c) (B0 m c) (D0 m c) (512 * (t.val / 11) + p) q (n + 1) := by
  intro n
  induction n with
  | zero =>
    intro _ t ht
    have h1 : ¬ t.val % 11 = 10 := by omega
    refine ⟨fun j k => (rowsA m c t ht h1 _).trans (first_rows m c t j k), fun p q => (accA m c t ht h1 _).trans ?_⟩
    have T := tile_of m c t (k0_pay4 (grid0.coords t) (iblk m c 1 t) (iblk m c 0 t)) (first_rows m c t)
    rw [ht] at T
    refine T.step _ p q ?_
    unfold partSum
    rw [Nat.mul_zero, Finset.sum_range_zero]
    pointwise [k0_pay5]
  | succ n ih =>
    intro hn t ht
    have h0 : ¬ t.val % 11 = 0 := by omega
    have h1 : ¬ t.val % 11 = 10 := by omega
    have e : (t.val - 1) / 11 = t.val / 11 := by omega
    obtain ⟨hr, ha⟩ := ih (by omega) ⟨t.val - 1, prev_lt t⟩ (show (t.val - 1) % 11 = n by omega)
    simp only [e] at hr ha
    refine ⟨fun j k => (rowsB m c t h0 h1 _).trans (hr j k), fun p q => (accB m c t h0 h1 _).trans ?_⟩
    have T := tile_of m c t _ hr
    rw [ht] at T
    exact T.step _ p q (ha p q)

/-- What a tile's last point holds before it stores: the whole projection. -/
theorem last_sum (c : Dev nD) (t : Fin cfg0.N) (ht : t.val % 11 = 10) (p : Fin 512) (q : Fin 2048) :
    step (outsAt0 m c (t.val - 1) (prev_lt t)).2.2.2 (iblk m c 3 t) (iblk m c 4 t) (iblk m c 5 t) (iblk m c 6 t)
        (outsAt0 m c (t.val - 1) (prev_lt t)).2.2.1 (ix2 p q)
      = ffn (X0 m c) (W0 m c) (C0 m c) (B0 m c) (D0 m c) (512 * (t.val / 11) + p) q := by
  have e : (t.val - 1) / 11 = t.val / 11 := by omega
  obtain ⟨hr, ha⟩ := state m c 9 (by omega) ⟨t.val - 1, prev_lt t⟩ (show (t.val - 1) % 11 = 9 by omega)
  simp only [e] at hr ha
  have T := tile_of m c t _ hr
  rw [ht] at T
  exact (T.step _ p q (ha p q)).trans (partSum_all _ _ _ _ _ _ _)

/-- The results, by row and column number. -/
def res (c : Dev nD) (r : ℕ) (q : Fin 2048) : EReal :=
  Cert.Ffn.out (X0 m c) (W0 m c) (C0 m c) (B0 m c) (D0 m c) (resOf (m ((c : Thread nD τ).loc main_arg1)))
    (rowOf (m ((c : Thread nD τ).loc main_arg6))) (rowOf (m ((c : Thread nD τ).loc main_arg7))) r q

/-- The last point's first result. -/
theorem first (c : Dev nD) (t : Fin cfg0.N) (ht : t.val % 11 = 10) (p : Fin 512) (q : Fin 2048) :
    (outsAt0 m c t.val t.isLt).1 (ix2 p q) = res m c (512 * (t.val / 11) + p) q := by
  refine (firstC m c t (by omega) ht _).trans ?_
  refine (norm_apply _ _ _ _ p q).trans ?_
  simp only [last_sum m c t ht]
  unfold res Cert.Ffn.out
  rw [gain_apply, bias_apply]
  refine congrArg (fun h => Cert.Norm.row h q _ _) (funext fun q => ?_)
  rw [res_apply]

/-- The last point's second result. -/
theorem second (c : Dev nD) (t : Fin cfg0.N) (ht : t.val % 11 = 10) (p : Fin 512) (q : Fin 2048) :
    (outsAt0 m c t.val t.isLt).2.1 (ix2 p q) = res m c (512 * (t.val / 11) + p) q := by
  refine (secondC m c t (by omega) ht _).trans ?_
  refine (norm_apply' _ _ _ _ p q).trans ?_
  exact (firstC m c t (by omega) ht _).symm.trans (first m c t ht p q)

end Cert.FfnIdeal.Hand

end
-- ==== Proof.FfnRead.lean ====
/- The feed-forward reference's results, read at one row and column. -/
module

public import proofs.«01_k».proof.Proof.FfnWin
public import proofs.«01_k».proof.Proof.Gen.FfnRefIdeal.Read

@[expose] public section

set_option maxRecDepth 16384

noncomputable section

open Idealize.ShloMosaic Idealize.ShloMosaic.TcCoe Idealize.SL.Sem

namespace Cert.FfnRefIdeal.Hand

open Cert.FfnRefIdeal Cert.FfnRefIdeal.Read Cert.Ffn
open Cert.FfnIdeal.Hand (rowsOf resOf upOf tapOf offOf downOf rowOf rowsOf_eq resOf_eq upOf_eq tapOf_eq offOf_eq downOf_eq rowOf_eq)
open Cert.Words (zero_word)

variable (xb : FVec Ideal S16384x2048 .bf16) (x : FVec Ideal S16384x2048 .f32) (wu : FVec Ideal S2048x11008 .f32)
  (cw : FVec Ideal S3x11008 .f32) (cb : FVec Ideal S11008 .f32) (wd : FVec Ideal S5504x2048 .f32) (gain bias : FVec Ideal S2048 .f32)

theorem hid_apply (r : Fin 16384) (c : Fin 11008) : val_main_v1 (F := Ideal) xb wu (ix2 r c) = hid (rowsOf xb) (upOf wu) r c := by
  pointwise [val_main_v1, val_main_v0]
  unfold hid
  exact Finset.sum_congr rfl fun k _ => by rw [rowsOf_eq xb r.isLt k.isLt, upOf_eq wu k.isLt c.isLt]

theorem pad_apply (b : Fin 2) (s : Fin 8194) (c : Fin 11008) (d : ℕ) (p : ℕ) (hp : p < 8192) (hs : s.val + d = p + 2) :
    val_main_v3 (F := Ideal) xb wu (ix3 b s c) = past (rowsOf xb) (upOf wu) d (8192 * b + p) c := by
  pointwise [val_main_v3, val_main_v2, val_main_call0_v0, val_main_c]
  have hb := b.isLt
  have hs' := s.isLt
  have hm : (8192 * b.val + p) % 8192 = p := by omega
  unfold past
  rw [hm]
  by_cases h : p < d
  · rw [if_pos h, dif_neg (by omega)]; exact zero_word
  · rw [if_neg h, dif_pos (by omega)]
    refine (hid_apply xb wu _ c).trans ?_
    exact congrArg (fun r => hid (rowsOf xb) (upOf wu) r c) (show b.val * 8192 + (s.val - 2) = 8192 * b.val + p - d by omega)

theorem conv_apply (b : Fin 2) (s : Fin 8192) (c : Fin 11008) :
    val_main_v26 (F := Ideal) xb wu cw cb (ix3 b s c) = conv (rowsOf xb) (upOf wu) (tapOf cw) (offOf cb) (8192 * b + s) c := by
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_v5, val_main_v4]
  have hs := s.isLt
  have hc := c.isLt
  rw [pad_apply xb wu b _ c 0 s s.isLt (show 2 + s.val + 0 = s.val + 2 by omega), pad_apply xb wu b _ c 2 s s.isLt (show s.val + 2 = s.val + 2 by omega),
    pad_apply xb wu b _ c 1 s s.isLt (show 1 + s.val + 1 = s.val + 2 by omega), add_right_comm]
  unfold conv
  rw [offOf_eq cb hc, tapOf_eq cw (by omega : 2 < 3) hc, tapOf_eq cw (by omega : 1 < 3) hc, tapOf_eq cw (by omega : 0 < 3) hc,
    show past (rowsOf xb) (upOf wu) 0 (8192 * b.val + s.val) c = hid (rowsOf xb) (upOf wu) (8192 * b.val + s.val) c from if_neg (Nat.not_lt_zero _)]
  rfl

theorem act_apply (b : Fin 2) (s : Fin 8192) (c : Fin 5504) :
    val_main_v30 (F := Ideal) xb wu cw cb (ix3 b s c)
      = act (conv (rowsOf xb) (upOf wu) (tapOf cw) (offOf cb) (8192 * b + s) (5504 + c)) (conv (rowsOf xb) (upOf wu) (tapOf cw) (offOf cb) (8192 * b + s) c) := by
  pointwise [val_main_v30, val_main_v29, val_main_call1_v5, val_main_call1_v4, val_main_call1_cst_0, val_main_call1_v3, val_main_call1_cst,
    val_main_call1_v2, val_main_call1_v1, val_main_call1_v0, val_main_v28, val_main_v27]
  rw [conv_apply, conv_apply]
  rfl

theorem ffn_apply (r : Fin 16384) (q : Fin 2048) :
    val_main_v32 (F := Ideal) xb wu cw cb wd (ix2 r q) = ffn (rowsOf xb) (upOf wu) (tapOf cw) (offOf cb) (downOf wd) r q := by
  pointwise [val_main_v32, val_main_v31]
  unfold ffn
  refine Finset.sum_congr rfl fun c _ => ?_
  unfold term
  rw [act_apply, downOf_eq wd c.isLt q.isLt]
  have hr : 8192 * (r.val / 8192) + r.val % 8192 = r.val := Nat.div_add_mod _ _
  show act (conv _ _ _ _ (8192 * (r.val / 8192) + r.val % 8192) _) (conv _ _ _ _ (8192 * (r.val / 8192) + r.val % 8192) _) * _ = _
  rw [hr]

theorem result_apply (r : Fin 16384) (q : Fin 2048) :
    val_main_v59 (F := Ideal) xb x wu cw cb wd gain bias (ix2 r q)
      = out (rowsOf xb) (upOf wu) (tapOf cw) (offOf cb) (downOf wd) (resOf x) (rowOf gain) (rowOf bias) r q := by
  pointwise [val_main_v59, val_main_v58, val_main_v57, val_main_v56, val_main_v55, val_main_v54, val_main_v53, val_main_v52, val_main_v51,
    val_main_v50, val_main_v49, val_main_cst_4, val_main_v48, val_main_v47, val_main_v46, val_main_v45, val_main_cst_3, val_main_v44,
    val_main_v43, val_main_cst_2, val_main_v42, val_main_v41, val_main_v40, val_main_v39, val_main_v38, val_main_cst_1, val_main_v37,
    val_main_v36, val_main_cst_0, val_main_v35, val_main_v34, val_main_v33, val_main_cst]
  simp only [ffn_apply]
  unfold out Cert.Norm.row Cert.Norm.mean
  rw [rowOf_eq gain q.isLt, rowOf_eq bias q.isLt]
  simp only [resOf_eq x r.isLt (Fin.isLt _), Fin.eta]

/-- The second result is the first, at the ideal instance. -/
theorem result_apply' (r : Fin 16384) (q : Fin 2048) :
    val_main_v60 (F := Ideal) xb x wu cw cb wd gain bias (ix2 r q)
      = out (rowsOf xb) (upOf wu) (tapOf cw) (offOf cb) (downOf wd) (resOf x) (rowOf gain) (rowOf bias) r q := by
  refine Eq.trans ?_ (result_apply xb x wu cw cb wd gain bias r q)
  pointwise [val_main_v60]

end Cert.FfnRefIdeal.Hand

end
-- ==== Proof.Ffn.lean ====
/- The feed-forward call: the kernel's two results are the reference's. -/
module

public import proofs.«01_k».proof.Proof.FfnSum
public import proofs.«01_k».proof.Proof.FfnRead
public import proofs.«01_k».proof.Defs
public import proofs.«01_k».proof.Proof.Gen.FfnIdeal.Value

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.Ffn

variable (m : (ℓ : Loc nD τ sig) → Buf (Elt Ideal) ℓ)

/-- The results' array. -/
def results (c : Dev nD) : FVec Ideal S16384x2048 .f32 := fun i => res m c (i 0).val (i 1)

/-- The first result array after the run. -/
theorem final9 (c : Dev nD) : (dats m 0 c).arrAt 9 (cfgs 0).N = results m c := by
  refine (dats m 0 c).arrAt_eq_of_covers 9 _ (by decide +kernel) fun t hf y => ?_
  blk_simp
  rw [after0_9]
  have ht : t.val % 11 = 10 := (flush0_9 t).mp hf
  have h0 : (((cfg0.win 9).blk t).view.emb y 0).val = 512 * (t.val / 11) + (y 0).val := by
    blk_simp [idx t] <;> try omega
  have h1 : (((cfg0.win 9).blk t).view.emb y 1).val = (y 1).val := by
    blk_simp [idx t] <;> try omega
  have hy : y = ix2 (y 0) (y 1) := by funext a; fin_cases a <;> rfl
  refine (congrArg _ hy).trans (((first m c t ht (y 0) (y 1))).trans ?_)
  show _ = res m c (((cfg0.win 9).blk t).view.emb y 0).val (((cfg0.win 9).blk t).view.emb y 1)
  rw [h0]
  exact congrArg (res m c _) (Fin.ext h1.symm)

/-- The second result array after the run. -/
theorem final10 (c : Dev nD) : (dats m 0 c).arrAt 10 (cfgs 0).N = results m c := by
  refine (dats m 0 c).arrAt_eq_of_covers 10 _ (by decide +kernel) fun t hf y => ?_
  blk_simp
  rw [after0_10]
  have ht : t.val % 11 = 10 := (flush0_10 t).mp hf
  have h0 : (((cfg0.win 10).blk t).view.emb y 0).val = 512 * (t.val / 11) + (y 0).val := by
    blk_simp [idx t] <;> try omega
  have h1 : (((cfg0.win 10).blk t).view.emb y 1).val = (y 1).val := by
    blk_simp [idx t] <;> try omega
  have hy : y = ix2 (y 0) (y 1) := by funext a; fin_cases a <;> rfl
  refine (congrArg _ hy).trans (((second m c t ht (y 0) (y 1))).trans ?_)
  show _ = res m c (((cfg0.win 10).blk t).view.emb y 0).val (((cfg0.win 10).blk t).view.emb y 1)
  rw [h0]
  exact congrArg (res m c _) (Fin.ext h1.symm)

end Cert.FfnIdeal.Hand

/-- The kernel's two results are the reference's, element by element, over the extended reals. -/
theorem Cert.FfnIdeal.Hand.alg : Cert.algebraic_FfnIdeal_FfnRefIdeal
    (hFfnIdeal := Cert.FfnIdeal.Gen.facts) (hFfnRefIdeal := Cert.FfnRefIdeal.Gen.facts) := by
  intro m ρ m' ρ' _ hag
  refine ⟨fun c => Cert.FfnIdeal.Hand.results m c, fun c => Cert.FfnIdeal.Hand.results m c,
    (θ_run _ _ _).mono ?_ (Cert.FfnIdeal.Value.run_blocks m ρ), (θ_run _ _ _).mono ?_ (Cert.FfnRefIdeal.Value.run m' ρ')⟩
  · intro r h c
    obtain ⟨h9, h10, hrest⟩ := h c
    exact ⟨h9.trans (Cert.FfnIdeal.Hand.final9 m c), h10.trans (Cert.FfnIdeal.Hand.final10 m c), hrest⟩
  · intro r h c
    obtain ⟨h9, h10, hrest⟩ := h c
    obtain ⟨a0, a1, a2, a3, a4, a5, a6, a7⟩ := hag c
    refine ⟨h9.trans ?_, h10.trans ?_, hrest⟩
    · rw [Cert.FfnRefIdeal.Read.val_main_v59_eq, a0, a1, a2, a3, a4, a5, a6, a7]
      funext i
      have hi : i = ix2 (i 0) (i 1) := by funext a; fin_cases a <;> rfl
      rw [hi]
      exact Cert.FfnRefIdeal.Hand.result_apply (m (c.tc.loc Cert.FfnIdeal.main_arg0)) (m (c.tc.loc Cert.FfnIdeal.main_arg1)) (m (c.tc.loc Cert.FfnIdeal.main_arg2)) (m (c.tc.loc Cert.FfnIdeal.main_arg3)) (m (c.tc.loc Cert.FfnIdeal.main_arg4)) (m (c.tc.loc Cert.FfnIdeal.main_arg5)) (m (c.tc.loc Cert.FfnIdeal.main_arg6)) (m (c.tc.loc Cert.FfnIdeal.main_arg7)) (i 0) (i 1)
    · rw [Cert.FfnRefIdeal.Read.val_main_v60_eq, a0, a1, a2, a3, a4, a5, a6, a7]
      funext i
      have hi : i = ix2 (i 0) (i 1) := by funext a; fin_cases a <;> rfl
      rw [hi]
      exact Cert.FfnRefIdeal.Hand.result_apply' (m (c.tc.loc Cert.FfnIdeal.main_arg0)) (m (c.tc.loc Cert.FfnIdeal.main_arg1)) (m (c.tc.loc Cert.FfnIdeal.main_arg2)) (m (c.tc.loc Cert.FfnIdeal.main_arg3)) (m (c.tc.loc Cert.FfnIdeal.main_arg4)) (m (c.tc.loc Cert.FfnIdeal.main_arg5)) (m (c.tc.loc Cert.FfnIdeal.main_arg6)) (m (c.tc.loc Cert.FfnIdeal.main_arg7)) (i 0) (i 1)

end
-- ==== Proof.Ple.lean ====
/- The per-layer embedding call: every row tile of the kernel's two results is the reference's. -/
module

public import proofs.«01_k».proof.Defs
public import proofs.«01_k».proof.Proof.Gen.PleIdeal.Value
public import proofs.«01_k».proof.Proof.Gen.PleRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleIdeal.Hand

open Cert.PleIdeal Cert.PleIdeal.Gen

/-- The residual stream after the gated per-layer embedding, at row `r` and column `q`. -/
def out (xb : FVec Ideal S16384x2048 .bf16) (x : FVec Ideal S16384x2048 .f32) (p : FVec Ideal S16384x256 .f32)
    (wg : FVec Ideal S2048x2048 .bf16) (wp : FVec Ideal S256x2048 .bf16) : FVec Ideal S16384x2048 .f32 := fun i =>
  x i + (∑ k : Fin 256, p (ix2 (i 0) k) * wp (ix2 k (i 1)))
    * Ideal.div 1 (1 + Ideal.exp (0 - ∑ k : Fin 2048, xb (ix2 (i 0) k) * wg (ix2 k (i 1))))

/-- The reference's first result is `out`. -/
theorem ref_eq (xb : FVec Ideal S16384x2048 .bf16) (x : FVec Ideal S16384x2048 .f32) (p : FVec Ideal S16384x256 .f32)
    (wg : FVec Ideal S2048x2048 .bf16) (wp : FVec Ideal S256x2048 .bf16) :
    Cert.PleRefIdeal.Read.val_main_v12 (F := Ideal) xb x p wg wp = out xb x p wg wp := by
  funext i
  idx_vars i
  pointwise [out, Cert.PleRefIdeal.Read.val_main_v12, Cert.PleRefIdeal.Read.val_main_v11, Cert.PleRefIdeal.Read.val_main_v10,
    Cert.PleRefIdeal.Read.val_main_v9, Cert.PleRefIdeal.Read.val_main_v8, Cert.PleRefIdeal.Read.val_main_v7,
    Cert.PleRefIdeal.Read.val_main_v6, Cert.PleRefIdeal.Read.val_main_v5, Cert.PleRefIdeal.Read.val_main_v4,
    Cert.PleRefIdeal.Read.val_main_v3, Cert.PleRefIdeal.Read.val_main_v2, Cert.PleRefIdeal.Read.val_main_v1,
    Cert.PleRefIdeal.Read.val_main_v0, Cert.PleRefIdeal.Read.val_main_cst, Cert.PleRefIdeal.Read.val_main_cst_0]
  rw [zero_sub]

variable (m : (ℓ : Loc nD τ sig) → Buf (Elt Ideal) ℓ)

/-- Where every window stands at grid point `t`. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] :=
  (by decide +kernel : ∀ t : Fin grid0.N, _)

theorem point5 (c : Dev nD) (t : Fin cfg0.N) (y) :
    k0_pay1 (iblk m c 0 t) (iblk m c 1 t) (iblk m c 2 t) (iblk m c 3 t) (iblk m c 4 t) y
      = out (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay1, out]
  blk_point [iblk, V, idx t]

theorem final5 (c : Dev nD) : (dats m 0 c).arrAt 5 (cfgs 0).N
    = out (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]; frame_out
  exact point5 m c t y

theorem point6 (c : Dev nD) (t : Fin cfg0.N) (y) :
    k0_pay2 (iblk m c 0 t) (iblk m c 1 t) (iblk m c 2 t) (iblk m c 3 t) (iblk m c 4 t) y
      = out (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  pointwise [k0_pay2, k0_pay1, out]
  blk_point [iblk, V, idx t]

theorem final6 (c : Dev nD) : (dats m 0 c).arrAt 6 (cfgs 0).N
    = out (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6]; frame_out
  exact point6 m c t y

end Cert.PleIdeal.Hand

/-- The kernel's two results are the reference's, element by element, over the extended reals. -/
theorem Cert.PleIdeal.Hand.alg : Cert.algebraic_PleIdeal_PleRefIdeal
    (hPleIdeal := Cert.PleIdeal.Gen.facts) (hPleRefIdeal := Cert.PleRefIdeal.Gen.facts) := by
  intro m ρ m' ρ' _ hag
  refine ⟨fun c => Cert.PleIdeal.Hand.out (m (c.tc.loc Cert.PleIdeal.main_arg0)) (m (c.tc.loc Cert.PleIdeal.main_arg1))
      (m (c.tc.loc Cert.PleIdeal.main_arg2)) (m (c.tc.loc Cert.PleIdeal.main_arg3)) (m (c.tc.loc Cert.PleIdeal.main_arg4)),
    fun c => Cert.PleIdeal.Hand.out (m (c.tc.loc Cert.PleIdeal.main_arg0)) (m (c.tc.loc Cert.PleIdeal.main_arg1))
      (m (c.tc.loc Cert.PleIdeal.main_arg2)) (m (c.tc.loc Cert.PleIdeal.main_arg3)) (m (c.tc.loc Cert.PleIdeal.main_arg4)),
    (θ_run _ _ _).mono ?_ (Cert.PleIdeal.Value.run_blocks m ρ), (θ_run _ _ _).mono ?_ (Cert.PleRefIdeal.Value.run m' ρ')⟩
  · intro r h c
    obtain ⟨h5, h6, hrest⟩ := h c
    exact ⟨h5.trans (Cert.PleIdeal.Hand.final5 m c), h6.trans (Cert.PleIdeal.Hand.final6 m c), hrest⟩
  · intro r h c
    obtain ⟨h5, h6, hrest⟩ := h c
    obtain ⟨a0, a1, a2, a3, a4⟩ := hag c
    have e := Cert.PleIdeal.Hand.ref_eq (m (c.tc.loc Cert.PleIdeal.main_arg0)) (m (c.tc.loc Cert.PleIdeal.main_arg1))
      (m (c.tc.loc Cert.PleIdeal.main_arg2)) (m (c.tc.loc Cert.PleIdeal.main_arg3)) (m (c.tc.loc Cert.PleIdeal.main_arg4))
    refine ⟨h5.trans ?_, h6.trans ?_, hrest⟩
    · rw [a0, a1, a2, a3, a4]; exact e
    · rw [a0, a1, a2, a3, a4]; exact e

end
-- ==== Proof.RetProjRef.lean ====
/- The retention mixer's projection as one formula, which the reference computes. -/
module

public import proofs.«01_k».proof.Defs
public import proofs.«01_k».proof.Proof.Gen.RetProjIdeal.Value
public import proofs.«01_k».proof.Proof.Gen.RetProjRefIdeal.Read
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetProjIdeal.Hand

open Cert.RetProjIdeal Cert.RetProjIdeal.Gen

/-- The table of cosines, position by frequency. -/
def cosT : FVec Ideal S8192x128 .f32 := Cert.RetProjRefIdeal.Read.val_main_v26 (F := Ideal)

/-- The table of sines, position by frequency. -/
def sinT : FVec Ideal S8192x128 .f32 := Cert.RetProjRefIdeal.Read.val_main_v28 (F := Ideal)

/-- The projection's element at row `r` and column `n`. -/
def acc (x : FVec Ideal S16384x2048 .f32) (w : FVec Ideal S2048x12288 .bf16) (r : Fin 16384) (n : Fin 12288) : EReal :=
  ∑ k : Fin 2048, x (ix2 r k) * w (ix2 k n)

/-- A pair turned by an angle: the first half of a head's columns holds `x1 cos - x2 sin`, the second `x1 sin + x2 cos`. -/
def turn (n : ℕ) (x1 x2 cs sn : EReal) : EReal :=
  if n % 256 < 128 then x1 * cs - x2 * sn else x1 * sn + x2 * cs

/-- The projection turned by its position's angles, at row `r` and column `n`. -/
def rot (x : FVec Ideal S16384x2048 .f32) (w : FVec Ideal S2048x12288 .bf16) (r : Fin 16384) (n : Fin 12288) : EReal :=
  turn n (acc x w r ⟨(n : ℕ) / 256 * 256 + (n : ℕ) % 128, by omega⟩) (acc x w r ⟨(n : ℕ) / 256 * 256 + (n : ℕ) % 128 + 128, by omega⟩)
    (cosT (ix2 ⟨(r : ℕ) % 8192, by omega⟩ ⟨(n : ℕ) % 128, by omega⟩)) (sinT (ix2 ⟨(r : ℕ) % 8192, by omega⟩ ⟨(n : ℕ) % 128, by omega⟩))

/-- The four groups of columns: turned queries, turned and scaled keys, values, gates. -/
def out (x : FVec Ideal S16384x2048 .f32) (w : FVec Ideal S2048x12288 .bf16) : FVec Ideal S16384x12288 .bf16 := fun i =>
  if (i 1 : ℕ) < 2048 then rot x w (i 0) (i 1)
  else if (i 1 : ℕ) < 4096 then rot x w (i 0) (i 1) * Ideal.ofBits .f32 0x3D800000#32
  else if (i 1 : ℕ) < 8192 then acc x w (i 0) (i 1)
  else acc x w (i 0) (i 1) * Ideal.div 1 (1 + Ideal.exp (0 - acc x w (i 0) (i 1)))

/-- Both tables of the reference are the same. -/
theorem cos_twice : Cert.RetProjRefIdeal.Read.val_main_v63 (F := Ideal) = Cert.RetProjRefIdeal.Read.val_main_v26 (F := Ideal) := rfl
/-- Both tables of the reference are the same. -/
theorem sin_twice : Cert.RetProjRefIdeal.Read.val_main_v65 (F := Ideal) = Cert.RetProjRefIdeal.Read.val_main_v28 (F := Ideal) := rfl

/-- The first half of a pair, read at equal columns. -/
theorem sub_at (x : FVec Ideal S16384x2048 .f32) (w : FVec Ideal S2048x12288 .bf16) (C S : FVec Ideal S8192x128 .f32) (r : Fin 16384)
    (p : Fin 8192) (a b a' b' : Fin 12288) (c c' : Fin 128) (ha : (a : ℕ) = a') (hb : (b : ℕ) = b') (hc : (c : ℕ) = c') :
    (∑ k : Fin 2048, x (ix2 r k) * w (ix2 k a)) * C (ix2 p c) - (∑ k : Fin 2048, x (ix2 r k) * w (ix2 k b)) * S (ix2 p c)
      = (∑ k : Fin 2048, x (ix2 r k) * w (ix2 k a')) * C (ix2 p c') - (∑ k : Fin 2048, x (ix2 r k) * w (ix2 k b')) * S (ix2 p c') := by
  rw [Fin.ext ha, Fin.ext hb, Fin.ext hc]

/-- The second half of a pair, read at equal columns. -/
theorem add_at (x : FVec Ideal S16384x2048 .f32) (w : FVec Ideal S2048x12288 .bf16) (C S : FVec Ideal S8192x128 .f32) (r : Fin 16384)
    (p : Fin 8192) (a b a' b' : Fin 12288) (c c' : Fin 128) (ha : (a : ℕ) = a') (hb : (b : ℕ) = b') (hc : (c : ℕ) = c') :
    (∑ k : Fin 2048, x (ix2 r k) * w (ix2 k a)) * S (ix2 p c) + (∑ k : Fin 2048, x (ix2 r k) * w (ix2 k b)) * C (ix2 p c)
      = (∑ k : Fin 2048, x (ix2 r k) * w (ix2 k a')) * S (ix2 p c') + (∑ k : Fin 2048, x (ix2 r k) * w (ix2 k b')) * C (ix2 p c') := by
  rw [Fin.ext ha, Fin.ext hb, Fin.ext hc]

set_option maxHeartbeats 1000000 in
/-- The reference's result is `out`. -/
theorem ref_eq (x : FVec Ideal S16384x2048 .f32) (w : FVec Ideal S2048x12288 .bf16) :
    Cert.RetProjRefIdeal.Read.val_main_v86 (F := Ideal) x w = out x w := by
  funext i
  have ec : Cert.RetProjRefIdeal.Read.val_main_v26 (F := Ideal) = cosT := rfl
  have es : Cert.RetProjRefIdeal.Read.val_main_v28 (F := Ideal) = sinT := rfl
  idx_vars i
  rw [show out x w (ix2 i0 i1) = (if (i1 : ℕ) < 2048 then rot x w i0 i1 else if (i1 : ℕ) < 4096 then rot x w i0 i1 * _
    else if (i1 : ℕ) < 8192 then acc x w i0 i1 else acc x w i0 i1 * Ideal.div 1 (1 + Ideal.exp (0 - acc x w i0 i1))) from rfl]
  unfold rot turn acc
  generalize cosT = C at ec
  generalize sinT = S at es
  pointwise [cos_twice, sin_twice, ec, es,
    Cert.RetProjRefIdeal.Read.val_main_v86, Cert.RetProjRefIdeal.Read.val_main_v85, Cert.RetProjRefIdeal.Read.val_main_v84,
    Cert.RetProjRefIdeal.Read.val_main_v83, Cert.RetProjRefIdeal.Read.val_main_v82, Cert.RetProjRefIdeal.Read.val_main_v81,
    Cert.RetProjRefIdeal.Read.val_main_v80, Cert.RetProjRefIdeal.Read.val_main_v79, Cert.RetProjRefIdeal.Read.val_main_v78,
    Cert.RetProjRefIdeal.Read.val_main_v77, Cert.RetProjRefIdeal.Read.val_main_v76, Cert.RetProjRefIdeal.Read.val_main_v75,
    Cert.RetProjRefIdeal.Read.val_main_v74, Cert.RetProjRefIdeal.Read.val_main_v73, Cert.RetProjRefIdeal.Read.val_main_v72,
    Cert.RetProjRefIdeal.Read.val_main_v71, Cert.RetProjRefIdeal.Read.val_main_v70, Cert.RetProjRefIdeal.Read.val_main_v69,
    Cert.RetProjRefIdeal.Read.val_main_v68, Cert.RetProjRefIdeal.Read.val_main_v67, Cert.RetProjRefIdeal.Read.val_main_v66,
    Cert.RetProjRefIdeal.Read.val_main_v64, Cert.RetProjRefIdeal.Read.val_main_v44, Cert.RetProjRefIdeal.Read.val_main_v43,
    Cert.RetProjRefIdeal.Read.val_main_v42, Cert.RetProjRefIdeal.Read.val_main_v41, Cert.RetProjRefIdeal.Read.val_main_v40,
    Cert.RetProjRefIdeal.Read.val_main_v39, Cert.RetProjRefIdeal.Read.val_main_v38, Cert.RetProjRefIdeal.Read.val_main_v37,
    Cert.RetProjRefIdeal.Read.val_main_v36, Cert.RetProjRefIdeal.Read.val_main_v35, Cert.RetProjRefIdeal.Read.val_main_v34,
    Cert.RetProjRefIdeal.Read.val_main_v33, Cert.RetProjRefIdeal.Read.val_main_v32, Cert.RetProjRefIdeal.Read.val_main_v31,
    Cert.RetProjRefIdeal.Read.val_main_v30, Cert.RetProjRefIdeal.Read.val_main_v29, Cert.RetProjRefIdeal.Read.val_main_v27,
    Cert.RetProjRefIdeal.Read.val_main_v7, Cert.RetProjRefIdeal.Read.val_main_v6, Cert.RetProjRefIdeal.Read.val_main_v5,
    Cert.RetProjRefIdeal.Read.val_main_v4, Cert.RetProjRefIdeal.Read.val_main_v3, Cert.RetProjRefIdeal.Read.val_main_v2,
    Cert.RetProjRefIdeal.Read.val_main_v1, Cert.RetProjRefIdeal.Read.val_main_v0, Cert.RetProjRefIdeal.Read.val_main_call0_v1,
    Cert.RetProjRefIdeal.Read.val_main_cst_9, Cert.RetProjRefIdeal.Read.val_main_call0_v4, Cert.RetProjRefIdeal.Read.val_main_call0_v0,
    Cert.RetProjRefIdeal.Read.val_main_call0_v2, Cert.RetProjRefIdeal.Read.val_main_call0_v5, Cert.RetProjRefIdeal.Read.val_main_call0_v3,
    Cert.RetProjRefIdeal.Read.val_main_call0_cst, Cert.RetProjRefIdeal.Read.val_main_call0_cst_0]
  by_cases h0 : (i1 : ℕ) < 2048
  · by_cases h1 : (i1 : ℕ) % 256 < 128
    · simp only [h0, h1, ↓reduceDIte, ↓reduceIte]; exact sub_at x w C S _ _ _ _ _ _ _ _ (by simp only; omega) (by simp only; omega) (by simp only; omega)
    · simp only [h0, h1, ↓reduceDIte, ↓reduceIte]; exact add_at x w C S _ _ _ _ _ _ _ _ (by simp only; omega) (by simp only; omega) (by simp only; omega)
  · by_cases h2 : (i1 : ℕ) < 4096
    · have h2' : (i1 : ℕ) - 2048 < 2048 := by omega
      by_cases h1 : (i1 : ℕ) % 256 < 128
      · have h1' : ((i1 : ℕ) - 2048) % 256 < 128 := by omega
        simp only [h0, h1, h2, h1', h2', ↓reduceDIte, ↓reduceIte]; exact congrArg (fun y : EReal => y * Ideal.ofBits .f32 0x3D800000#32) (sub_at x w C S _ _ _ _ _ _ _ _ (by simp only; omega) (by simp only; omega) (by simp only; omega))
      · have h1' : ¬ ((i1 : ℕ) - 2048) % 256 < 128 := by omega
        simp only [h0, h1, h2, h1', h2', ↓reduceDIte, ↓reduceIte]; exact congrArg (fun y : EReal => y * Ideal.ofBits .f32 0x3D800000#32) (add_at x w C S _ _ _ _ _ _ _ _ (by simp only; omega) (by simp only; omega) (by simp only; omega))
    · have h2' : ¬ (i1 : ℕ) - 2048 < 2048 := by omega
      by_cases h3 : (i1 : ℕ) < 8192
      · have h3' : (i1 : ℕ) - 2048 - 2048 < 4096 := by omega
        simp only [h0, h2, h2', h3, h3', ↓reduceDIte, ↓reduceIte]; rw [show (⟨4096 + ((i1 : ℕ) - 2048 - 2048), by omega⟩ : Fin 12288) = i1 from Fin.ext (by simp only; omega)]
      · have h3' : ¬ (i1 : ℕ) - 2048 - 2048 < 4096 := by omega
        have ej : (⟨8192 + ((i1 : ℕ) - 2048 - 2048 - 4096), by omega⟩ : Fin 12288) = i1 := Fin.ext (by simp only; omega)
        simp only [h0, h2, h2', h3, h3', ↓reduceDIte, ↓reduceIte, zero_sub, ej]

end Cert.RetProjIdeal.Hand

end
-- ==== Proof.RetProj.lean ====
/- The retention mixer's projection with rotary positions, scale and gate: every tile of the result is the reference's. -/
module

public import proofs.«01_k».proof.Defs
public import proofs.«01_k».proof.Proof.Gen.RetProjIdeal.Value
public import proofs.«01_k».proof.Proof.Gen.RetProjRefIdeal.Read
public import proofs.«01_k».proof.Proof.RetProjRef
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetProjIdeal.Hand

open Cert.RetProjIdeal Cert.RetProjIdeal.Gen

/-- A tile turned by its rows' angles. -/
def rotT (T : FVec Ideal S1024x2048 .f32) (cs sn : FVec Ideal S1024x128 .f32) (r : Fin 1024) (n : Fin 2048) : EReal :=
  turn n (T (ix2 r ⟨(n : ℕ) / 256 * 256 + (n : ℕ) % 128, by omega⟩)) (T (ix2 r ⟨(n : ℕ) / 256 * 256 + (n : ℕ) % 128 + 128, by omega⟩))
    (cs (ix2 r ⟨(n : ℕ) % 128, by omega⟩)) (sn (ix2 r ⟨(n : ℕ) % 128, by omega⟩))

/-- A turned tile in the first half of a head's columns. -/
theorem rotT_lo (T : FVec Ideal S1024x2048 .f32) (cs sn : FVec Ideal S1024x128 .f32) (y : S1024x2048.Idx) (x : S1024x128.Idx)
    (i1 i2 : Fin 2048) (h0 : (y 0 : ℕ) = x 0) (h : (y 1 : ℕ) % 256 = x 1 ∧ (x 1 : ℕ) < 128) (h1 : (i1 : ℕ) = y 1) (h2 : (i2 : ℕ) = y 1 + 128) :
    rotT T cs sn (y 0) (y 1) = T (ix2 (x 0) i1) * cs x - T (ix2 (x 0) i2) * sn x := by
  have e0 : (y 0 : Fin 1024) = (x 0 : Fin 1024) := Fin.ext h0
  have e1 : (⟨(y 1 : ℕ) / 256 * 256 + (y 1 : ℕ) % 128, by have := (y 1).isLt; omega⟩ : Fin 2048) = i1 := Fin.ext (by simp only; omega)
  have e2 : (⟨(y 1 : ℕ) / 256 * 256 + (y 1 : ℕ) % 128 + 128, by omega⟩ : Fin 2048) = i2 := Fin.ext (by simp only; omega)
  have e3 : (⟨(y 1 : ℕ) % 128, by omega⟩ : Fin 128) = (x 1 : Fin 128) := Fin.ext (by simp only; omega)
  have ex : (ix2 (x 0) (x 1) : S1024x128.Idx) = x := by funext a; fin_cases a <;> rfl
  unfold rotT turn
  rw [if_pos (by omega), e0, e1, e2, e3, ex]

/-- A turned tile in the second half of a head's columns. -/
theorem rotT_hi (T : FVec Ideal S1024x2048 .f32) (cs sn : FVec Ideal S1024x128 .f32) (y : S1024x2048.Idx) (x : S1024x128.Idx)
    (i1 i2 : Fin 2048) (h0 : (y 0 : ℕ) = x 0) (h : (y 1 : ℕ) % 256 = x 1 + 128 ∧ (x 1 : ℕ) < 128) (h1 : (i1 : ℕ) + 128 = y 1) (h2 : (i2 : ℕ) = y 1) :
    rotT T cs sn (y 0) (y 1) = T (ix2 (x 0) i1) * sn x + T (ix2 (x 0) i2) * cs x := by
  have e0 : (y 0 : Fin 1024) = (x 0 : Fin 1024) := Fin.ext h0
  have e1 : (⟨(y 1 : ℕ) / 256 * 256 + (y 1 : ℕ) % 128, by have := (y 1).isLt; omega⟩ : Fin 2048) = i1 := Fin.ext (by simp only; omega)
  have e2 : (⟨(y 1 : ℕ) / 256 * 256 + (y 1 : ℕ) % 128 + 128, by omega⟩ : Fin 2048) = i2 := Fin.ext (by simp only; omega)
  have e3 : (⟨(y 1 : ℕ) % 128, by omega⟩ : Fin 128) = (x 1 : Fin 128) := Fin.ext (by simp only; omega)
  have ex : (ix2 (x 0) (x 1) : S1024x128.Idx) = x := by funext a; fin_cases a <;> rfl
  unfold rotT turn
  rw [if_neg (by omega), e0, e1, e2, e3, ex]

variable (m : (ℓ : Loc nD τ sig) → Buf (Elt Ideal) ℓ)

/-- Where every window stands at grid point `t`. -/
theorem idx : ∀ t : Fin cfg0.N, win0_0.index t = ![t.val / 6, 0] ∧ win0_1.index t = ![0, t.val % 6]
    ∧ win0_2.index t = ![t.val / 6 % 8, 0] ∧ win0_3.index t = ![t.val / 6 % 8, 0] ∧ win0_4.index t = ![t.val / 6, t.val % 6] :=
  (by decide +kernel : ∀ t : Fin grid0.N, _)

/-- The point before `t`, in the same row of tiles. -/
def before (t : Fin cfg0.N) : Fin cfg0.N := ⟨t.val - 1, by omega⟩

/-- Two points of one row of tiles read the same block of rows. -/
theorem rows_before (c : Dev nD) (t : Fin cfg0.N) (h0 : ¬t.val % 6 = 0) :
    k0_pay1 (F := Ideal) (iblk m c 0 (before t)) = k0_pay1 (F := Ideal) (iblk m c 0 t) := by
  funext y
  have hb : (before t).val = t.val - 1 := rfl
  pointwise [k0_pay1]
  blk_point [iblk, V, idx t, idx (before t), hb]

set_option maxHeartbeats 1000000 in
/-- After every point the carried scratch holds its block of rows. -/
theorem scr (c : Dev nD) : ∀ (n : ℕ) (h : n < cfg0.N), (outsAt0 m c n h).2 = k0_pay1 (F := Ideal) (iblk m c 0 ⟨n, h⟩) := by
  intro n
  induction n with
  | zero =>
    intro h
    rw [outsAt0_A m c ⟨0, h⟩ rfl rfl (by simp) (by simp) (by simp)]
    frame_out
  | succ n ih =>
    intro h
    by_cases h0 : (n + 1) % 6 = 0
    · rw [outsAt0_A m c ⟨n + 1, h⟩ h0 h0 (by simp only; omega) (by simp only; omega) (by simp only; omega)]
      frame_out
    · rw [← rows_before m c ⟨n + 1, h⟩ h0]
      have key : ∀ (k : ℕ) (hk : k = n) (h' : k < cfg0.N),
          (outsAt0 m c k h').2 = k0_pay1 (F := Ideal) (iblk m c 0 (before ⟨n + 1, h⟩)) := by
        intro k hk h'; subst hk; exact ih h'
      by_cases h1 : (n + 1) % 6 = 1
      · rw [outsAt0_B m c ⟨n + 1, h⟩ h0 h0 h1 (by simp only; omega) (by simp only; omega)]
        dsimp only [sout0_B_0]; exact key _ (Nat.add_sub_cancel n 1) _
      · by_cases h2 : 4 ≤ (n + 1) % 6
        · rw [outsAt0_D m c ⟨n + 1, h⟩ h0 h0 h1 (by simp only; omega) h2]
          dsimp only [sout0_D_0]; exact key _ (Nat.add_sub_cancel n 1) _
        · rw [outsAt0_C m c ⟨n + 1, h⟩ h0 h0 h1 (by simp only; omega) h2]
          dsimp only [sout0_C_0]; exact key _ (Nat.add_sub_cancel n 1) _

set_option maxHeartbeats 2000000 in
/-- A tile of queries: the projection's tile turned by its rows' angles. -/
theorem tileA (c : Dev nD) (t : Fin cfg0.N) (h0 : t.val % 6 = 0) (y : S1024x2048.Idx) :
    (outsAt0 m c t.val t.isLt).1 y = rotT (k0_pay2 (F := Ideal) (k0_pay1 (F := Ideal) (iblk m c 0 t)) (iblk m c 1 t)) (iblk m c 2 t) (iblk m c 3 t) (y 0) (y 1) := by
  rw [outsAt0_A m c t h0 h0 (by omega) (by omega) (by omega)]
  frame_out
  clear h0
  generalize k0_pay2 (F := Ideal) (k0_pay1 (F := Ideal) (iblk m c 0 t)) (iblk m c 1 t) = T
  generalize iblk m c 2 t = cs
  generalize iblk m c 3 t = sn
  canon_tiles x h
  all_goals
    open_payloads
    pointwise
    first
    | (refine (rotT_lo T cs sn y x _ _ h0 ?_ ?_ ?_).symm <;> first | omega | (simp only; omega))
    | (refine (rotT_hi T cs sn y x _ _ h0 ?_ ?_ ?_).symm <;> first | omega | (simp only; omega))

set_option maxHeartbeats 2000000 in
/-- A tile of keys: the projection's tile turned by its rows' angles and scaled. -/
theorem tileB (c : Dev nD) (t : Fin cfg0.N) (h0 : t.val % 6 = 1) (y : S1024x2048.Idx) :
    (outsAt0 m c t.val t.isLt).1 y = rotT (k0_pay2 (F := Ideal) (k0_pay1 (F := Ideal) (iblk m c 0 t)) (iblk m c 1 t)) (iblk m c 2 t) (iblk m c 3 t) (y 0) (y 1)
      * Ideal.ofBits .f32 0x3D800000#32 := by
  have hs : (outsAt0 m c (t.val - 1) (by omega)).2 = k0_pay1 (F := Ideal) (iblk m c 0 t) :=
    (scr m c _ (before t).isLt).trans (rows_before m c t (by omega))
  rw [outsAt0_B m c t (by omega) (by omega) h0 (by omega) (by omega)]
  rw [hs]
  frame_out
  simp only [read_unread_whole]
  clear h0 hs
  generalize k0_pay2 (F := Ideal) (k0_pay1 (F := Ideal) (iblk m c 0 t)) (iblk m c 1 t) = T
  generalize iblk m c 2 t = cs
  generalize iblk m c 3 t = sn
  canon_tiles x h
  all_goals
    open_payloads
    pointwise
    refine congrArg₂ (· * ·) ?_ rfl
    first
    | (refine (rotT_lo T cs sn y x _ _ h0 ?_ ?_ ?_).symm <;> first | omega | (simp only; omega))
    | (refine (rotT_hi T cs sn y x _ _ h0 ?_ ?_ ?_).symm <;> first | omega | (simp only; omega))

/-- A tile of values: the projection's tile. -/
theorem tileC (c : Dev nD) (t : Fin cfg0.N) (h0 : 2 ≤ t.val % 6 ∧ t.val % 6 ≤ 3) :
    (outsAt0 m c t.val t.isLt).1 = k0_pay7 (F := Ideal) (k0_pay1 (F := Ideal) (iblk m c 0 t)) (iblk m c 1 t) := by
  have hs : (outsAt0 m c (t.val - 1) (by omega)).2 = k0_pay1 (F := Ideal) (iblk m c 0 t) :=
    (scr m c _ (before t).isLt).trans (rows_before m c t (by omega))
  rw [outsAt0_C m c t (by omega) (by omega) (by omega) h0 (by omega)]
  rw [hs]
  frame_out
  rw [read_unread_whole]

/-- A tile of gates: the projection's tile through the gate's function. -/
theorem tileD (c : Dev nD) (t : Fin cfg0.N) (h0 : 4 ≤ t.val % 6) :
    (outsAt0 m c t.val t.isLt).1 = k0_pay8 (F := Ideal) (k0_pay1 (F := Ideal) (iblk m c 0 t)) (iblk m c 1 t) := by
  have hs : (outsAt0 m c (t.val - 1) (by omega)).2 = k0_pay1 (F := Ideal) (iblk m c 0 t) :=
    (scr m c _ (before t).isLt).trans (rows_before m c t (by omega))
  rw [outsAt0_D m c t (by omega) (by omega) (by omega) (by omega) h0]
  rw [hs]
  frame_out
  rw [read_unread_whole]

/-- The kernel's table of cosines is the reference's. -/
theorem cos_eq (c : Dev nD) : V m c main_v17 = cosT := by
  unfold V; after_results
  rfl

/-- The kernel's table of sines is the reference's. -/
theorem sin_eq (c : Dev nD) : V m c main_v18 = sinT := by
  unfold V; after_results
  rfl

/-- The tile of the projection at its place in the array. -/
theorem acc_tile (c : Dev nD) (t : Fin cfg0.N) (r : Fin 1024) (n : Fin 2048) (R : Fin 16384) (N : Fin 12288)
    (hR : (R : ℕ) = t.val / 6 * 1024 + r) (hN : (N : ℕ) = t.val % 6 * 2048 + n) :
    k0_pay2 (F := Ideal) (k0_pay1 (F := Ideal) (iblk m c 0 t)) (iblk m c 1 t) (ix2 r n)
      = acc (m ((c : Thread nD τ).loc main_arg0)) (m ((c : Thread nD τ).loc main_arg1)) R N := by
  pointwise [k0_pay2, k0_pay1, acc]
  blk_point [iblk, V, idx t]

/-- The tile of cosines at its place in the table. -/
theorem cos_tile (c : Dev nD) (t : Fin cfg0.N) (r : Fin 1024) (e : Fin 128) (p : Fin 8192) (hp : (p : ℕ) = t.val / 6 % 8 * 1024 + r) :
    (show FVec Ideal S1024x128 .f32 from iblk m c 2 t) (ix2 r e) = cosT (ix2 p e) := by
  rw [← cos_eq m c]
  blk_point [iblk, idx t]

/-- The tile of sines at its place in the table. -/
theorem sin_tile (c : Dev nD) (t : Fin cfg0.N) (r : Fin 1024) (e : Fin 128) (p : Fin 8192) (hp : (p : ℕ) = t.val / 6 % 8 * 1024 + r) :
    (show FVec Ideal S1024x128 .f32 from iblk m c 3 t) (ix2 r e) = sinT (ix2 p e) := by
  rw [← sin_eq m c]
  blk_point [iblk, idx t]

/-- A turned tile at its place in the turned projection. -/
theorem rot_tile (c : Dev nD) (t : Fin cfg0.N) (r : Fin 1024) (n : Fin 2048) (R : Fin 16384) (N : Fin 12288)
    (hR : (R : ℕ) = t.val / 6 * 1024 + r) (hN : (N : ℕ) = t.val % 6 * 2048 + n) :
    rotT (k0_pay2 (F := Ideal) (k0_pay1 (F := Ideal) (iblk m c 0 t)) (iblk m c 1 t)) (iblk m c 2 t) (iblk m c 3 t) r n
      = rot (m ((c : Thread nD τ).loc main_arg0)) (m ((c : Thread nD τ).loc main_arg1)) R N := by
  have hN1 : (N : ℕ) % 256 = (n : ℕ) % 256 := by omega
  have hN2 : (⟨(N : ℕ) % 128, by omega⟩ : Fin 128) = ⟨(n : ℕ) % 128, by omega⟩ := Fin.ext (by simp only; omega)
  unfold rotT rot turn
  rw [hN1, hN2, acc_tile m c t r _ R ⟨(N : ℕ) / 256 * 256 + (N : ℕ) % 128, by omega⟩ hR (by simp only; omega),
    acc_tile m c t r _ R ⟨(N : ℕ) / 256 * 256 + (N : ℕ) % 128 + 128, by omega⟩ hR (by simp only; omega)]
  have e1 := cos_tile m c t r ⟨(n : ℕ) % 128, by omega⟩ ⟨(R : ℕ) % 8192, by omega⟩ (by simp only; omega)
  have e2 := sin_tile m c t r ⟨(n : ℕ) % 128, by omega⟩ ⟨(R : ℕ) % 8192, by omega⟩ (by simp only; omega)
  rw [← e1, ← e2]

/-- A tile's stored element is `out` at the place in the array where the tile's element sits. -/
theorem point (c : Dev nD) (t : Fin cfg0.N) (y : S1024x2048.Idx) (R : Fin 16384) (N : Fin 12288)
    (hR : (R : ℕ) = t.val / 6 * 1024 + y 0) (hN : (N : ℕ) = t.val % 6 * 2048 + y 1) :
    (outsAt0 m c t.val t.isLt).1 y = out (m ((c : Thread nD τ).loc main_arg0)) (m ((c : Thread nD τ).loc main_arg1)) (ix2 R N) := by
  have b0 : (y 0 : ℕ) < 1024 := (y 0).isLt
  have b1 : (y 1 : ℕ) < 2048 := (y 1).isLt
  have ey : y = ix2 (y 0) (y 1) := by funext a; fin_cases a <;> rfl
  rw [show out (m ((c : Thread nD τ).loc main_arg0)) (m ((c : Thread nD τ).loc main_arg1)) (ix2 R N) = (if (N : ℕ) < 2048 then rot _ _ R N else if (N : ℕ) < 4096 then rot _ _ R N * _ else if (N : ℕ) < 8192 then acc _ _ R N else acc _ _ R N * Ideal.div 1 (1 + Ideal.exp (0 - acc _ _ R N))) from rfl]
  by_cases h0 : t.val % 6 = 0
  · rw [if_pos (by omega), tileA m c t h0, rot_tile m c t _ _ R N hR hN]
  · rw [if_neg (by omega)]
    by_cases h1 : t.val % 6 = 1
    · rw [if_pos (by omega), tileB m c t h1, rot_tile m c t _ _ R N hR hN]
    · rw [if_neg (by omega)]
      by_cases h2 : 4 ≤ t.val % 6
      · rw [if_neg (by omega), tileD m c t h2, ← acc_tile m c t (y 0) (y 1) R N hR hN]
        generalize k0_pay1 (F := Ideal) (iblk m c 0 t) = A
        generalize iblk m c 1 t = B
        rw [ey]
        pointwise [k0_pay8]
      · rw [if_pos (by omega), tileC m c t (by omega), ← acc_tile m c t (y 0) (y 1) R N hR hN]
        generalize k0_pay1 (F := Ideal) (iblk m c 0 t) = A
        generalize iblk m c 1 t = B
        rw [ey]
        pointwise [k0_pay7]

/-- The result array after the run. -/
theorem final (c : Dev nD) : (dats m 0 c).arrAt 4 (cfgs 0).N
    = out (m ((c : Thread nD τ).loc main_arg0)) (m ((c : Thread nD τ).loc main_arg1)) := by
  refine (dats m 0 c).arrAt_eq_of_covers 4 _ (by decide +kernel) fun t _ y => ?_
  blk_simp
  rw [after0_4]
  have e : (((cfg0.win 4).blk t).view.emb y) = ix2 ((((cfg0.win 4).blk t).view.emb y) 0) ((((cfg0.win 4).blk t).view.emb y) 1) := by
    funext a; fin_cases a <;> rfl
  rw [e]
  refine point m c t y _ _ ?_ ?_
  all_goals (blk_simp [idx t] <;> try omega)

end Cert.RetProjIdeal.Hand

/-- The kernel's result is the reference's, element by element, over the extended reals. -/
theorem Cert.RetProjIdeal.Hand.alg : Cert.algebraic_RetProjIdeal_RetProjRefIdeal
    (hRetProjIdeal := Cert.RetProjIdeal.Gen.facts) (hRetProjRefIdeal := Cert.RetProjRefIdeal.Gen.facts) := by
  intro m ρ m' ρ' _ hag
  refine ⟨fun c => Cert.RetProjIdeal.Hand.out (m (c.tc.loc Cert.RetProjIdeal.main_arg0)) (m (c.tc.loc Cert.RetProjIdeal.main_arg1)),
    (θ_run _ _ _).mono ?_ (Cert.RetProjIdeal.Value.run_blocks m ρ), (θ_run _ _ _).mono ?_ (Cert.RetProjRefIdeal.Value.run m' ρ')⟩
  · intro r h c
    obtain ⟨h4, hrest⟩ := h c
    exact ⟨h4.trans (Cert.RetProjIdeal.Hand.final m c), hrest⟩
  · intro r h c
    obtain ⟨h4, hrest⟩ := h c
    obtain ⟨a0, a1⟩ := hag c
    have e := Cert.RetProjIdeal.Hand.ref_eq (m (c.tc.loc Cert.RetProjIdeal.main_arg0)) (m (c.tc.loc Cert.RetProjIdeal.main_arg1))
    refine ⟨h4.trans ?_, hrest⟩
    rw [Cert.RetProjRefIdeal.Read.val_main_v86_eq, a0, a1]; exact e

end
-- ==== Proof.RetOut.lean ====
/- The retention mixer's output projection with its norm: every row tile of the two results is the reference's. -/
module

public import proofs.«01_k».proof.Defs
public import proofs.«01_k».proof.Proof.Norm
public import proofs.«01_k».proof.Proof.Gen.RetOutIdeal.Value
public import proofs.«01_k».proof.Proof.Gen.RetOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RetOutIdeal.Hand

open Cert.RetOutIdeal Cert.RetOutIdeal.Gen

/-- The normed sum of the scaled residual and the projection, at row `i 0` and column `i 1`. -/
def out (o : FVec Ideal S16384x4096 .bf16) (w : FVec Ideal S4096x2048 .bf16) (x : FVec Ideal S16384x2048 .f32)
    (gain : FVec Ideal S2048 .f32) (bias : FVec Ideal S2048 .f32) : FVec Ideal S16384x2048 .f32 := fun i =>
  Cert.Norm.row (fun q : Fin 2048 => Ideal.ofBits .f32 0x3FD744FD#32 * x (ix2 (i 0) q) + ∑ k : Fin 4096, o (ix2 (i 0) k) * w (ix2 k q))
    (i 1) (gain (ix1 (i 1))) (bias (ix1 (i 1)))

/-- The reference's first result is `out`. -/
theorem ref_eq (o : FVec Ideal S16384x4096 .bf16) (w : FVec Ideal S4096x2048 .bf16) (x : FVec Ideal S16384x2048 .f32)
    (gain : FVec Ideal S2048 .f32) (bias : FVec Ideal S2048 .f32) :
    Cert.RetOutRefIdeal.Read.val_main_v29 (F := Ideal) o w x gain bias = out o w x gain bias := by
  funext i
  idx_vars i
  pointwise [out, Cert.Norm.row, Cert.Norm.mean,
    Cert.RetOutRefIdeal.Read.val_main_v30, Cert.RetOutRefIdeal.Read.val_main_v29, Cert.RetOutRefIdeal.Read.val_main_v28, Cert.RetOutRefIdeal.Read.val_main_v27, Cert.RetOutRefIdeal.Read.val_main_v26,
    Cert.RetOutRefIdeal.Read.val_main_v25, Cert.RetOutRefIdeal.Read.val_main_v24, Cert.RetOutRefIdeal.Read.val_main_v23, Cert.RetOutRefIdeal.Read.val_main_v22, Cert.RetOutRefIdeal.Read.val_main_v21,
    Cert.RetOutRefIdeal.Read.val_main_v20, Cert.RetOutRefIdeal.Read.val_main_v19, Cert.RetOutRefIdeal.Read.val_main_cst_4, Cert.RetOutRefIdeal.Read.val_main_v18, Cert.RetOutRefIdeal.Read.val_main_v17,
    Cert.RetOutRefIdeal.Read.val_main_v16, Cert.RetOutRefIdeal.Read.val_main_v15, Cert.RetOutRefIdeal.Read.val_main_cst_3, Cert.RetOutRefIdeal.Read.val_main_v14, Cert.RetOutRefIdeal.Read.val_main_v13,
    Cert.RetOutRefIdeal.Read.val_main_cst_2, Cert.RetOutRefIdeal.Read.val_main_v12, Cert.RetOutRefIdeal.Read.val_main_v11, Cert.RetOutRefIdeal.Read.val_main_v10, Cert.RetOutRefIdeal.Read.val_main_v9,
    Cert.RetOutRefIdeal.Read.val_main_v8, Cert.RetOutRefIdeal.Read.val_main_cst_1, Cert.RetOutRefIdeal.Read.val_main_v7, Cert.RetOutRefIdeal.Read.val_main_v6, Cert.RetOutRefIdeal.Read.val_main_cst_0,
    Cert.RetOutRefIdeal.Read.val_main_v5, Cert.RetOutRefIdeal.Read.val_main_v4, Cert.RetOutRefIdeal.Read.val_main_v3, Cert.RetOutRefIdeal.Read.val_main_cst, Cert.RetOutRefIdeal.Read.val_main_v2,
    Cert.RetOutRefIdeal.Read.val_main_v1, Cert.RetOutRefIdeal.Read.val_main_v0]

variable (m : (ℓ : Loc nD τ sig) → Buf (Elt Ideal) ℓ)

/-- Where every window stands at grid point `t`. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- A tile's stored element is `out` at the place in the array where the tile's element sits. -/
theorem point5 (c : Dev nD) (t : Fin cfg0.N) (y) :
    k0_pay1 (iblk m c 0 t) (iblk m c 1 t) (iblk m c 2 t) (iblk m c 3 t) (iblk m c 4 t) y
      = out (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, out, Cert.Norm.row, Cert.Norm.mean]
  blk_point [iblk, V, idx t]

/-- The first result array after the run. -/
theorem final5 (c : Dev nD) : (dats m 0 c).arrAt 5 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point5 m c t y

/-- The second result's tile is the first's. -/
theorem point6 (c : Dev nD) (t : Fin cfg0.N) (y) :
    k0_pay2 (iblk m c 0 t) (iblk m c 1 t) (iblk m c 2 t) (iblk m c 3 t) (iblk m c 4 t) y
      = out (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay2, k0_pay1, out, Cert.Norm.row, Cert.Norm.mean]
  blk_point [iblk, V, idx t]

/-- The second result array after the run. -/
theorem final6 (c : Dev nD) : (dats m 0 c).arrAt 6 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point6 m c t y

end Cert.RetOutIdeal.Hand

/-- The kernel's two results are the reference's, element by element, over the extended reals. -/
theorem Cert.RetOutIdeal.Hand.alg : Cert.algebraic_RetOutIdeal_RetOutRefIdeal
    (hRetOutIdeal := Cert.RetOutIdeal.Gen.facts) (hRetOutRefIdeal := Cert.RetOutRefIdeal.Gen.facts) := by
  intro m ρ m' ρ' _ hag
  refine ⟨fun c => Cert.RetOutIdeal.Hand.out (m (c.tc.loc Cert.RetOutIdeal.main_arg0)) (m (c.tc.loc Cert.RetOutIdeal.main_arg1)) (m (c.tc.loc Cert.RetOutIdeal.main_arg2)) (m (c.tc.loc Cert.RetOutIdeal.main_arg3)) (m (c.tc.loc Cert.RetOutIdeal.main_arg4)),
    fun c => Cert.RetOutIdeal.Hand.out (m (c.tc.loc Cert.RetOutIdeal.main_arg0)) (m (c.tc.loc Cert.RetOutIdeal.main_arg1)) (m (c.tc.loc Cert.RetOutIdeal.main_arg2)) (m (c.tc.loc Cert.RetOutIdeal.main_arg3)) (m (c.tc.loc Cert.RetOutIdeal.main_arg4)),
    (θ_run _ _ _).mono ?_ (Cert.RetOutIdeal.Value.run_blocks m ρ), (θ_run _ _ _).mono ?_ (Cert.RetOutRefIdeal.Value.run m' ρ')⟩
  · intro r h c
    obtain ⟨h5, h6, hrest⟩ := h c
    exact ⟨h5.trans (Cert.RetOutIdeal.Hand.final5 m c), h6.trans (Cert.RetOutIdeal.Hand.final6 m c), hrest⟩
  · intro r h c
    obtain ⟨h5, h6, hrest⟩ := h c
    obtain ⟨a0, a1, a2, a3, a4⟩ := hag c
    have e := Cert.RetOutIdeal.Hand.ref_eq (m (c.tc.loc Cert.RetOutIdeal.main_arg0)) (m (c.tc.loc Cert.RetOutIdeal.main_arg1)) (m (c.tc.loc Cert.RetOutIdeal.main_arg2)) (m (c.tc.loc Cert.RetOutIdeal.main_arg3)) (m (c.tc.loc Cert.RetOutIdeal.main_arg4))
    refine ⟨h5.trans ?_, h6.trans ?_, hrest⟩
    · rw [a0, a1, a2, a3, a4]; exact e
    · rw [a0, a1, a2, a3, a4]; exact e

end
-- ==== Proof.MixOut.lean ====
/- The other mixers' output projection with its norm: every row tile of the two results is the reference's. -/
module

public import proofs.«01_k».proof.Defs
public import proofs.«01_k».proof.Proof.Norm
public import proofs.«01_k».proof.Proof.Gen.MixOutIdeal.Value
public import proofs.«01_k».proof.Proof.Gen.MixOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOutIdeal.Hand

open Cert.MixOutIdeal Cert.MixOutIdeal.Gen

/-- The normed sum of the scaled residual and the projection, at row `i 0` and column `i 1`. -/
def out (o : FVec Ideal S16384x2048 .bf16) (w : FVec Ideal S2048x2048 .bf16) (x : FVec Ideal S16384x2048 .f32)
    (gain : FVec Ideal S2048 .f32) (bias : FVec Ideal S2048 .f32) : FVec Ideal S16384x2048 .f32 := fun i =>
  Cert.Norm.row (fun q : Fin 2048 => Ideal.ofBits .f32 0x3FD744FD#32 * x (ix2 (i 0) q) + ∑ k : Fin 2048, o (ix2 (i 0) k) * w (ix2 k q))
    (i 1) (gain (ix1 (i 1))) (bias (ix1 (i 1)))

/-- The reference's first result is `out`. -/
theorem ref_eq (o : FVec Ideal S16384x2048 .bf16) (w : FVec Ideal S2048x2048 .bf16) (x : FVec Ideal S16384x2048 .f32)
    (gain : FVec Ideal S2048 .f32) (bias : FVec Ideal S2048 .f32) :
    Cert.MixOutRefIdeal.Read.val_main_v29 (F := Ideal) o w x gain bias = out o w x gain bias := by
  funext i
  idx_vars i
  pointwise [out, Cert.Norm.row, Cert.Norm.mean,
    Cert.MixOutRefIdeal.Read.val_main_v30, Cert.MixOutRefIdeal.Read.val_main_v29, Cert.MixOutRefIdeal.Read.val_main_v28, Cert.MixOutRefIdeal.Read.val_main_v27, Cert.MixOutRefIdeal.Read.val_main_v26,
    Cert.MixOutRefIdeal.Read.val_main_v25, Cert.MixOutRefIdeal.Read.val_main_v24, Cert.MixOutRefIdeal.Read.val_main_v23, Cert.MixOutRefIdeal.Read.val_main_v22, Cert.MixOutRefIdeal.Read.val_main_v21,
    Cert.MixOutRefIdeal.Read.val_main_v20, Cert.MixOutRefIdeal.Read.val_main_v19, Cert.MixOutRefIdeal.Read.val_main_cst_4, Cert.MixOutRefIdeal.Read.val_main_v18, Cert.MixOutRefIdeal.Read.val_main_v17,
    Cert.MixOutRefIdeal.Read.val_main_v16, Cert.MixOutRefIdeal.Read.val_main_v15, Cert.MixOutRefIdeal.Read.val_main_cst_3, Cert.MixOutRefIdeal.Read.val_main_v14, Cert.MixOutRefIdeal.Read.val_main_v13,
    Cert.MixOutRefIdeal.Read.val_main_cst_2, Cert.MixOutRefIdeal.Read.val_main_v12, Cert.MixOutRefIdeal.Read.val_main_v11, Cert.MixOutRefIdeal.Read.val_main_v10, Cert.MixOutRefIdeal.Read.val_main_v9,
    Cert.MixOutRefIdeal.Read.val_main_v8, Cert.MixOutRefIdeal.Read.val_main_cst_1, Cert.MixOutRefIdeal.Read.val_main_v7, Cert.MixOutRefIdeal.Read.val_main_v6, Cert.MixOutRefIdeal.Read.val_main_cst_0,
    Cert.MixOutRefIdeal.Read.val_main_v5, Cert.MixOutRefIdeal.Read.val_main_v4, Cert.MixOutRefIdeal.Read.val_main_v3, Cert.MixOutRefIdeal.Read.val_main_cst, Cert.MixOutRefIdeal.Read.val_main_v2,
    Cert.MixOutRefIdeal.Read.val_main_v1, Cert.MixOutRefIdeal.Read.val_main_v0]

variable (m : (ℓ : Loc nD τ sig) → Buf (Elt Ideal) ℓ)

/-- Where every window stands at grid point `t`. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- A tile's stored element is `out` at the place in the array where the tile's element sits. -/
theorem point5 (c : Dev nD) (t : Fin cfg0.N) (y) :
    k0_pay1 (iblk m c 0 t) (iblk m c 1 t) (iblk m c 2 t) (iblk m c 3 t) (iblk m c 4 t) y
      = out (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, out, Cert.Norm.row, Cert.Norm.mean]
  blk_point [iblk, V, idx t]

/-- The first result array after the run. -/
theorem final5 (c : Dev nD) : (dats m 0 c).arrAt 5 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point5 m c t y

/-- The second result's tile is the first's. -/
theorem point6 (c : Dev nD) (t : Fin cfg0.N) (y) :
    k0_pay2 (iblk m c 0 t) (iblk m c 1 t) (iblk m c 2 t) (iblk m c 3 t) (iblk m c 4 t) y
      = out (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay2, k0_pay1, out, Cert.Norm.row, Cert.Norm.mean]
  blk_point [iblk, V, idx t]

/-- The second result array after the run. -/
theorem final6 (c : Dev nD) : (dats m 0 c).arrAt 6 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point6 m c t y

end Cert.MixOutIdeal.Hand

/-- The kernel's two results are the reference's, element by element, over the extended reals. -/
theorem Cert.MixOutIdeal.Hand.alg : Cert.algebraic_MixOutIdeal_MixOutRefIdeal
    (hMixOutIdeal := Cert.MixOutIdeal.Gen.facts) (hMixOutRefIdeal := Cert.MixOutRefIdeal.Gen.facts) := by
  intro m ρ m' ρ' _ hag
  refine ⟨fun c => Cert.MixOutIdeal.Hand.out (m (c.tc.loc Cert.MixOutIdeal.main_arg0)) (m (c.tc.loc Cert.MixOutIdeal.main_arg1)) (m (c.tc.loc Cert.MixOutIdeal.main_arg2)) (m (c.tc.loc Cert.MixOutIdeal.main_arg3)) (m (c.tc.loc Cert.MixOutIdeal.main_arg4)),
    fun c => Cert.MixOutIdeal.Hand.out (m (c.tc.loc Cert.MixOutIdeal.main_arg0)) (m (c.tc.loc Cert.MixOutIdeal.main_arg1)) (m (c.tc.loc Cert.MixOutIdeal.main_arg2)) (m (c.tc.loc Cert.MixOutIdeal.main_arg3)) (m (c.tc.loc Cert.MixOutIdeal.main_arg4)),
    (θ_run _ _ _).mono ?_ (Cert.MixOutIdeal.Value.run_blocks m ρ), (θ_run _ _ _).mono ?_ (Cert.MixOutRefIdeal.Value.run m' ρ')⟩
  · intro r h c
    obtain ⟨h5, h6, hrest⟩ := h c
    exact ⟨h5.trans (Cert.MixOutIdeal.Hand.final5 m c), h6.trans (Cert.MixOutIdeal.Hand.final6 m c), hrest⟩
  · intro r h c
    obtain ⟨h5, h6, hrest⟩ := h c
    obtain ⟨a0, a1, a2, a3, a4⟩ := hag c
    have e := Cert.MixOutIdeal.Hand.ref_eq (m (c.tc.loc Cert.MixOutIdeal.main_arg0)) (m (c.tc.loc Cert.MixOutIdeal.main_arg1)) (m (c.tc.loc Cert.MixOutIdeal.main_arg2)) (m (c.tc.loc Cert.MixOutIdeal.main_arg3)) (m (c.tc.loc Cert.MixOutIdeal.main_arg4))
    refine ⟨h5.trans ?_, h6.trans ?_, hrest⟩
    · rw [a0, a1, a2, a3, a4]; exact e
    · rw [a0, a1, a2, a3, a4]; exact e

end
-- ==== Proof.RetProjB.lean ====
/- The retention mixer's projection of rounded rows: every tile of the result is the reference's. -/
module

public import proofs.«01_k».proof.Defs
public import proofs.«01_k».proof.Proof.RetProj
public import proofs.«01_k».proof.Proof.Gen.RetProjBIdeal.Value
public import proofs.«01_k».proof.Proof.Gen.RetProjBRefIdeal.Read
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetProjBIdeal.Hand

open Cert.RetProjBIdeal Cert.RetProjBIdeal.Gen
open Cert.RetProjIdeal.Hand (cosT sinT acc turn rot out rotT rotT_lo rotT_hi)

/-- Over the extended reals the reference of the rounded rows is the reference of the rows. -/
theorem ref_eq (x : FVec Ideal S16384x2048 .bf16) (w : FVec Ideal S2048x12288 .bf16) :
    Cert.RetProjBRefIdeal.Read.val_main_v87 (F := Ideal) x w = out x w :=
  (show Cert.RetProjBRefIdeal.Read.val_main_v87 (F := Ideal) x w = Cert.RetProjRefIdeal.Read.val_main_v86 (F := Ideal) x w from rfl).trans
    (Cert.RetProjIdeal.Hand.ref_eq x w)

variable (m : (ℓ : Loc nD τ sig) → Buf (Elt Ideal) ℓ)

/-- Where every window stands at grid point `t`. -/
theorem idx : ∀ t : Fin cfg0.N, win0_0.index t = ![t.val / 6, 0] ∧ win0_1.index t = ![0, t.val % 6]
    ∧ win0_2.index t = ![t.val / 6 % 8, 0] ∧ win0_3.index t = ![t.val / 6 % 8, 0] ∧ win0_4.index t = ![t.val / 6, t.val % 6] :=
  (by decide +kernel : ∀ t : Fin grid0.N, _)

/-- The projection's tile of grid point `t`. -/
def prod (c : Dev nD) (t : Fin cfg0.N) : FVec Ideal S1024x2048 .f32 := k0_pay1 (F := Ideal) (iblk m c 0 t) (iblk m c 1 t)

set_option maxHeartbeats 2000000 in
/-- A tile of queries: the projection's tile turned by its rows' angles. -/
theorem tileA (c : Dev nD) (t : Fin cfg0.N) (h0 : t.val % 6 = 0) (y : S1024x2048.Idx) :
    outsAt0 m c t.val t.isLt y = rotT (prod m c t) (iblk m c 2 t) (iblk m c 3 t) (y 0) (y 1) := by
  rw [outsAt0_A m c t h0 (by omega) (by omega) (by omega)]
  unfold prod
  frame_out
  clear h0
  generalize k0_pay1 (F := Ideal) (iblk m c 0 t) (iblk m c 1 t) = T
  generalize iblk m c 2 t = cs
  generalize iblk m c 3 t = sn
  canon_tiles x h
  all_goals
    open_payloads
    pointwise
    first
    | (refine (rotT_lo T cs sn y x _ _ h0 ?_ ?_ ?_).symm <;> first | omega | (simp only; omega))
    | (refine (rotT_hi T cs sn y x _ _ h0 ?_ ?_ ?_).symm <;> first | omega | (simp only; omega))

set_option maxHeartbeats 2000000 in
/-- A tile of keys: the projection's tile turned by its rows' angles and scaled. -/
theorem tileB (c : Dev nD) (t : Fin cfg0.N) (h0 : t.val % 6 = 1) (y : S1024x2048.Idx) :
    outsAt0 m c t.val t.isLt y = rotT (prod m c t) (iblk m c 2 t) (iblk m c 3 t) (y 0) (y 1) * Ideal.ofBits .f32 0x3D800000#32 := by
  rw [outsAt0_B m c t (by omega) h0 (by omega) (by omega)]
  unfold prod
  frame_out
  clear h0
  generalize k0_pay1 (F := Ideal) (iblk m c 0 t) (iblk m c 1 t) = T
  generalize iblk m c 2 t = cs
  generalize iblk m c 3 t = sn
  canon_tiles x h
  all_goals
    open_payloads
    pointwise
    refine congrArg₂ (· * ·) ?_ rfl
    first
    | (refine (rotT_lo T cs sn y x _ _ h0 ?_ ?_ ?_).symm <;> first | omega | (simp only; omega))
    | (refine (rotT_hi T cs sn y x _ _ h0 ?_ ?_ ?_).symm <;> first | omega | (simp only; omega))

/-- A tile of values: the projection's tile. -/
theorem tileC (c : Dev nD) (t : Fin cfg0.N) (h0 : 2 ≤ t.val % 6 ∧ t.val % 6 ≤ 3) (y : S1024x2048.Idx) :
    outsAt0 m c t.val t.isLt y = prod m c t y := by
  rw [outsAt0_C m c t (by omega) (by omega) h0 (by omega)]
  frame_out
  rfl

/-- A tile of gates: the projection's tile through the gate's function. -/
theorem tileD (c : Dev nD) (t : Fin cfg0.N) (h0 : 4 ≤ t.val % 6) (r : Fin 1024) (n : Fin 2048) :
    outsAt0 m c t.val t.isLt (ix2 r n) = prod m c t (ix2 r n) * Ideal.div 1 (1 + Ideal.exp (0 - prod m c t (ix2 r n))) := by
  rw [outsAt0_D m c t (by omega) (by omega) (by omega) h0]
  frame_out
  unfold prod
  generalize iblk m c 0 t = A
  generalize iblk m c 1 t = B
  pointwise [k0_pay7, k0_pay1]

/-- The kernel's table of cosines is the reference's. -/
theorem cos_eq (c : Dev nD) : V m c main_v17 = cosT := by
  unfold V; after_results
  rfl

/-- The kernel's table of sines is the reference's. -/
theorem sin_eq (c : Dev nD) : V m c main_v18 = sinT := by
  unfold V; after_results
  rfl

/-- The tile of the projection at its place in the array. -/
theorem prod_tile (c : Dev nD) (t : Fin cfg0.N) (r : Fin 1024) (n : Fin 2048) (R : Fin 16384) (N : Fin 12288)
    (hR : (R : ℕ) = t.val / 6 * 1024 + r) (hN : (N : ℕ) = t.val % 6 * 2048 + n) :
    prod m c t (ix2 r n) = acc (m ((c : Thread nD τ).loc main_arg0)) (m ((c : Thread nD τ).loc main_arg1)) R N := by
  pointwise [prod, k0_pay1, acc]
  blk_point [iblk, V, idx t]

/-- The tile of cosines at its place in the table. -/
theorem cos_tile (c : Dev nD) (t : Fin cfg0.N) (r : Fin 1024) (e : Fin 128) (p : Fin 8192) (hp : (p : ℕ) = t.val / 6 % 8 * 1024 + r) :
    (show FVec Ideal S1024x128 .f32 from iblk m c 2 t) (ix2 r e) = cosT (ix2 p e) := by
  rw [← cos_eq m c]
  blk_point [iblk, idx t]

/-- The tile of sines at its place in the table. -/
theorem sin_tile (c : Dev nD) (t : Fin cfg0.N) (r : Fin 1024) (e : Fin 128) (p : Fin 8192) (hp : (p : ℕ) = t.val / 6 % 8 * 1024 + r) :
    (show FVec Ideal S1024x128 .f32 from iblk m c 3 t) (ix2 r e) = sinT (ix2 p e) := by
  rw [← sin_eq m c]
  blk_point [iblk, idx t]

/-- A turned tile at its place in the turned projection. -/
theorem rot_tile (c : Dev nD) (t : Fin cfg0.N) (r : Fin 1024) (n : Fin 2048) (R : Fin 16384) (N : Fin 12288)
    (hR : (R : ℕ) = t.val / 6 * 1024 + r) (hN : (N : ℕ) = t.val % 6 * 2048 + n) :
    rotT (prod m c t) (iblk m c 2 t) (iblk m c 3 t) r n
      = rot (m ((c : Thread nD τ).loc main_arg0)) (m ((c : Thread nD τ).loc main_arg1)) R N := by
  have hN1 : (N : ℕ) % 256 = (n : ℕ) % 256 := by omega
  have hN2 : (⟨(N : ℕ) % 128, by omega⟩ : Fin 128) = ⟨(n : ℕ) % 128, by omega⟩ := Fin.ext (by simp only; omega)
  unfold rotT rot turn
  rw [hN1, hN2, prod_tile m c t r _ R ⟨(N : ℕ) / 256 * 256 + (N : ℕ) % 128, by omega⟩ hR (by simp only; omega),
    prod_tile m c t r _ R ⟨(N : ℕ) / 256 * 256 + (N : ℕ) % 128 + 128, by omega⟩ hR (by simp only; omega)]
  have e1 := cos_tile m c t r ⟨(n : ℕ) % 128, by omega⟩ ⟨(R : ℕ) % 8192, by omega⟩ (by simp only; omega)
  have e2 := sin_tile m c t r ⟨(n : ℕ) % 128, by omega⟩ ⟨(R : ℕ) % 8192, by omega⟩ (by simp only; omega)
  rw [← e1, ← e2]

/-- A tile's stored element is `out` at the place in the array where the tile's element sits. -/
theorem point (c : Dev nD) (t : Fin cfg0.N) (y : S1024x2048.Idx) (R : Fin 16384) (N : Fin 12288)
    (hR : (R : ℕ) = t.val / 6 * 1024 + y 0) (hN : (N : ℕ) = t.val % 6 * 2048 + y 1) :
    outsAt0 m c t.val t.isLt y = out (m ((c : Thread nD τ).loc main_arg0)) (m ((c : Thread nD τ).loc main_arg1)) (ix2 R N) := by
  have b0 : (y 0 : ℕ) < 1024 := (y 0).isLt
  have b1 : (y 1 : ℕ) < 2048 := (y 1).isLt
  have ey : y = ix2 (y 0) (y 1) := by funext a; fin_cases a <;> rfl
  have ep : prod m c t y = acc (m ((c : Thread nD τ).loc main_arg0)) (m ((c : Thread nD τ).loc main_arg1)) R N :=
    (congrArg (prod m c t) ey).trans (prod_tile m c t (y 0) (y 1) R N hR hN)
  show _ = if (N : ℕ) < 2048 then rot _ _ R N else if (N : ℕ) < 4096 then rot _ _ R N * _ else if (N : ℕ) < 8192 then acc _ _ R N
    else acc _ _ R N * Ideal.div 1 (1 + Ideal.exp (0 - acc _ _ R N))
  by_cases h0 : t.val % 6 = 0
  · rw [if_pos (by omega), tileA m c t h0]; exact rot_tile m c t _ _ R N hR hN
  · rw [if_neg (by omega)]
    by_cases h1 : t.val % 6 = 1
    · rw [if_pos (by omega), tileB m c t h1]
      exact congrArg (fun e : EReal => e * Ideal.ofBits .f32 0x3D800000#32) (rot_tile m c t _ _ R N hR hN)
    · rw [if_neg (by omega)]
      by_cases h2 : 4 ≤ t.val % 6
      · rw [if_neg (by omega)]
        refine (congrArg (outsAt0 m c t.val t.isLt) ey).trans ((tileD m c t h2 (y 0) (y 1)).trans ?_)
        exact congrArg (fun e : EReal => e * Ideal.div 1 (1 + Ideal.exp (0 - e))) ((congrArg (prod m c t) ey).symm.trans ep)
      · rw [if_pos (by omega), tileC m c t (by omega)]; exact ep

/-- The result array after the run. -/
theorem final (c : Dev nD) : (dats m 0 c).arrAt 4 (cfgs 0).N
    = out (m ((c : Thread nD τ).loc main_arg0)) (m ((c : Thread nD τ).loc main_arg1)) := by
  refine (dats m 0 c).arrAt_eq_of_covers 4 _ (by decide +kernel) fun t _ y => ?_
  blk_simp
  rw [after0_4]
  have e : (((cfg0.win 4).blk t).view.emb y) = ix2 ((((cfg0.win 4).blk t).view.emb y) 0) ((((cfg0.win 4).blk t).view.emb y) 1) := by
    funext a; fin_cases a <;> rfl
  rw [e]
  refine point m c t y _ _ ?_ ?_
  all_goals (blk_simp [idx t] <;> try omega)

end Cert.RetProjBIdeal.Hand

/-- The kernel's result is the reference's, element by element, over the extended reals. -/
theorem Cert.RetProjBIdeal.Hand.alg : Cert.algebraic_RetProjBIdeal_RetProjBRefIdeal
    (hRetProjBIdeal := Cert.RetProjBIdeal.Gen.facts) (hRetProjBRefIdeal := Cert.RetProjBRefIdeal.Gen.facts) := by
  intro m ρ m' ρ' _ hag
  refine ⟨fun c => Cert.RetProjIdeal.Hand.out (m (c.tc.loc Cert.RetProjBIdeal.main_arg0)) (m (c.tc.loc Cert.RetProjBIdeal.main_arg1)),
    (θ_run _ _ _).mono ?_ (Cert.RetProjBIdeal.Value.run_blocks m ρ), (θ_run _ _ _).mono ?_ (Cert.RetProjBRefIdeal.Value.run m' ρ')⟩
  · intro r h c
    obtain ⟨h4, hrest⟩ := h c
    exact ⟨h4.trans (Cert.RetProjBIdeal.Hand.final m c), hrest⟩
  · intro r h c
    obtain ⟨h4, hrest⟩ := h c
    obtain ⟨a0, a1⟩ := hag c
    have e := Cert.RetProjBIdeal.Hand.ref_eq (m (c.tc.loc Cert.RetProjBIdeal.main_arg0)) (m (c.tc.loc Cert.RetProjBIdeal.main_arg1))
    refine ⟨h4.trans ?_, hrest⟩
    rw [Cert.RetProjBRefIdeal.Read.val_main_v87_eq, a0, a1]; exact e

end
-- ==== Proof.Qkv.lean ====
/- The attention's projection: every tile of the result is the reference's. -/
module

public import proofs.«01_k».proof.Defs
public import proofs.«01_k».proof.Proof.Gen.QkvIdeal.Value
public import proofs.«01_k».proof.Proof.Gen.QkvRefIdeal.Read
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QkvIdeal.Hand

open Cert.QkvIdeal Cert.QkvIdeal.Gen

/-- The product of the rows and the weights. -/
def out (x : FVec Ideal S16384x2048 .bf16) (w : FVec Ideal S2048x2560 .bf16) : FVec Ideal S16384x2560 .bf16 := fun i =>
  ∑ k : Fin 2048, x (ix2 (i 0) k) * w (ix2 k (i 1))

/-- The reference's result is `out`. -/
theorem ref_eq (x : FVec Ideal S16384x2048 .bf16) (w : FVec Ideal S2048x2560 .bf16) :
    Cert.QkvRefIdeal.Read.val_main_v3 (F := Ideal) x w = out x w := by
  funext i
  idx_vars i
  pointwise [out, Cert.QkvRefIdeal.Read.val_main_v3, Cert.QkvRefIdeal.Read.val_main_v2, Cert.QkvRefIdeal.Read.val_main_v1,
    Cert.QkvRefIdeal.Read.val_main_v0]

variable (m : (ℓ : Loc nD τ sig) → Buf (Elt Ideal) ℓ)

/-- Where every window stands at grid point `t`. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- A tile's stored element is `out` at the place in the array where the tile's element sits. -/
theorem point (c : Dev nD) (t : Fin cfg0.N) (y) :
    k0_pay1 (iblk m c 0 t) (iblk m c 1 t) y
      = out (m ((c : Thread nD τ).loc main_arg0)) (m ((c : Thread nD τ).loc main_arg1)) (((cfg0.win 2).blk t).view.emb y) := by
  pointwise [k0_pay1, out]
  blk_point [iblk, V, idx t]

/-- The result array after the run. -/
theorem final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.QkvIdeal.Hand

/-- The kernel's result is the reference's, element by element, over the extended reals. -/
theorem Cert.QkvIdeal.Hand.alg : Cert.algebraic_QkvIdeal_QkvRefIdeal
    (hQkvIdeal := Cert.QkvIdeal.Gen.facts) (hQkvRefIdeal := Cert.QkvRefIdeal.Gen.facts) := by
  intro m ρ m' ρ' _ hag
  refine ⟨fun c => Cert.QkvIdeal.Hand.out (m (c.tc.loc Cert.QkvIdeal.main_arg0)) (m (c.tc.loc Cert.QkvIdeal.main_arg1)),
    (θ_run _ _ _).mono ?_ (Cert.QkvIdeal.Value.run_blocks m ρ), (θ_run _ _ _).mono ?_ (Cert.QkvRefIdeal.Value.run m' ρ')⟩
  · intro r h c
    obtain ⟨h2, hrest⟩ := h c
    exact ⟨h2.trans (Cert.QkvIdeal.Hand.final m c), hrest⟩
  · intro r h c
    obtain ⟨h2, hrest⟩ := h c
    obtain ⟨a0, a1⟩ := hag c
    have e := Cert.QkvIdeal.Hand.ref_eq (m (c.tc.loc Cert.QkvIdeal.main_arg0)) (m (c.tc.loc Cert.QkvIdeal.main_arg1))
    refine ⟨h2.trans ?_, hrest⟩
    rw [a0, a1]; exact e

end
-- ==== Proof.Shift.lean ====
/- The rows of a sequence mixed with the rows before them. -/
module

public import proofs.«01_k».proof.Proof.Words
public import Idealize.ShloMosaic.Lib.Pointwise
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Shift

open Cert.Words

/-- What must be added to row `r` to get the row before it; before a sequence of 8192 rows there are zeros. -/
def shift (X : Fin 16384 → Fin 2048 → EReal) (r : Fin 16384) (k : Fin 2048) : EReal :=
  (if (r : ℕ) % 8192 = 0 then 0 else X ⟨r - 1, by omega⟩ k) - X r k

/-- The difference as the reference reads it out of a padded sequence. -/
theorem shift_eq (X : Fin 16384 → Fin 2048 → EReal) (r : Fin 16384) (k : Fin 2048) :
    (if h : (r : ℕ) / 8192 < 2 ∧ 1 ≤ (r : ℕ) % 8192 ∧ (r : ℕ) % 8192 - 1 < 8192 then
      X ⟨(r : ℕ) / 8192 * 8192 + ((r : ℕ) % 8192 - 1), by omega⟩ k else FloatOps.sitofp (F := Ideal) .f32 0#32) - X r k = shift X r k := by
  unfold shift
  refine congrArg (fun e : EReal => e - X r k) ?_
  by_cases h : (r : ℕ) % 8192 = 0
  · rw [if_pos h, dif_neg (by omega)]; exact zero_word
  · rw [if_neg h, dif_pos (by omega)]
    exact congrArg (fun e => X e k) (Fin.ext (by simp only; omega))

/-- Row `r` moved towards the row before it by the weights `M`. -/
def mixed (X : Fin 16384 → Fin 2048 → EReal) (M : Fin 2048 → EReal) (r : Fin 16384) (k : Fin 2048) : EReal :=
  X r k + shift X r k * M k

/-- The kernel's question whether a row is its tile's first. -/
theorem first_row : ∀ p : Fin 512, IntOp.cmpi .eq (BitVec.ofNat 32 p.val) 0#32 = if p.val = 0 then 1#1 else 0#1 := by
  decide +kernel

/-- The value before row `p` in a column `T` of a tile, as the kernel chooses it: `h` stands before the tile's first row. -/
theorem chosen (T : Fin 512 → EReal) (h : EReal) (n : Fin 32) (p : Fin 512) :
    Scalar.select (IntOp.cmpi .eq (BitVec.ofNat 32 p.val) 0#32) (Scalar.select (Scalar.cmpi .eq (Scalar.select (Scalar.andi (Scalar.xori (Scalar.cmpi .slt (Scalar.remsi (BitVec.ofNat 32 n.val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 n.val) (Scalar.select (Scalar.cmpi .eq 16#32 0#32) 1#32 16#32)) 0#32)) (Scalar.addi (Scalar.remsi (BitVec.ofNat 32 n.val) (Scalar.select (Scalar.cmpi .eq 16#32 0#32) 1#32 16#32)) (Scalar.select (Scalar.cmpi .eq 16#32 0#32) 1#32 16#32)) (Scalar.remsi (BitVec.ofNat 32 n.val) (Scalar.select (Scalar.cmpi .eq 16#32 0#32) 1#32 16#32))) 0#32) 0 h) (T ⟨(p.val + 512 - 1) % 512, Nat.mod_lt _ (by omega)⟩)
      = if (p : ℕ) = 0 then (if (n : ℕ) % 16 = 0 then 0 else h) else T ⟨p - 1, by omega⟩ := by
  refine (choose (first_row p)).trans ?_
  by_cases hp : (p : ℕ) = 0
  · rw [if_pos hp, if_pos hp]; exact choose (first_tile n)
  · rw [if_neg hp, if_neg hp]
    exact congrArg T (Fin.ext (by show ((p : ℕ) + 512 - 1) % 512 = p - 1; omega))

/-- A tile's difference to the row before is the array's, where the tile `T` and the row before it `h` are the array's. -/
theorem tile_eq (X : Fin 16384 → Fin 2048 → EReal) (T : Fin 512 → EReal) (h : EReal) (n : ℕ) (p : Fin 512) (k : Fin 2048) (r : Fin 16384)
    (hr : (r : ℕ) = n * 512 + p) (hT : ∀ (p' : Fin 512) (r' : Fin 16384), (r' : ℕ) = n * 512 + p' → T p' = X r' k)
    (hh : ∀ r' : Fin 16384, (r' : ℕ) + 1 = n * 512 → h = X r' k) :
    (if (p : ℕ) = 0 then (if n % 16 = 0 then 0 else h) else T ⟨p - 1, by omega⟩) - T p = shift X r k := by
  have hp := p.isLt
  refine congrArg₂ (· - ·) ?_ (hT p r hr)
  by_cases h0 : (p : ℕ) = 0
  · rw [if_pos h0]
    by_cases h1 : (r : ℕ) % 8192 = 0
    · rw [if_pos h1, if_pos (by omega)]
    · rw [if_neg h1, if_neg (by omega)]
      exact hh ⟨r - 1, by omega⟩ (by simp only; omega)
  · rw [if_neg h0, if_neg (by omega)]
    exact hT ⟨p - 1, by omega⟩ ⟨r - 1, by omega⟩ (by simp only; omega)

end Cert.Shift

end
-- ==== Proof.RkvTile.lean ====
/- A tile of the mixed rows' projections. -/
module

public import proofs.«01_k».proof.Defs
public import proofs.«01_k».proof.Proof.Shift
public import proofs.«01_k».proof.Proof.Gen.RkvIdeal.Value
public import Idealize.ShloMosaic.Lib.Routing.Ops
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RkvIdeal.Hand

open Cert.RkvIdeal Cert.RkvIdeal.Gen Cert.Shift

/-- A tile's row moved towards the row before it; the row before the tile's first comes with the block `hl`. -/
theorem mixed_apply (i : grid0.Coords) (x : Vec Ideal S512x2048 .f32) (hl : Vec Ideal S1x2048 .f32) (mx : Vec Ideal S1x1x2048 .f32)
    (p : Fin 512) (k : Fin 2048) :
    k0_pay1 i x hl mx (ix2 p k) = x (ix2 p k) + ((if (p : ℕ) = 0 then (if (i 0 : ℕ) % 16 = 0 then 0 else hl (ix2 0 k))
      else x (ix2 ⟨p - 1, by omega⟩ k)) - x (ix2 p k)) * mx (ix3 0 0 k) := by
  pointwise [k0_pay1]
  refine congrArg (fun e : EReal => x (ix2 p k) + (e - x (ix2 p k)) * mx (ix3 0 0 k)) ?_
  exact chosen (fun p => x (ix2 p k)) (hl (ix2 0 k)) (i 0) p

/-- A tile of a projection is the product of the tile's rows and the weights. -/
theorem prod_apply (a : Vec Ideal S512x2048 .bf16) (w : Vec Ideal S1x2048x2048 .bf16) (p : Fin 512) (q : Fin 2048) :
    k0_pay2 a w (ix3 0 p q) = ∑ k : Fin 2048, a (ix2 p k) * w (ix3 0 k q) := by
  pointwise [k0_pay2]

/-- Which rows of the weights the three projections are mixed by. -/
def rowOf : Fin 3 → Fin 6 := ![0, 2, 3]

variable (m : (ℓ : Loc nD τ sig) → Buf (Elt Ideal) ℓ)

/-- The rows of the weights that the kernel takes out for its three projections. -/
theorem mix_apply (c : Dev nD) (a : Fin 3) (k : Fin 2048) :
    (show FVec Ideal S3x1x2048 .f32 from V m c main_v7) (ix3 a 0 k)
      = (show FVec Ideal S6x2048 .f32 from m ((c : Thread nD τ).loc main_arg1)) (ix2 (rowOf a) k) := by
  unfold V
  after_results
  pointwise []
  refine Routing.gather_row _ rfl rfl rfl rfl rfl _ _ a k (rowOf a) ?_ (by decide)
  fin_cases a <;> rfl

/-- Where every window stands at grid point `t`. -/
theorem idx : ∀ t : Fin cfg0.N, win0_0.index t = ![t.val / 3, 0] ∧ win0_1.index t = ![64 * (t.val / 3) - 1, 0]
    ∧ win0_2.index t = ![t.val % 3, 0, 0] ∧ win0_3.index t = ![t.val % 3, 0, 0] ∧ win0_4.index t = ![t.val % 3, t.val / 3, 0] :=
  (by decide +kernel : ∀ t : Fin grid0.N, _)

/-- The tile of rows of grid point `t`. -/
theorem coords0 : ∀ t : Fin cfg0.N, (grid0.coords t 0).val = t.val / 3 :=
  (by decide +kernel : ∀ t : Fin grid0.N, _)

/-- The rows' block at its place in the array. -/
theorem x_tile (c : Dev nD) (t : Fin cfg0.N) (p : Fin 512) (k : Fin 2048) (r : Fin 16384) (hr : (r : ℕ) = t.val / 3 * 512 + p) :
    (show FVec Ideal S512x2048 .f32 from iblk m c 0 t) (ix2 p k)
      = (show FVec Ideal S16384x2048 .f32 from m ((c : Thread nD τ).loc main_arg0)) (ix2 r k) := by
  blk_point [iblk, V, idx t]

/-- The row before the rows' block at its place in the array. -/
theorem halo_tile (c : Dev nD) (t : Fin cfg0.N) (k : Fin 2048) (r : Fin 16384) (hr : (r : ℕ) + 1 = t.val / 3 * 512) :
    (show FVec Ideal S1x2048 .f32 from View.ld (iblk m c 1 t) (Rect.unit ![7, 0] ![1, 2048] inb_S8x2048_S1x2048_7_0)) (ix2 0 k)
      = (show FVec Ideal S16384x2048 .f32 from m ((c : Thread nD τ).loc main_arg0)) (ix2 r k) := by
  blk_point [iblk, V, idx t]

/-- The mixing weights' block at its place in the array. -/
theorem mix_tile (c : Dev nD) (t : Fin cfg0.N) (k : Fin 2048) (a : Fin 3) (ha : (a : ℕ) = t.val % 3) :
    (show FVec Ideal S1x1x2048 .f32 from iblk m c 2 t) (ix3 0 0 k)
      = (show FVec Ideal S6x2048 .f32 from m ((c : Thread nD τ).loc main_arg1)) (ix2 (rowOf a) k) := by
  rw [← mix_apply m c a k]
  blk_point [iblk, idx t]

/-- The projection weights' block at its place in the array. -/
theorem w_tile (c : Dev nD) (t : Fin cfg0.N) (k q : Fin 2048) (a : Fin 3) (ha : (a : ℕ) = t.val % 3) :
    (show FVec Ideal S1x2048x2048 .bf16 from iblk m c 3 t) (ix3 0 k q)
      = (show FVec Ideal S3x2048x2048 .bf16 from m ((c : Thread nD τ).loc main_arg2)) (ix3 a k q) := by
  blk_point [iblk, V, idx t]

/-- The three projections of the rows, each mixed by its own weights. -/
def out (x : FVec Ideal S16384x2048 .f32) (mx : FVec Ideal S6x2048 .f32) (w : FVec Ideal S3x2048x2048 .bf16) :
    FVec Ideal S3x16384x2048 .f32 := fun i =>
  ∑ k : Fin 2048, mixed (fun r k => x (ix2 r k)) (fun k => mx (ix2 (rowOf (i 0)) k)) (i 1) k * w (ix3 (i 0) k (i 2))

/-- A tile's stored element is `out` at the place in the array where the tile's element sits. -/
theorem point (c : Dev nD) (t : Fin cfg0.N) (p : Fin 512) (q : Fin 2048) (a : Fin 3) (r : Fin 16384) (ha : (a : ℕ) = t.val % 3)
    (hr : (r : ℕ) = t.val / 3 * 512 + p) :
    outsAt0 m c t (ix3 0 p q) = out (m ((c : Thread nD τ).loc main_arg0)) (m ((c : Thread nD τ).loc main_arg1))
      (m ((c : Thread nD τ).loc main_arg2)) (ix3 a r q) := by
  unfold outsAt0
  frame_out
  repeat rw [read_unread_whole]
  rw [prod_apply]
  refine Finset.sum_congr rfl fun k _ => ?_
  refine congrArg₂ (· * ·) ?_ (w_tile m c t k q a ha)
  rw [mixed_apply, coords0 t]
  refine congrArg₂ (· + ·) (x_tile m c t p k r hr) (congrArg₂ (· * ·) ?_ (mix_tile m c t k a ha))
  exact tile_eq (fun r k => (show FVec Ideal S16384x2048 .f32 from m ((c : Thread nD τ).loc main_arg0)) (ix2 r k))
    (fun p => (show FVec Ideal S512x2048 .f32 from iblk m c 0 t) (ix2 p k)) _ (t.val / 3) p k r hr (fun p' r' h => x_tile m c t p' k r' h)
    (fun r' h => halo_tile m c t k r' h)

/-- Where an element of a result's tile sits in the array. -/
theorem emb_eq (t : Fin cfg0.N) (y : S1x512x2048.Idx) :
    (((cfg0.win 4).blk t).view.emb y 0).val = t.val % 3 ∧ (((cfg0.win 4).blk t).view.emb y 1).val = t.val / 3 * 512 + (y 1).val
      ∧ (((cfg0.win 4).blk t).view.emb y 2).val = (y 2).val := by
  refine ⟨?_, ?_, ?_⟩ <;> blk_simp [idx t] <;> try omega

/-- The result array after the run. -/
theorem final (c : Dev nD) : (dats m 0 c).arrAt 4 (cfgs 0).N
    = out (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨h0, h1, h2⟩ := emb_eq t y
  blk_simp
  rw [after0_4]
  have hy : y = ix3 0 (y 1) (y 2) := by
    funext a; fin_cases a
    · exact Fin.ext (Nat.lt_one_iff.mp (y 0).isLt)
    · rfl
    · rfl
  have e : (((cfg0.win 4).blk t).view.emb y) = ix3 (((cfg0.win 4).blk t).view.emb y 0) (((cfg0.win 4).blk t).view.emb y 1) (y 2) := by
    funext a; fin_cases a
    · rfl
    · rfl
    · exact Fin.ext h2
  exact (congrArg (outsAt0 m c t) hy).trans ((point m c t (y 1) (y 2) _ _ h0 h1).trans (congrArg (out _ _ _) e.symm))

end Cert.RkvIdeal.Hand

end
-- ==== Proof.Rkv.lean ====
/- The mixed rows' three projections: every tile of the result is the reference's. -/
module

public import proofs.«01_k».proof.Defs
public import proofs.«01_k».proof.Proof.RkvTile
public import proofs.«01_k».proof.Proof.Gen.RkvRefIdeal.Read
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RkvRefIdeal.Hand

open Cert.RkvRefIdeal Cert.RkvRefIdeal.Read Cert.Shift
open Cert.RkvIdeal.Hand (rowOf out)

variable (x : FVec Ideal S16384x2048 .f32) (mx : FVec Ideal S6x2048 .f32) (w : FVec Ideal S3x2048x2048 .bf16)

/-- The difference to the row before, in the reference. -/
theorem shift_apply (r : Fin 16384) (k : Fin 2048) : val_main_v4 (F := Ideal) x (ix2 r k) = shift (fun r k => x (ix2 r k)) r k := by
  pointwise [val_main_v4, val_main_v3, val_main_v2, val_main_v1, val_main_v0, val_main_call0_v0, val_main_c]
  exact shift_eq (fun r k => x (ix2 r k)) r k

/-- The reference's rows mixed for the first projection. -/
theorem mixed0_apply (r : Fin 16384) (k : Fin 2048) :
    val_main_v11 (F := Ideal) x mx (ix2 r k) = mixed (fun r k => x (ix2 r k)) (fun k => mx (ix2 0 k)) r k := by
  pointwise [val_main_v11, val_main_v10, val_main_v9, val_main_v8, val_main_v7, val_main_v6]
  rw [shift_apply]; rfl

/-- The reference's rows mixed for the second projection. -/
theorem mixed1_apply (r : Fin 16384) (k : Fin 2048) :
    val_main_v20 (F := Ideal) x mx (ix2 r k) = mixed (fun r k => x (ix2 r k)) (fun k => mx (ix2 2 k)) r k := by
  pointwise [val_main_v20, val_main_v19, val_main_v18, val_main_v17, val_main_v16, val_main_v15]
  rw [shift_apply]; rfl

/-- The reference's rows mixed for the third projection. -/
theorem mixed2_apply (r : Fin 16384) (k : Fin 2048) :
    val_main_v29 (F := Ideal) x mx (ix2 r k) = mixed (fun r k => x (ix2 r k)) (fun k => mx (ix2 3 k)) r k := by
  pointwise [val_main_v29, val_main_v28, val_main_v27, val_main_v26, val_main_v25, val_main_v24]
  rw [shift_apply]; rfl

/-- The reference's result at one projection, row and column. -/
theorem ref_apply (a : Fin 3) (r : Fin 16384) (q : Fin 2048) : val_main_v36 (F := Ideal) x mx w (ix3 a r q)
    = ∑ k : Fin 2048, mixed (fun r k => x (ix2 r k)) (fun k => mx (ix2 (rowOf a) k)) r k * w (ix3 a k q) := by
  fin_cases a
  all_goals
    pointwise [val_main_v36, val_main_v35, val_main_v34, val_main_v33, val_main_v32, val_main_v31, val_main_v30, val_main_v23,
      val_main_v22, val_main_v21, val_main_v14, val_main_v13, val_main_v12, val_main_v5]
    exact Finset.sum_congr rfl fun k _ => congrArg (· * _) (by first | exact mixed0_apply x mx r k | exact mixed1_apply x mx r k | exact mixed2_apply x mx r k)

/-- The reference's result is `out`. -/
theorem ref_eq : val_main_v36 (F := Ideal) x mx w = out x mx w := by
  funext i
  have hi : i = ix3 (i 0) (i 1) (i 2) := by funext a; fin_cases a <;> rfl
  rw [hi]
  exact ref_apply x mx w (i 0) (i 1) (i 2)

end Cert.RkvRefIdeal.Hand

/-- The kernel's result is the reference's, element by element, over the extended reals. -/
theorem Cert.RkvIdeal.Hand.alg : Cert.algebraic_RkvIdeal_RkvRefIdeal
    (hRkvIdeal := Cert.RkvIdeal.Gen.facts) (hRkvRefIdeal := Cert.RkvRefIdeal.Gen.facts) := by
  intro m ρ m' ρ' _ hag
  refine ⟨fun c => Cert.RkvIdeal.Hand.out (m (c.tc.loc Cert.RkvIdeal.main_arg0)) (m (c.tc.loc Cert.RkvIdeal.main_arg1)) (m (c.tc.loc Cert.RkvIdeal.main_arg2)),
    (θ_run _ _ _).mono ?_ (Cert.RkvIdeal.Value.run_blocks m ρ), (θ_run _ _ _).mono ?_ (Cert.RkvRefIdeal.Value.run m' ρ')⟩
  · intro r h c
    obtain ⟨h4, hrest⟩ := h c
    exact ⟨h4.trans (Cert.RkvIdeal.Hand.final m c), hrest⟩
  · intro r h c
    obtain ⟨h4, hrest⟩ := h c
    obtain ⟨a0, a1, a2⟩ := hag c
    have e := Cert.RkvRefIdeal.Hand.ref_eq (m (c.tc.loc Cert.RkvIdeal.main_arg0)) (m (c.tc.loc Cert.RkvIdeal.main_arg1)) (m (c.tc.loc Cert.RkvIdeal.main_arg2))
    refine ⟨h4.trans ?_, hrest⟩
    rw [Cert.RkvRefIdeal.Read.val_main_v36_eq, a0, a1, a2]; exact e

end
-- ==== Proof.LoraTile.lean ====
/- The low-rank kernel's tiles and the arrays its windows read. -/
module

public import proofs.«01_k».proof.Defs
public import proofs.«01_k».proof.Proof.Shift
public import proofs.«01_k».proof.Proof.Gen.LoraIdeal.Value
public import Idealize.ShloMosaic.Lib.Routing.Ops
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LoraIdeal.Hand

open Cert.LoraIdeal Cert.LoraIdeal.Gen Cert.Shift
open Cert.Words (zero_word)

/-- One over one plus the exponential of the negative. -/
def sgm (z : EReal) : EReal := Ideal.div 1 (1 + Ideal.exp (0 - z))

/-- A tile's difference to the row before; the row before the tile's first comes with the block `hl`. -/
theorem shift_apply (i : grid0.Coords) (x : Vec Ideal S512x2048 .f32) (hl : Vec Ideal S1x2048 .f32) (p : Fin 512) (k : Fin 2048) :
    k0_pay3 i x hl (ix2 p k) = (if (p : ℕ) = 0 then (if (i 0 : ℕ) % 16 = 0 then 0 else hl (ix2 0 k))
      else x (ix2 ⟨p - 1, by omega⟩ k)) - x (ix2 p k) := by
  pointwise [k0_pay3]
  exact congrArg (fun e : EReal => e - x (ix2 p k)) (chosen (fun p => x (ix2 p k)) (hl (ix2 0 k)) (i 0) p)

/-- A tile's rows mixed for the decays. -/
theorem mixed0_apply (i : grid0.Coords) (x : Vec Ideal S512x2048 .f32) (hl : Vec Ideal S1x2048 .f32) (mx : Vec Ideal S3x2048 .f32)
    (p : Fin 512) (k : Fin 2048) : k0_pay5 i x hl mx (ix2 p k) = x (ix2 p k) + k0_pay3 i x hl (ix2 p k) * mx (ix2 0 k) := by
  pointwise [k0_pay5, k0_pay4]

/-- A tile's rows mixed for the rates. -/
theorem mixed1_apply (i : grid0.Coords) (x : Vec Ideal S512x2048 .f32) (hl : Vec Ideal S1x2048 .f32) (mx : Vec Ideal S3x2048 .f32)
    (p : Fin 512) (k : Fin 2048) : k0_pay6 i x hl mx (ix2 p k) = x (ix2 p k) + k0_pay3 i x hl (ix2 p k) * mx (ix2 1 k) := by
  pointwise [k0_pay6, k0_pay4]

/-- A tile's rows mixed for the gates. -/
theorem mixed2_apply (i : grid0.Coords) (x : Vec Ideal S512x2048 .f32) (hl : Vec Ideal S1x2048 .f32) (mx : Vec Ideal S3x2048 .f32)
    (p : Fin 512) (k : Fin 2048) : k0_pay7 i x hl mx (ix2 p k) = x (ix2 p k) + k0_pay3 i x hl (ix2 p k) * mx (ix2 2 k) := by
  pointwise [k0_pay7, k0_pay4]

/-- A tile of decays out of its mixed rows. -/
theorem decay_apply (A : Vec Ideal S512x2048 .bf16) (b : Vec Ideal S1x2048 .f32) (u : Vec Ideal S2048x128 .bf16) (v : Vec Ideal S128x2048 .bf16)
    (p : Fin 512) (q : Fin 2048) : k0_pay8 A b u v (ix2 p q) = Ideal.ofBits .f32 0xBF1B4598#32
      * sgm (b (ix2 0 q) + ∑ e : Fin 128, Ideal.tanh (∑ k : Fin 2048, A (ix2 p k) * u (ix2 k e)) * v (ix2 e q)) := by
  pointwise [k0_pay8, sgm]

/-- A tile of rates out of its mixed rows. -/
theorem rate_apply (A : Vec Ideal S512x2048 .bf16) (b : Vec Ideal S1x2048 .f32) (u : Vec Ideal S2048x128 .bf16) (v : Vec Ideal S128x2048 .bf16)
    (p : Fin 512) (q : Fin 2048) : k0_pay1 (k0_pay9 A b u v) (ix2 p q)
      = sgm (b (ix2 0 q) + ∑ e : Fin 128, (∑ k : Fin 2048, A (ix2 p k) * u (ix2 k e)) * v (ix2 e q)) := by
  pointwise [k0_pay1, k0_pay9, sgm]

/-- A tile of gates out of its mixed rows. -/
theorem gate_apply (A : Vec Ideal S512x2048 .bf16) (u : Vec Ideal S2048x256 .bf16) (v : Vec Ideal S256x2048 .bf16)
    (p : Fin 512) (q : Fin 2048) : k0_pay2 A u v (ix2 p q)
      = ∑ e : Fin 256, sgm (∑ k : Fin 2048, A (ix2 p k) * u (ix2 k e)) * v (ix2 e q) := by
  pointwise [k0_pay2, sgm]

/-- A sum over 128 columns whose last 32 count nothing. -/
theorem sum_padded (f : Fin 128 → EReal) (g : Fin 128 → EReal) (hg : ∀ e : Fin 128, ¬(e : ℕ) < 96 → g e = 0) :
    ∑ e : Fin 128, f e * g e = ∑ e : Fin 96, f ⟨e, by omega⟩ * g ⟨e, by omega⟩ := by
  refine (Fin.sum_univ_add (a := 96) (b := 32) fun e => f e * g e).trans ?_
  refine (congrArg₂ (· + ·) rfl (Finset.sum_eq_zero fun e _ => ?_)).trans (add_zero _)
  rw [hg _ (by simp), mul_zero]

/-- Which rows of the weights the decays, rates and gates are mixed by. -/
def rowOf : Fin 3 → Fin 6 := ![1, 4, 5]

variable (m : (ℓ : Loc nD τ sig) → Buf (Elt Ideal) ℓ)

/-- The rows of the weights that the kernel takes out. -/
theorem V_mix (c : Dev nD) (a : Fin 3) (k : Fin 2048) :
    (show FVec Ideal S3x2048 .f32 from V m c main_v6) (ix2 a k)
      = (show FVec Ideal S6x2048 .f32 from m ((c : Thread nD τ).loc main_arg1)) (ix2 (rowOf a) k) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  refine Routing.gather_row _ rfl rfl rfl rfl rfl _ _ a k (rowOf a) ?_ (by decide)
  fin_cases a <;> rfl

/-- The offsets of the decays. -/
theorem V_w0 (c : Dev nD) (q : Fin 2048) : (show FVec Ideal S1x2048 .f32 from V m c main_v7) (ix2 0 q)
    = (show FVec Ideal S2048 .f32 from m ((c : Thread nD τ).loc main_arg2)) (ix1 q) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  pointwise []

/-- The offsets of the rates. -/
theorem V_a0 (c : Dev nD) (q : Fin 2048) : (show FVec Ideal S1x2048 .f32 from V m c main_v8) (ix2 0 q)
    = (show FVec Ideal S2048 .f32 from m ((c : Thread nD τ).loc main_arg5)) (ix1 q) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  pointwise []

/-- The first weights of the decays, padded with columns of zeros. -/
theorem V_w1 (c : Dev nD) (k : Fin 2048) (e : Fin 128) : (show FVec Ideal S2048x128 .bf16 from V m c main_v10) (ix2 k e)
    = if h : (e : ℕ) < 96 then (show FVec Ideal S2048x96 .f32 from m ((c : Thread nD τ).loc main_arg3)) (ix2 k ⟨e, h⟩) else 0 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  simp only [StableHlo.TRef.toBuf, StableHlo.TRef.ofBuf, StableHlo.TRef.of, cast_eq, eqRec_eq_cast]
  pointwise []
  exact dite_congr rfl (fun _ => rfl) fun _ => zero_word

/-- The first weights of the rates, padded with columns of zeros. -/
theorem V_a1 (c : Dev nD) (k : Fin 2048) (e : Fin 128) : (show FVec Ideal S2048x128 .bf16 from V m c main_v14) (ix2 k e)
    = if h : (e : ℕ) < 96 then (show FVec Ideal S2048x96 .f32 from m ((c : Thread nD τ).loc main_arg6)) (ix2 k ⟨e, h⟩) else 0 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  simp only [StableHlo.TRef.toBuf, StableHlo.TRef.ofBuf, StableHlo.TRef.of, cast_eq, eqRec_eq_cast]
  pointwise []
  exact dite_congr rfl (fun _ => rfl) fun _ => zero_word

/-- The second weights of the decays, padded with rows of zeros. -/
theorem V_w2 (c : Dev nD) (e : Fin 128) (q : Fin 2048) : (show FVec Ideal S128x2048 .bf16 from V m c main_v12) (ix2 e q)
    = if h : (e : ℕ) < 96 then (show FVec Ideal S96x2048 .f32 from m ((c : Thread nD τ).loc main_arg4)) (ix2 ⟨e, h⟩ q) else 0 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  simp only [StableHlo.TRef.toBuf, StableHlo.TRef.ofBuf, StableHlo.TRef.of, cast_eq, eqRec_eq_cast]
  pointwise []
  exact dite_congr rfl (fun _ => rfl) fun _ => zero_word

/-- The second weights of the rates, padded with rows of zeros. -/
theorem V_a2 (c : Dev nD) (e : Fin 128) (q : Fin 2048) : (show FVec Ideal S128x2048 .bf16 from V m c main_v16) (ix2 e q)
    = if h : (e : ℕ) < 96 then (show FVec Ideal S96x2048 .f32 from m ((c : Thread nD τ).loc main_arg7)) (ix2 ⟨e, h⟩ q) else 0 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  simp only [StableHlo.TRef.toBuf, StableHlo.TRef.ofBuf, StableHlo.TRef.of, cast_eq, eqRec_eq_cast]
  pointwise []
  exact dite_congr rfl (fun _ => rfl) fun _ => zero_word

/-- The first weights of the gates. -/
theorem V_g1 (c : Dev nD) (k : Fin 2048) (e : Fin 256) : (show FVec Ideal S2048x256 .bf16 from V m c main_v17) (ix2 k e)
    = (show FVec Ideal S2048x256 .f32 from m ((c : Thread nD τ).loc main_arg8)) (ix2 k e) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  pointwise []

/-- The second weights of the gates. -/
theorem V_g2 (c : Dev nD) (k : Fin 256) (e : Fin 2048) : (show FVec Ideal S256x2048 .bf16 from V m c main_v18) (ix2 k e)
    = (show FVec Ideal S256x2048 .f32 from m ((c : Thread nD τ).loc main_arg9)) (ix2 k e) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results
  pointwise []

end Cert.LoraIdeal.Hand

end
-- ==== Proof.LoraPoint.lean ====
/- The low-rank kernel's three results: every tile is the formula's. -/
module

public import proofs.«01_k».proof.Defs
public import proofs.«01_k».proof.Proof.LoraTile
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LoraIdeal.Hand

open Cert.LoraIdeal Cert.LoraIdeal.Gen Cert.Shift

/-- The rows mixed by one row of the weights. -/
def rows (x : FVec Ideal S16384x2048 .f32) (mx : FVec Ideal S6x2048 .f32) (a : Fin 3) (r : Fin 16384) (k : Fin 2048) : EReal :=
  mixed (fun r k => x (ix2 r k)) (fun k => mx (ix2 (rowOf a) k)) r k

/-- The decays. -/
def decay (x : FVec Ideal S16384x2048 .f32) (mx : FVec Ideal S6x2048 .f32) (b : FVec Ideal S2048 .f32) (u : FVec Ideal S2048x96 .f32)
    (v : FVec Ideal S96x2048 .f32) : FVec Ideal S16384x2048 .f32 := fun i => Ideal.ofBits .f32 0xBF1B4598#32
  * sgm (b (ix1 (i 1)) + ∑ e : Fin 96, Ideal.tanh (∑ k : Fin 2048, rows x mx 0 (i 0) k * u (ix2 k e)) * v (ix2 e (i 1)))

/-- The rates. -/
def rate (x : FVec Ideal S16384x2048 .f32) (mx : FVec Ideal S6x2048 .f32) (b : FVec Ideal S2048 .f32) (u : FVec Ideal S2048x96 .f32)
    (v : FVec Ideal S96x2048 .f32) : FVec Ideal S16384x2048 .f32 := fun i =>
  sgm (b (ix1 (i 1)) + ∑ e : Fin 96, (∑ k : Fin 2048, rows x mx 1 (i 0) k * u (ix2 k e)) * v (ix2 e (i 1)))

/-- The gates. -/
def gate (x : FVec Ideal S16384x2048 .f32) (mx : FVec Ideal S6x2048 .f32) (u : FVec Ideal S2048x256 .f32)
    (v : FVec Ideal S256x2048 .f32) : FVec Ideal S16384x2048 .bf16 := fun i =>
  ∑ e : Fin 256, sgm (∑ k : Fin 2048, rows x mx 2 (i 0) k * u (ix2 k e)) * v (ix2 e (i 1))

variable (m : (ℓ : Loc nD τ sig) → Buf (Elt Ideal) ℓ)

/-- Where every window stands at grid point `t`. -/
theorem idx : ∀ t : Fin cfg0.N, win0_0.index t = ![t.val, 0] ∧ win0_1.index t = ![64 * t.val - 1, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val, 0]
    ∧ win0_12.index t = ![t.val, 0] ∧ win0_13.index t = ![t.val, 0] :=
  (by decide +kernel : ∀ t : Fin grid0.N, _)

/-- The tile of rows of grid point `t`. -/
theorem coords0 : ∀ t : Fin cfg0.N, (grid0.coords t 0).val = t.val :=
  (by decide +kernel : ∀ t : Fin grid0.N, _)

/-- The rows' block at its place in the array. -/
theorem x_tile (c : Dev nD) (t : Fin cfg0.N) (p : Fin 512) (k : Fin 2048) (r : Fin 16384) (hr : (r : ℕ) = t.val * 512 + p) :
    (show FVec Ideal S512x2048 .f32 from iblk m c 0 t) (ix2 p k) = (show FVec Ideal S16384x2048 .f32 from m ((c : Thread nD τ).loc main_arg0)) (ix2 r k) := by
  blk_point [iblk, V, idx t]

/-- The row before the rows' block at its place in the array. -/
theorem halo_tile (c : Dev nD) (t : Fin cfg0.N) (k : Fin 2048) (r : Fin 16384) (hr : (r : ℕ) + 1 = t.val * 512) :
    (show FVec Ideal S1x2048 .f32 from View.ld (iblk m c 1 t) (Rect.unit ![7, 0] ![1, 2048] inb_S8x2048_S1x2048_7_0)) (ix2 0 k)
      = (show FVec Ideal S16384x2048 .f32 from m ((c : Thread nD τ).loc main_arg0)) (ix2 r k) := by
  blk_point [iblk, V, idx t]

/-- The blocks that are whole arrays. -/
theorem mix_tile (c : Dev nD) (t : Fin cfg0.N) (a : Fin 3) (k : Fin 2048) :
    (show FVec Ideal S3x2048 .f32 from iblk m c 2 t) (ix2 a k) = (show FVec Ideal S6x2048 .f32 from m ((c : Thread nD τ).loc main_arg1)) (ix2 (rowOf a) k) := by
  rw [← V_mix m c a k]; blk_point [iblk, idx t]
theorem w0_tile (c : Dev nD) (t : Fin cfg0.N) (q : Fin 2048) :
    (show FVec Ideal S1x2048 .f32 from iblk m c 3 t) (ix2 0 q) = (show FVec Ideal S2048 .f32 from m ((c : Thread nD τ).loc main_arg2)) (ix1 q) := by
  rw [← V_w0 m c q]; blk_point [iblk, idx t]
theorem a0_tile (c : Dev nD) (t : Fin cfg0.N) (q : Fin 2048) :
    (show FVec Ideal S1x2048 .f32 from iblk m c 4 t) (ix2 0 q) = (show FVec Ideal S2048 .f32 from m ((c : Thread nD τ).loc main_arg5)) (ix1 q) := by
  rw [← V_a0 m c q]; blk_point [iblk, idx t]
theorem w1_tile (c : Dev nD) (t : Fin cfg0.N) (k : Fin 2048) (e : Fin 128) :
    (show FVec Ideal S2048x128 .bf16 from iblk m c 5 t) (ix2 k e) = if h : (e : ℕ) < 96 then (show FVec Ideal S2048x96 .f32 from m ((c : Thread nD τ).loc main_arg3)) (ix2 k ⟨e, h⟩) else 0 := by
  rw [← V_w1 m c k e]; blk_point [iblk, idx t]
theorem w2_tile (c : Dev nD) (t : Fin cfg0.N) (e : Fin 128) (q : Fin 2048) :
    (show FVec Ideal S128x2048 .bf16 from iblk m c 6 t) (ix2 e q) = if h : (e : ℕ) < 96 then (show FVec Ideal S96x2048 .f32 from m ((c : Thread nD τ).loc main_arg4)) (ix2 ⟨e, h⟩ q) else 0 := by
  rw [← V_w2 m c e q]; blk_point [iblk, idx t]
theorem a1_tile (c : Dev nD) (t : Fin cfg0.N) (k : Fin 2048) (e : Fin 128) :
    (show FVec Ideal S2048x128 .bf16 from iblk m c 7 t) (ix2 k e) = if h : (e : ℕ) < 96 then (show FVec Ideal S2048x96 .f32 from m ((c : Thread nD τ).loc main_arg6)) (ix2 k ⟨e, h⟩) else 0 := by
  rw [← V_a1 m c k e]; blk_point [iblk, idx t]
theorem a2_tile (c : Dev nD) (t : Fin cfg0.N) (e : Fin 128) (q : Fin 2048) :
    (show FVec Ideal S128x2048 .bf16 from iblk m c 8 t) (ix2 e q) = if h : (e : ℕ) < 96 then (show FVec Ideal S96x2048 .f32 from m ((c : Thread nD τ).loc main_arg7)) (ix2 ⟨e, h⟩ q) else 0 := by
  rw [← V_a2 m c e q]; blk_point [iblk, idx t]
theorem g1_tile (c : Dev nD) (t : Fin cfg0.N) (k : Fin 2048) (e : Fin 256) :
    (show FVec Ideal S2048x256 .bf16 from iblk m c 9 t) (ix2 k e) = (show FVec Ideal S2048x256 .f32 from m ((c : Thread nD τ).loc main_arg8)) (ix2 k e) := by
  rw [← V_g1 m c k e]; blk_point [iblk, idx t]
theorem g2_tile (c : Dev nD) (t : Fin cfg0.N) (e : Fin 256) (q : Fin 2048) :
    (show FVec Ideal S256x2048 .bf16 from iblk m c 10 t) (ix2 e q) = (show FVec Ideal S256x2048 .f32 from m ((c : Thread nD τ).loc main_arg9)) (ix2 e q) := by
  rw [← V_g2 m c e q]; blk_point [iblk, idx t]

/-- A tile's difference to the row before is the array's. -/
theorem shift_tile (c : Dev nD) (t : Fin cfg0.N) (p : Fin 512) (k : Fin 2048) (r : Fin 16384) (hr : (r : ℕ) = t.val * 512 + p) :
    k0_pay3 (grid0.coords t) (iblk m c 0 t) (View.ld (iblk m c 1 t) (Rect.unit ![7, 0] ![1, 2048] inb_S8x2048_S1x2048_7_0)) (ix2 p k)
      = shift (fun r k => (show FVec Ideal S16384x2048 .f32 from m ((c : Thread nD τ).loc main_arg0)) (ix2 r k)) r k := by
  rw [shift_apply, coords0 t]
  exact tile_eq (fun r k => (show FVec Ideal S16384x2048 .f32 from m ((c : Thread nD τ).loc main_arg0)) (ix2 r k))
    (fun p => (show FVec Ideal S512x2048 .f32 from iblk m c 0 t) (ix2 p k)) _ t.val p k r hr (fun p' r' h => x_tile m c t p' k r' h)
    (fun r' h => halo_tile m c t k r' h)

/-- A tile's mixed row is the array's. -/
theorem mixed_tile (c : Dev nD) (t : Fin cfg0.N) (a : Fin 3) (p : Fin 512) (k : Fin 2048) (r : Fin 16384) (hr : (r : ℕ) = t.val * 512 + p) :
    (show FVec Ideal S512x2048 .f32 from iblk m c 0 t) (ix2 p k)
      + k0_pay3 (grid0.coords t) (iblk m c 0 t) (View.ld (iblk m c 1 t) (Rect.unit ![7, 0] ![1, 2048] inb_S8x2048_S1x2048_7_0)) (ix2 p k)
        * (show FVec Ideal S3x2048 .f32 from iblk m c 2 t) (ix2 a k)
      = rows (m ((c : Thread nD τ).loc main_arg0)) (m ((c : Thread nD τ).loc main_arg1)) a r k :=
  congrArg₂ (· + ·) (x_tile m c t p k r hr) (congrArg₂ (· * ·) (shift_tile m c t p k r hr) (mix_tile m c t a k))

/-- The decays' tile at its place in the array. -/
theorem decay_point (c : Dev nD) (t : Fin cfg0.N) (p : Fin 512) (q : Fin 2048) (r : Fin 16384) (hr : (r : ℕ) = t.val * 512 + p) :
    (dats m 0 c).after 11 t (ix2 p q) = decay (m ((c : Thread nD τ).loc main_arg0)) (m ((c : Thread nD τ).loc main_arg1))
      (m ((c : Thread nD τ).loc main_arg2)) (m ((c : Thread nD τ).loc main_arg3)) (m ((c : Thread nD τ).loc main_arg4)) (ix2 r q) := by
  rw [after0_11]
  frame_out
  refine (decay_apply _ _ _ _ p q).trans ?_
  refine congrArg₂ (fun (a b : EReal) => Ideal.ofBits .f32 0xBF1B4598#32 * sgm (a + b)) (w0_tile m c t q) ?_
  refine (sum_padded _ _ fun e he => ?_).trans (Finset.sum_congr rfl fun e _ => congrArg₂ (fun a b : EReal => Ideal.tanh a * b)
    (Finset.sum_congr rfl fun k _ => congrArg₂ (· * ·) ?_ ?_) ?_)
  · exact (w2_tile m c t e q).trans (dif_neg he)
  · exact (mixed0_apply _ _ _ _ p k).trans (mixed_tile m c t 0 p k r hr)
  · exact (w1_tile m c t k _).trans (dif_pos e.isLt)
  · exact (w2_tile m c t _ q).trans (dif_pos e.isLt)

/-- The rates' tile at its place in the array. -/
theorem rate_point (c : Dev nD) (t : Fin cfg0.N) (p : Fin 512) (q : Fin 2048) (r : Fin 16384) (hr : (r : ℕ) = t.val * 512 + p) :
    (dats m 0 c).after 12 t (ix2 p q) = rate (m ((c : Thread nD τ).loc main_arg0)) (m ((c : Thread nD τ).loc main_arg1))
      (m ((c : Thread nD τ).loc main_arg5)) (m ((c : Thread nD τ).loc main_arg6)) (m ((c : Thread nD τ).loc main_arg7)) (ix2 r q) := by
  rw [after0_12]
  frame_out
  refine (rate_apply _ _ _ _ p q).trans ?_
  refine congrArg₂ (fun (a b : EReal) => sgm (a + b)) (a0_tile m c t q) ?_
  refine (sum_padded _ _ fun e he => ?_).trans (Finset.sum_congr rfl fun e _ => congrArg₂ (fun a b : EReal => a * b)
    (Finset.sum_congr rfl fun k _ => congrArg₂ (· * ·) ?_ ?_) ?_)
  · exact (a2_tile m c t e q).trans (dif_neg he)
  · exact (mixed1_apply _ _ _ _ p k).trans (mixed_tile m c t 1 p k r hr)
  · exact (a1_tile m c t k _).trans (dif_pos e.isLt)
  · exact (a2_tile m c t _ q).trans (dif_pos e.isLt)

/-- The gates' tile at its place in the array. -/
theorem gate_point (c : Dev nD) (t : Fin cfg0.N) (p : Fin 512) (q : Fin 2048) (r : Fin 16384) (hr : (r : ℕ) = t.val * 512 + p) :
    (dats m 0 c).after 13 t (ix2 p q) = gate (m ((c : Thread nD τ).loc main_arg0)) (m ((c : Thread nD τ).loc main_arg1))
      (m ((c : Thread nD τ).loc main_arg8)) (m ((c : Thread nD τ).loc main_arg9)) (ix2 r q) := by
  rw [after0_13]
  frame_out
  refine (gate_apply _ _ _ p q).trans ?_
  refine Finset.sum_congr rfl fun e _ => congrArg₂ (fun a b : EReal => sgm a * b) (Finset.sum_congr rfl fun k _ => congrArg₂ (· * ·) ?_
    (g1_tile m c t k e)) (g2_tile m c t e q)
  exact (mixed2_apply _ _ _ _ p k).trans (mixed_tile m c t 2 p k r hr)

/-- The array of decays after the run. -/
theorem decay_final (c : Dev nD) : (dats m 0 c).arrAt 11 (cfgs 0).N = decay (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t _ y => ?_
  have h0 : (((cfg0.win 11).blk t).view.emb y 0).val = t.val * 512 + (y 0).val := by blk_simp [idx t] <;> try omega
  have h1 : (((cfg0.win 11).blk t).view.emb y 1).val = (y 1).val := by blk_simp [idx t] <;> try omega
  have hy : y = ix2 (y 0) (y 1) := by funext a; fin_cases a <;> rfl
  have e : (((cfg0.win 11).blk t).view.emb y) = ix2 (((cfg0.win 11).blk t).view.emb y 0) (y 1) := by
    funext a; fin_cases a
    · rfl
    · exact Fin.ext h1
  blk_simp
  exact (congrArg ((dats m 0 c).after 11 t) hy).trans ((decay_point m c t (y 0) (y 1) _ h0).trans (congrArg (decay _ _ _ _ _) e.symm))

/-- The array of rates after the run. -/
theorem rate_final (c : Dev nD) : (dats m 0 c).arrAt 12 (cfgs 0).N = rate (m ((c : Thread nD τ).loc main_arg0)) (m ((c : Thread nD τ).loc main_arg1)) (m ((c : Thread nD τ).loc main_arg5)) (m ((c : Thread nD τ).loc main_arg6)) (m ((c : Thread nD τ).loc main_arg7)) := by
  refine (dats m 0 c).arrAt_eq_of_covers 12 _ (by decide +kernel) fun t _ y => ?_
  have h0 : (((cfg0.win 12).blk t).view.emb y 0).val = t.val * 512 + (y 0).val := by blk_simp [idx t] <;> try omega
  have h1 : (((cfg0.win 12).blk t).view.emb y 1).val = (y 1).val := by blk_simp [idx t] <;> try omega
  have hy : y = ix2 (y 0) (y 1) := by funext a; fin_cases a <;> rfl
  have e : (((cfg0.win 12).blk t).view.emb y) = ix2 (((cfg0.win 12).blk t).view.emb y 0) (y 1) := by
    funext a; fin_cases a
    · rfl
    · exact Fin.ext h1
  blk_simp
  exact (congrArg ((dats m 0 c).after 12 t) hy).trans ((rate_point m c t (y 0) (y 1) _ h0).trans (congrArg (rate _ _ _ _ _) e.symm))

/-- The array of gates after the run. -/
theorem gate_final (c : Dev nD) : (dats m 0 c).arrAt 13 (cfgs 0).N = gate (m ((c : Thread nD τ).loc main_arg0)) (m ((c : Thread nD τ).loc main_arg1)) (m ((c : Thread nD τ).loc main_arg8)) (m ((c : Thread nD τ).loc main_arg9)) := by
  refine (dats m 0 c).arrAt_eq_of_covers 13 _ (by decide +kernel) fun t _ y => ?_
  have h0 : (((cfg0.win 13).blk t).view.emb y 0).val = t.val * 512 + (y 0).val := by blk_simp [idx t] <;> try omega
  have h1 : (((cfg0.win 13).blk t).view.emb y 1).val = (y 1).val := by blk_simp [idx t] <;> try omega
  have hy : y = ix2 (y 0) (y 1) := by funext a; fin_cases a <;> rfl
  have e : (((cfg0.win 13).blk t).view.emb y) = ix2 (((cfg0.win 13).blk t).view.emb y 0) (y 1) := by
    funext a; fin_cases a
    · rfl
    · exact Fin.ext h1
  blk_simp
  exact (congrArg ((dats m 0 c).after 13 t) hy).trans ((gate_point m c t (y 0) (y 1) _ h0).trans (congrArg (gate _ _ _ _) e.symm))

end Cert.LoraIdeal.Hand

end
-- ==== Proof.Softplus.lean ====
/- The exponential of a negated softplus is the logistic function. -/
module

public import proofs.«01_k».proof.Defs

@[expose] public section

noncomputable section

open Idealize.ShloMosaic

namespace Cert.Softplus

/-- For real `r`, with the softplus as `max r 0 + log (1 + exp (-|r|))`. -/
theorem exp_neg_real (r : ℝ) : Real.exp (-(max r 0 + Real.log (1 + Real.exp (-max r (-r))))) = (1 + Real.exp r)⁻¹ := by
  have h1 : 0 < 1 + Real.exp (-max r (-r)) := by positivity
  rw [neg_add, Real.exp_add, Real.exp_neg (Real.log _), Real.exp_log h1, Real.exp_neg, ← mul_inv]
  congr 1
  rcases le_total 0 r with h | h
  · rw [max_eq_left h, max_eq_left (by linarith), mul_add, ← Real.exp_add, add_neg_cancel, Real.exp_zero, mul_one, add_comm]
  · rw [max_eq_right h, max_eq_right (by linarith), Real.exp_zero, one_mul, neg_neg]

theorem exp_zero : Ideal.exp 0 = 1 := by
  rw [← EReal.coe_zero, Ideal.exp_coe, Real.exp_zero, EReal.coe_one]

theorem log_one : Ideal.log 1 = 0 := by
  rw [← EReal.coe_one, Ideal.log_coe, if_neg (by norm_num), Real.log_one, EReal.coe_zero]

/-- The larger of two reals, in the extended reals. -/
theorem max_coe (a b : ℝ) : max (a : EReal) (b : EReal) = ((max a b : ℝ) : EReal) :=
  (EReal.coe_strictMono.monotone.map_max).symm

/-- The same over the extended reals, at the negative of `z`. -/
theorem exp_neg (z : EReal) :
    Ideal.exp (-(max (-z) 0 + Ideal.log1p (Ideal.exp (-max (-z) (- -z))))) = Ideal.div 1 (1 + Ideal.exp (-z)) := by
  change _ = Ideal.logistic z
  induction z with
  | bot => simp [Ideal.log1p, log_one]
  | top => simp [Ideal.log1p, log_one, exp_zero]
  | coe r =>
    have e : max (-(r : EReal)) (- -(r : EReal)) = ((max (-r) (- -r) : ℝ) : EReal) :=
      max_coe (-r) (- -r)
    have f : max (-(r : EReal)) 0 = ((max (-r) 0 : ℝ) : EReal) := max_coe (-r) 0
    have h1 : ¬ (1 + Real.exp (-max (-r) (- -r)) ≤ 0) := not_le.mpr (by positivity)
    rw [e, f, ← EReal.coe_neg, Ideal.exp_coe, Ideal.log1p, ← EReal.coe_one, ← EReal.coe_add, Ideal.log_coe, if_neg h1,
      ← EReal.coe_add, ← EReal.coe_neg, Ideal.exp_coe, exp_neg_real, Ideal.logistic_coe]

end Cert.Softplus
-- ==== Proof.Lora.lean ====
/- The low-rank kernel: its three results are the reference's. -/
module

public import proofs.«01_k».proof.Defs
public import proofs.«01_k».proof.Proof.LoraPoint
public import proofs.«01_k».proof.Proof.Softplus
public import proofs.«01_k».proof.Proof.Gen.LoraRefIdeal.Read
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LoraRefIdeal.Hand

open Cert.LoraRefIdeal Cert.LoraRefIdeal.Read Cert.Shift
open Cert.LoraIdeal.Hand (rowOf rows sgm decay rate gate)

variable (x : FVec Ideal S16384x2048 .f32) (mx : FVec Ideal S6x2048 .f32) (b : FVec Ideal S2048 .f32) (u : FVec Ideal S2048x96 .f32)
  (v : FVec Ideal S96x2048 .f32) (u' : FVec Ideal S2048x256 .f32) (v' : FVec Ideal S256x2048 .f32)

/-- The difference to the row before, in the reference. -/
theorem shift_apply (r : Fin 16384) (k : Fin 2048) : val_main_v4 (F := Ideal) x (ix2 r k) = shift (fun r k => x (ix2 r k)) r k := by
  pointwise [val_main_v4, val_main_v3, val_main_v2, val_main_v1, val_main_v0, val_main_call0_v0, val_main_c]
  exact shift_eq (fun r k => x (ix2 r k)) r k

/-- The reference's rows mixed for the decays. -/
theorem mixed0_apply (r : Fin 16384) (k : Fin 2048) : val_main_v10 (F := Ideal) x mx (ix2 r k) = rows x mx 0 r k := by
  pointwise [val_main_v10, val_main_v9, val_main_v8, val_main_v7, val_main_v6, val_main_v5]
  rw [shift_apply]; rfl

/-- The reference's rows mixed for the rates. -/
theorem mixed1_apply (r : Fin 16384) (k : Fin 2048) : val_main_v16 (F := Ideal) x mx (ix2 r k) = rows x mx 1 r k := by
  pointwise [val_main_v16, val_main_v15, val_main_v14, val_main_v13, val_main_v12, val_main_v11]
  rw [shift_apply]; rfl

/-- The reference's rows mixed for the gates. -/
theorem mixed2_apply (r : Fin 16384) (k : Fin 2048) : val_main_v22 (F := Ideal) x mx (ix2 r k) = rows x mx 2 r k := by
  pointwise [val_main_v22, val_main_v21, val_main_v20, val_main_v19, val_main_v18, val_main_v17]
  rw [shift_apply]; rfl

/-- The reference's decays. -/
theorem decay_eq : val_main_v34 (F := Ideal) x mx b u v = decay x mx b u v := by
  funext i
  have hi : i = ix2 (i 0) (i 1) := by funext a; fin_cases a <;> rfl
  rw [hi]
  generalize i 0 = r, i 1 = q
  pointwise [val_main_v34, val_main_v33, val_main_v32, val_main_v31, val_main_v30, val_main_v29, val_main_v28, val_main_v27, val_main_v26, val_main_v25, val_main_v24, val_main_v23, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_cst, mixed0_apply, decay, sgm]
  simp only [zero_sub, ne_eq, not_true_eq_false, if_false]
  exact congrArg _ (Cert.Softplus.exp_neg _)

/-- The reference's rates. -/
theorem rate_eq : val_main_v45 (F := Ideal) x mx b u v = rate x mx b u v := by
  funext i
  have hi : i = ix2 (i 0) (i 1) := by funext a; fin_cases a <;> rfl
  rw [hi]
  generalize i 0 = r, i 1 = q
  pointwise [val_main_v45, val_main_v44, val_main_v43, val_main_v42, val_main_v41, val_main_v40, val_main_v39, val_main_v38, val_main_v37, val_main_v36, val_main_v35, val_main_cst_0, val_main_cst_1, mixed1_apply, rate, sgm]
  simp only [zero_sub]

/-- The reference's gates. -/
theorem gate_eq : val_main_v54 (F := Ideal) x mx u' v' = gate x mx u' v' := by
  funext i
  have hi : i = ix2 (i 0) (i 1) := by funext a; fin_cases a <;> rfl
  rw [hi]
  generalize i 0 = r, i 1 = q
  pointwise [val_main_v54, val_main_v53, val_main_v52, val_main_v51, val_main_v50, val_main_v49, val_main_v48, val_main_v47, val_main_v46, val_main_cst_2, val_main_cst_3, mixed2_apply, gate, sgm]
  simp only [zero_sub]

end Cert.LoraRefIdeal.Hand

/-- The kernel's three results are the reference's, element by element, over the extended reals. -/
theorem Cert.LoraIdeal.Hand.alg : Cert.algebraic_LoraIdeal_LoraRefIdeal
    (hLoraIdeal := Cert.LoraIdeal.Gen.facts) (hLoraRefIdeal := Cert.LoraRefIdeal.Gen.facts) := by
  intro m ρ m' ρ' _ hag
  refine ⟨fun c => Cert.LoraIdeal.Hand.decay (m (c.tc.loc Cert.LoraIdeal.main_arg0)) (m (c.tc.loc Cert.LoraIdeal.main_arg1)) (m (c.tc.loc Cert.LoraIdeal.main_arg2)) (m (c.tc.loc Cert.LoraIdeal.main_arg3)) (m (c.tc.loc Cert.LoraIdeal.main_arg4)),
    fun c => Cert.LoraIdeal.Hand.rate (m (c.tc.loc Cert.LoraIdeal.main_arg0)) (m (c.tc.loc Cert.LoraIdeal.main_arg1)) (m (c.tc.loc Cert.LoraIdeal.main_arg5)) (m (c.tc.loc Cert.LoraIdeal.main_arg6)) (m (c.tc.loc Cert.LoraIdeal.main_arg7)),
    fun c => Cert.LoraIdeal.Hand.gate (m (c.tc.loc Cert.LoraIdeal.main_arg0)) (m (c.tc.loc Cert.LoraIdeal.main_arg1)) (m (c.tc.loc Cert.LoraIdeal.main_arg8)) (m (c.tc.loc Cert.LoraIdeal.main_arg9)),
    (θ_run _ _ _).mono ?_ (Cert.LoraIdeal.Value.run_blocks m ρ), (θ_run _ _ _).mono ?_ (Cert.LoraRefIdeal.Value.run m' ρ')⟩
  · intro r h c
    obtain ⟨h1, h2, h3, hrest⟩ := h c
    exact ⟨h1.trans (Cert.LoraIdeal.Hand.decay_final m c), h2.trans (Cert.LoraIdeal.Hand.rate_final m c),
      h3.trans (Cert.LoraIdeal.Hand.gate_final m c), hrest⟩
  · intro r h c
    obtain ⟨h1, h2, h3, hrest⟩ := h c
    obtain ⟨a0, a1, a2, a3, a4, a5, a6, a7, a8, a9⟩ := hag c
    have e1 := Cert.LoraRefIdeal.Hand.decay_eq (m (c.tc.loc Cert.LoraIdeal.main_arg0)) (m (c.tc.loc Cert.LoraIdeal.main_arg1)) (m (c.tc.loc Cert.LoraIdeal.main_arg2)) (m (c.tc.loc Cert.LoraIdeal.main_arg3)) (m (c.tc.loc Cert.LoraIdeal.main_arg4))
    have e2 := Cert.LoraRefIdeal.Hand.rate_eq (m (c.tc.loc Cert.LoraIdeal.main_arg0)) (m (c.tc.loc Cert.LoraIdeal.main_arg1)) (m (c.tc.loc Cert.LoraIdeal.main_arg5)) (m (c.tc.loc Cert.LoraIdeal.main_arg6)) (m (c.tc.loc Cert.LoraIdeal.main_arg7))
    have e3 := Cert.LoraRefIdeal.Hand.gate_eq (m (c.tc.loc Cert.LoraIdeal.main_arg0)) (m (c.tc.loc Cert.LoraIdeal.main_arg1)) (m (c.tc.loc Cert.LoraIdeal.main_arg8)) (m (c.tc.loc Cert.LoraIdeal.main_arg9))
    refine ⟨h1.trans ?_, h2.trans ?_, h3.trans ?_, hrest⟩
    · rw [Cert.LoraRefIdeal.Read.val_main_v34_eq, a0, a1, a2, a3, a4]; exact e1
    · rw [Cert.LoraRefIdeal.Read.val_main_v45_eq, a0, a1, a5, a6, a7]; exact e2
    · rw [Cert.LoraRefIdeal.Read.val_main_v54_eq, a0, a1, a8, a9]; exact e3

end
-- ==== Proof.Up.lean ====
/- The layout of the feed-forward block's first weights: both halves of the columns, padded with zeros. -/
module

public import proofs.«01_k».proof.Defs
public import proofs.«01_k».proof.Proof.Words
public import proofs.«01_k».proof.Proof.Gen.UpIdeal.Value
public import proofs.«01_k».proof.Proof.Gen.UpRefIdeal.Read
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpIdeal.Hand

open Cert.UpIdeal Cert.UpIdeal.Gen

/-- An element of the laid out weights: half `a` of the columns, and zeros after its last column. -/
def lay (w : Fin 2048 → Fin 11008 → EReal) (a : Fin 2) (r : Fin 2048) (q : Fin 5632) : EReal :=
  if h : (q : ℕ) < 5504 then w r ⟨a.val * 5504 + q.val, by omega⟩ else 0

/-- The laid out weights. -/
def out (w : FVec Ideal S2048x11008 .f32) : FVec Ideal S2x2048x5632 .bf16 := fun i => lay (fun r q => w (ix2 r q)) (i 0) (i 1) (i 2)

/-- The reference's element at one half, row and column. -/
theorem ref_apply (w : FVec Ideal S2048x11008 .f32) (a : Fin 2) (r : Fin 2048) (q : Fin 5632) :
    Cert.UpRefIdeal.Read.val_main_v7 (F := Ideal) w (ix3 a r q) = lay (fun r q => w (ix2 r q)) a r q := by
  fin_cases a
  all_goals
    pointwise [Cert.UpRefIdeal.Read.val_main_v7, Cert.UpRefIdeal.Read.val_main_v6, Cert.UpRefIdeal.Read.val_main_v5,
      Cert.UpRefIdeal.Read.val_main_v4, Cert.UpRefIdeal.Read.val_main_v3, Cert.UpRefIdeal.Read.val_main_call1_v0,
      Cert.UpRefIdeal.Read.val_main_c_0, Cert.UpRefIdeal.Read.val_main_v2, Cert.UpRefIdeal.Read.val_main_v1,
      Cert.UpRefIdeal.Read.val_main_call0_v0, Cert.UpRefIdeal.Read.val_main_c, Cert.UpRefIdeal.Read.val_main_v0, lay, Cert.Words.zero_word]

variable (m : (ℓ : Loc nD τ sig) → Buf (Elt Ideal) ℓ)

/-- Where both windows stand at grid point `t`. -/
theorem idx : ∀ t : Fin cfg0.N, win0_0.index t = ![0, t.val, 0] ∧ win0_1.index t = ![0, t.val, 0] :=
  (by decide +kernel : ∀ t : Fin grid0.N, _)

/-- A block of rows at its place in the array. -/
theorem w_tile (c : Dev nD) (t : Fin cfg0.N) (p : Fin 128) (q : Fin 11008) (r : Fin 2048) (hr : (r : ℕ) = t.val * 128 + p) :
    (show FVec Ideal S1x128x11008 .f32 from iblk m c 0 t) (ix3 0 p q) = (show FVec Ideal S2048x11008 .f32 from m ((c : Thread nD τ).loc main_arg0)) (ix2 r q) := by
  have hV : (show FVec Ideal S1x2048x11008 .f32 from V m c main_v0) (ix3 0 r q) = (show FVec Ideal S2048x11008 .f32 from m ((c : Thread nD τ).loc main_arg0)) (ix2 r q) := by
    unfold V
    simp only [hostOps0, List.flatten_cons, List.flatten_nil, List.append_nil]
    after_results
    pointwise []
  rw [← hV]; blk_point [iblk, idx t]

/-- A tile of the laid out weights. -/
theorem tile (c : Dev nD) (t : Fin cfg0.N) (y : S2x128x5632.Idx) (r : Fin 2048) (hr : (r : ℕ) = t.val * 128 + (y 1).val) :
    outsAt0 m c t y = lay (fun r q => (show FVec Ideal S2048x11008 .f32 from m ((c : Thread nD τ).loc main_arg0)) (ix2 r q)) (y 0) r (y 2) := by
  unfold outsAt0
  frame_out
  canon_tiles x h using View.cover_of_tiledBy _ ![1, 128, 128] (by sl_kernel_rfl) y
  all_goals
    open_payloads
    pointwise [lay]
  · rw [dif_neg (by omega)]
  · rw [dif_pos (by omega)]
    refine (w_tile m c t (x 1) _ r (by omega)).trans (congrArg (fun q => (show FVec Ideal S2048x11008 .f32 from m ((c : Thread nD τ).loc main_arg0)) (ix2 r q)) (Fin.ext ?_))
    simp only; omega
  · rw [dif_pos (by omega)]
    refine (w_tile m c t (x 1) _ r (by omega)).trans (congrArg (fun q => (show FVec Ideal S2048x11008 .f32 from m ((c : Thread nD τ).loc main_arg0)) (ix2 r q)) (Fin.ext ?_))
    simp only; omega

/-- The result array after the run. -/
theorem final (c : Dev nD) : (dats m 0 c).arrAt 1 (cfgs 0).N = out (m ((c : Thread nD τ).loc main_arg0)) := by
  refine (dats m 0 c).arrAt_eq_of_covers 1 _ (by decide +kernel) fun t _ y => ?_
  have h0 : (((cfg0.win 1).blk t).view.emb y 0).val = (y 0).val := by blk_simp [idx t] <;> try omega
  have h1 : (((cfg0.win 1).blk t).view.emb y 1).val = t.val * 128 + (y 1).val := by blk_simp [idx t] <;> try omega
  have h2 : (((cfg0.win 1).blk t).view.emb y 2).val = (y 2).val := by blk_simp [idx t] <;> try omega
  have e : (((cfg0.win 1).blk t).view.emb y) = ix3 (y 0) (((cfg0.win 1).blk t).view.emb y 1) (y 2) := by
    funext a; fin_cases a
    · exact Fin.ext h0
    · rfl
    · exact Fin.ext h2
  blk_simp
  rw [after0_1]
  exact (tile m c t y _ h1).trans (congrArg (out _) e.symm)

end Cert.UpIdeal.Hand

/-- The kernel's result is the reference's, element by element, over the extended reals. -/
theorem Cert.UpIdeal.Hand.alg : Cert.algebraic_UpIdeal_UpRefIdeal
    (hUpIdeal := Cert.UpIdeal.Gen.facts) (hUpRefIdeal := Cert.UpRefIdeal.Gen.facts) := by
  intro m ρ m' ρ' _ hag
  refine ⟨fun c => Cert.UpIdeal.Hand.out (m (c.tc.loc Cert.UpIdeal.main_arg0)),
    (θ_run _ _ _).mono ?_ (Cert.UpIdeal.Value.run_blocks m ρ), (θ_run _ _ _).mono ?_ (Cert.UpRefIdeal.Value.run m' ρ')⟩
  · intro r h c
    obtain ⟨h1, hrest⟩ := h c
    exact ⟨h1.trans (Cert.UpIdeal.Hand.final m c), hrest⟩
  · intro r h c
    obtain ⟨h1, hrest⟩ := h c
    have a0 := hag c
    have e : Cert.UpRefIdeal.Read.val_main_v7 (F := Ideal) (m (c.tc.loc Cert.UpIdeal.main_arg0)) = Cert.UpIdeal.Hand.out (m (c.tc.loc Cert.UpIdeal.main_arg0)) := by
      funext i
      have hi : i = ix3 (i 0) (i 1) (i 2) := by funext a; fin_cases a <;> rfl
      rw [hi]
      exact Cert.UpIdeal.Hand.ref_apply _ (i 0) (i 1) (i 2)
    refine ⟨h1.trans ?_, hrest⟩
    rw [Cert.UpRefIdeal.Read.val_main_v7_eq, a0]; exact e

end
-- ==== Proof.Casts.lean ====
/- The casts of the weights to bf16: one layer of two, and three matrices at once. -/
module

public import proofs.«01_k».proof.Defs
public import proofs.«01_k».proof.Proof.Gen.CastIdeal.Value
public import proofs.«01_k».proof.Proof.Gen.CastRefIdeal.Read
public import proofs.«01_k».proof.Proof.Gen.CastAllIdeal.Value
public import proofs.«01_k».proof.Proof.Gen.CastAllRefIdeal.Read
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.CastIdeal.Hand

open Cert.CastIdeal Cert.CastIdeal.Gen

/-- The second layer's weights. -/
def out (w : FVec Ideal S2x2048x12288 .f32) : FVec Ideal S2048x12288 .bf16 := fun i => w (ix3 1 (i 0) (i 1))

/-- The reference's element at a row and column. -/
theorem ref_apply (w : FVec Ideal S2x2048x12288 .f32) (r : Fin 2048) (q : Fin 12288) :
    Cert.CastRefIdeal.Read.val_main_v2 (F := Ideal) w (ix2 r q) = w (ix3 1 r q) := by
  pointwise [Cert.CastRefIdeal.Read.val_main_v2, Cert.CastRefIdeal.Read.val_main_v1, Cert.CastRefIdeal.Read.val_main_v0]

variable (m : (ℓ : Loc nD τ sig) → Buf (Elt Ideal) ℓ)

/-- Where both windows stand at grid point `t`. -/
theorem idx : ∀ t : Fin cfg0.N, win0_0.index t = ![1, t.val, 0] ∧ win0_1.index t = ![t.val, 0] :=
  (by decide +kernel : ∀ t : Fin grid0.N, _)

/-- A tile's stored element is `out` at the place in the array where the tile's element sits. -/
theorem point (c : Dev nD) (t : Fin cfg0.N) (y) :
    k0_pay1 (iblk m c 0 t) y = out (m ((c : Thread nD τ).loc main_arg0)) (((cfg0.win 1).blk t).view.emb y) := by
  pointwise [k0_pay1, out]
  blk_point [iblk, V, idx t]

/-- The result array after the run. -/
theorem final (c : Dev nD) : (dats m 0 c).arrAt 1 (cfgs 0).N = out (m ((c : Thread nD τ).loc main_arg0)) := by
  refine (dats m 0 c).arrAt_eq_of_covers 1 _ (by decide +kernel) fun t _ y => ?_
  blk_simp
  rw [after0_1]; frame_out
  exact point m c t y

end Cert.CastIdeal.Hand

/-- The kernel's result is the reference's, element by element, over the extended reals. -/
theorem Cert.CastIdeal.Hand.alg : Cert.algebraic_CastIdeal_CastRefIdeal
    (hCastIdeal := Cert.CastIdeal.Gen.facts) (hCastRefIdeal := Cert.CastRefIdeal.Gen.facts) := by
  intro m ρ m' ρ' _ hag
  refine ⟨fun c => Cert.CastIdeal.Hand.out (m (c.tc.loc Cert.CastIdeal.main_arg0)),
    (θ_run _ _ _).mono ?_ (Cert.CastIdeal.Value.run_blocks m ρ), (θ_run _ _ _).mono ?_ (Cert.CastRefIdeal.Value.run m' ρ')⟩
  · intro r h c
    obtain ⟨h1, hrest⟩ := h c
    exact ⟨h1.trans (Cert.CastIdeal.Hand.final m c), hrest⟩
  · intro r h c
    obtain ⟨h1, hrest⟩ := h c
    have a0 := hag c
    have e : Cert.CastRefIdeal.Read.val_main_v2 (F := Ideal) (m (c.tc.loc Cert.CastIdeal.main_arg0)) = Cert.CastIdeal.Hand.out (m (c.tc.loc Cert.CastIdeal.main_arg0)) := by
      funext i
      have hi : i = ix2 (i 0) (i 1) := by funext a; fin_cases a <;> rfl
      rw [hi]
      exact Cert.CastIdeal.Hand.ref_apply _ (i 0) (i 1)
    refine ⟨h1.trans ?_, hrest⟩
    rw [Cert.CastRefIdeal.Read.val_main_v2_eq, a0]; exact e

namespace Cert.CastAllIdeal.Hand

open Cert.CastAllIdeal Cert.CastAllIdeal.Gen

variable (m : (ℓ : Loc nD τ sig) → Buf (Elt Ideal) ℓ)

/-- The weights of the three matrices. -/
def out (w : FVec Ideal S3x2048x2048 .f32) : FVec Ideal S3x2048x2048 .bf16 := fun i => w i

/-- Where both windows stand at grid point `t`. -/
theorem idx : ∀ t : Fin cfg0.N, win0_0.index t = ![t.val / 2, t.val % 2, 0] ∧ win0_1.index t = ![t.val / 2, t.val % 2, 0] :=
  (by decide +kernel : ∀ t : Fin grid0.N, _)

/-- A tile's stored element is `out` at the place in the array where the tile's element sits. -/
theorem point (c : Dev nD) (t : Fin cfg0.N) (y) :
    k0_pay1 (iblk m c 0 t) y = out (m ((c : Thread nD τ).loc main_arg0)) (((cfg0.win 1).blk t).view.emb y) := by
  pointwise [k0_pay1, out]
  blk_point [iblk, V, idx t]

/-- The result array after the run. -/
theorem final (c : Dev nD) : (dats m 0 c).arrAt 1 (cfgs 0).N = out (m ((c : Thread nD τ).loc main_arg0)) := by
  refine (dats m 0 c).arrAt_eq_of_covers 1 _ (by decide +kernel) fun t _ y => ?_
  blk_simp
  rw [after0_1]; frame_out
  exact point m c t y

end Cert.CastAllIdeal.Hand

/-- The kernel's result is the reference's, element by element, over the extended reals. -/
theorem Cert.CastAllIdeal.Hand.alg : Cert.algebraic_CastAllIdeal_CastAllRefIdeal
    (hCastAllIdeal := Cert.CastAllIdeal.Gen.facts) (hCastAllRefIdeal := Cert.CastAllRefIdeal.Gen.facts) := by
  intro m ρ m' ρ' _ hag
  refine ⟨fun c => Cert.CastAllIdeal.Hand.out (m (c.tc.loc Cert.CastAllIdeal.main_arg0)),
    (θ_run _ _ _).mono ?_ (Cert.CastAllIdeal.Value.run_blocks m ρ), (θ_run _ _ _).mono ?_ (Cert.CastAllRefIdeal.Value.run m' ρ')⟩
  · intro r h c
    obtain ⟨h1, hrest⟩ := h c
    exact ⟨h1.trans (Cert.CastAllIdeal.Hand.final m c), hrest⟩
  · intro r h c
    obtain ⟨h1, hrest⟩ := h c
    have a0 := hag c
    have e : Cert.CastAllRefIdeal.Read.val_main_v0 (F := Ideal) (m (c.tc.loc Cert.CastAllIdeal.main_arg0)) = Cert.CastAllIdeal.Hand.out (m (c.tc.loc Cert.CastAllIdeal.main_arg0)) := by
      funext i
      rw [Cert.CastAllRefIdeal.Read.val_main_v0_apply]; rfl
    refine ⟨h1.trans ?_, hrest⟩
    rw [Cert.CastAllRefIdeal.Read.val_main_v0_eq, a0]; exact e

end
-- ==== Proof.lean ====
/- The certificate: each program's frame, the ideal programs, and the values of the calls. -/
module

public import proofs.«01_k».proof.Defs
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.RetProj
public import proofs.«01_k».proof.Proof.Gen.RetProj.Skeleton
public import proofs.«01_k».proof.Proof.Gen.RetProj.Launch
public import proofs.«01_k».proof.Proof.Gen.RetProj.Points
public import proofs.«01_k».proof.Proof.Gen.RetProj.Frame
public import proofs.«01_k».proof.Proof.Gen.RetProjIdeal
public import proofs.«01_k».proof.Proof.Gen.RetProjIdeal.Skeleton
public import proofs.«01_k».proof.Proof.Gen.RetProjIdeal.Launch
public import proofs.«01_k».proof.Proof.Gen.RetProjIdeal.Points
public import proofs.«01_k».proof.Proof.Gen.RetProjIdeal.Frame
public import proofs.«01_k».proof.Proof.Gen.RetProjRefIdeal
public import proofs.«01_k».proof.Proof.Gen.RetOut
public import proofs.«01_k».proof.Proof.Gen.RetOut.Skeleton
public import proofs.«01_k».proof.Proof.Gen.RetOut.Launch
public import proofs.«01_k».proof.Proof.Gen.RetOut.Points
public import proofs.«01_k».proof.Proof.Gen.RetOut.Frame
public import proofs.«01_k».proof.Proof.Gen.RetOutIdeal
public import proofs.«01_k».proof.Proof.Gen.RetOutIdeal.Skeleton
public import proofs.«01_k».proof.Proof.Gen.RetOutIdeal.Launch
public import proofs.«01_k».proof.Proof.Gen.RetOutIdeal.Points
public import proofs.«01_k».proof.Proof.Gen.RetOutIdeal.Frame
public import proofs.«01_k».proof.Proof.Gen.RetOutRefIdeal
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.RetProjB
public import proofs.«01_k».proof.Proof.Gen.RetProjB.Skeleton
public import proofs.«01_k».proof.Proof.Gen.RetProjB.Launch
public import proofs.«01_k».proof.Proof.Gen.RetProjB.Points
public import proofs.«01_k».proof.Proof.Gen.RetProjB.Frame
public import proofs.«01_k».proof.Proof.Gen.RetProjBIdeal
public import proofs.«01_k».proof.Proof.Gen.RetProjBIdeal.Skeleton
public import proofs.«01_k».proof.Proof.Gen.RetProjBIdeal.Launch
public import proofs.«01_k».proof.Proof.Gen.RetProjBIdeal.Points
public import proofs.«01_k».proof.Proof.Gen.RetProjBIdeal.Frame
public import proofs.«01_k».proof.Proof.Gen.RetProjBIdeal.Value
public import proofs.«01_k».proof.Proof.Gen.RetProjBRefIdeal
public import proofs.«01_k».proof.Proof.Gen.RetProjBRefIdeal.Run
public import proofs.«01_k».proof.Proof.Gen.RetProjBRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Rkv
public import proofs.«01_k».proof.Proof.Gen.Rkv.Skeleton
public import proofs.«01_k».proof.Proof.Gen.Rkv.Launch
public import proofs.«01_k».proof.Proof.Gen.Rkv.Points
public import proofs.«01_k».proof.Proof.Gen.Rkv.Frame
public import proofs.«01_k».proof.Proof.Gen.RkvIdeal
public import proofs.«01_k».proof.Proof.Gen.RkvIdeal.Skeleton
public import proofs.«01_k».proof.Proof.Gen.RkvIdeal.Launch
public import proofs.«01_k».proof.Proof.Gen.RkvIdeal.Points
public import proofs.«01_k».proof.Proof.Gen.RkvIdeal.Frame
public import proofs.«01_k».proof.Proof.Gen.RkvIdeal.Value
public import proofs.«01_k».proof.Proof.Gen.RkvRefIdeal
public import proofs.«01_k».proof.Proof.Gen.RkvRefIdeal.Run
public import proofs.«01_k».proof.Proof.Gen.RkvRefIdeal.Read
public import proofs.«01_k».proof.Proof.Gen.Lora
public import proofs.«01_k».proof.Proof.Gen.Lora.Skeleton
public import proofs.«01_k».proof.Proof.Gen.Lora.Launch
public import proofs.«01_k».proof.Proof.Gen.Lora.Points
public import proofs.«01_k».proof.Proof.Gen.Lora.Frame
public import proofs.«01_k».proof.Proof.Gen.LoraIdeal
public import proofs.«01_k».proof.Proof.Gen.LoraIdeal.Skeleton
public import proofs.«01_k».proof.Proof.Gen.LoraIdeal.Launch
public import proofs.«01_k».proof.Proof.Gen.LoraIdeal.Points
public import proofs.«01_k».proof.Proof.Gen.LoraIdeal.Frame
public import proofs.«01_k».proof.Proof.Gen.LoraIdeal.Value
public import proofs.«01_k».proof.Proof.Gen.LoraRefIdeal
public import proofs.«01_k».proof.Proof.Gen.LoraRefIdeal.Run
public import proofs.«01_k».proof.Proof.Gen.LoraRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Cast
public import proofs.«01_k».proof.Proof.Gen.Cast.Skeleton
public import proofs.«01_k».proof.Proof.Gen.Cast.Launch
public import proofs.«01_k».proof.Proof.Gen.Cast.Points
public import proofs.«01_k».proof.Proof.Gen.Cast.Frame
public import proofs.«01_k».proof.Proof.Gen.CastIdeal
public import proofs.«01_k».proof.Proof.Gen.CastIdeal.Skeleton
public import proofs.«01_k».proof.Proof.Gen.CastIdeal.Launch
public import proofs.«01_k».proof.Proof.Gen.CastIdeal.Points
public import proofs.«01_k».proof.Proof.Gen.CastIdeal.Frame
public import proofs.«01_k».proof.Proof.Gen.CastIdeal.Value
public import proofs.«01_k».proof.Proof.Gen.CastRefIdeal
public import proofs.«01_k».proof.Proof.Gen.CastRefIdeal.Run
public import proofs.«01_k».proof.Proof.Gen.CastRefIdeal.Read
public import proofs.«01_k».proof.Proof.Gen.CastAll
public import proofs.«01_k».proof.Proof.Gen.CastAll.Skeleton
public import proofs.«01_k».proof.Proof.Gen.CastAll.Launch
public import proofs.«01_k».proof.Proof.Gen.CastAll.Points
public import proofs.«01_k».proof.Proof.Gen.CastAll.Frame
public import proofs.«01_k».proof.Proof.Gen.CastAllIdeal
public import proofs.«01_k».proof.Proof.Gen.CastAllIdeal.Skeleton
public import proofs.«01_k».proof.Proof.Gen.CastAllIdeal.Launch
public import proofs.«01_k».proof.Proof.Gen.CastAllIdeal.Points
public import proofs.«01_k».proof.Proof.Gen.CastAllIdeal.Frame
public import proofs.«01_k».proof.Proof.Gen.CastAllIdeal.Value
public import proofs.«01_k».proof.Proof.Gen.CastAllRefIdeal
public import proofs.«01_k».proof.Proof.Gen.CastAllRefIdeal.Run
public import proofs.«01_k».proof.Proof.Gen.CastAllRefIdeal.Read
public import proofs.«01_k».proof.Proof.Gen.RetIdeal.Value
public import proofs.«01_k».proof.Proof.Gen.RetRefIdeal.Run
public import proofs.«01_k».proof.Proof.Gen.FfnIdeal.Value
public import proofs.«01_k».proof.Proof.Gen.FfnRefIdeal.Run
public import proofs.«01_k».proof.Proof.Gen.PleIdeal.Value
public import proofs.«01_k».proof.Proof.Gen.PleRefIdeal.Run
public import proofs.«01_k».proof.Proof.Gen.RetProjIdeal.Value
public import proofs.«01_k».proof.Proof.Gen.RetProjRefIdeal.Run
public import proofs.«01_k».proof.Proof.Gen.RetOutIdeal.Value
public import proofs.«01_k».proof.Proof.Gen.RetOutRefIdeal.Run
public import proofs.«01_k».proof.Proof.Gen.MixOutIdeal.Value
public import proofs.«01_k».proof.Proof.Gen.MixOutRefIdeal.Run
public import proofs.«01_k».proof.Proof.Gen.FfnRefIdeal.Read
public import proofs.«01_k».proof.Proof.Gen.PleRefIdeal.Read
public import proofs.«01_k».proof.Proof.Gen.RetProjRefIdeal.Read
public import proofs.«01_k».proof.Proof.Gen.RetOutRefIdeal.Read
public import proofs.«01_k».proof.Proof.Gen.MixOutRefIdeal.Read
public import proofs.«01_k».proof.Proof.Gen.RetRefIdeal.Step
public import proofs.«01_k».proof.Proof.Ret
public import proofs.«01_k».proof.Proof.Ffn
public import proofs.«01_k».proof.Proof.Ple
public import proofs.«01_k».proof.Proof.RetProj
public import proofs.«01_k».proof.Proof.RetOut
public import proofs.«01_k».proof.Proof.MixOut
public import proofs.«01_k».proof.Proof.RetProjB
public import proofs.«01_k».proof.Proof.Qkv
public import proofs.«01_k».proof.Proof.Rkv
public import proofs.«01_k».proof.Proof.Lora
public import proofs.«01_k».proof.Proof.Up
public import proofs.«01_k».proof.Proof.Casts
public import Idealize.ShloMosaic.Adequacy
public import Idealize.ShloMosaic.Init

@[expose] public section

noncomputable section

namespace Cert.Proof

open Idealize.ShloMosaic Idealize.SL.Sem Cert.Ret

/-- The frame of the reference RetRefIdeal: its run leaves the arguments unchanged, and it declares no semaphore. -/
theorem refRet : Cert.quiescent_RetRefIdeal := fun m ρ _ =>
  (θ_run Cert.RetRefIdeal.defs _ _).mono (fun r h => ⟨fun c => (h c).2, sem_eq_zero_of_no_sems (by decide) r.2⟩)
    (Cert.RetRefIdeal.Value.run (F := Ideal) m ρ)

/-- The frame of the reference FfnRefIdeal: its run leaves the arguments unchanged, and it declares no semaphore. -/
theorem refFfn : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- The frame of the reference PleRefIdeal: its run leaves the arguments unchanged, and it declares no semaphore. -/
theorem refPle : Cert.quiescent_PleRefIdeal := fun m ρ _ =>
  (θ_run Cert.PleRefIdeal.defs _ _).mono (fun r h => ⟨fun c => (h c).2.2, sem_eq_zero_of_no_sems (by decide) r.2⟩)
    (Cert.PleRefIdeal.Value.run (F := Ideal) m ρ)

/-- The frame of the reference RetProjRefIdeal: its run leaves the arguments unchanged, and it declares no semaphore. -/
theorem refRetProj : Cert.quiescent_RetProjRefIdeal := fun m ρ _ =>
  (θ_run Cert.RetProjRefIdeal.defs _ _).mono (fun r h => ⟨fun c => (h c).2, sem_eq_zero_of_no_sems (by decide) r.2⟩)
    (Cert.RetProjRefIdeal.Value.run (F := Ideal) m ρ)

/-- The frame of the reference RetOutRefIdeal: its run leaves the arguments unchanged, and it declares no semaphore. -/
theorem refRetOut : Cert.quiescent_RetOutRefIdeal := fun m ρ _ =>
  (θ_run Cert.RetOutRefIdeal.defs _ _).mono (fun r h => ⟨fun c => (h c).2.2, sem_eq_zero_of_no_sems (by decide) r.2⟩)
    (Cert.RetOutRefIdeal.Value.run (F := Ideal) m ρ)

/-- The frame of the reference MixOutRefIdeal: its run leaves the arguments unchanged, and it declares no semaphore. -/
theorem refMixOut : Cert.quiescent_MixOutRefIdeal := fun m ρ _ =>
  (θ_run Cert.MixOutRefIdeal.defs _ _).mono (fun r h => ⟨fun c => (h c).2.2, sem_eq_zero_of_no_sems (by decide) r.2⟩)
    (Cert.MixOutRefIdeal.Value.run (F := Ideal) m ρ)

/-- The frame of the reference RetProjBRefIdeal: its run leaves the arguments unchanged, and it declares no semaphore. -/
theorem refRetProjB : Cert.quiescent_RetProjBRefIdeal := fun m ρ _ =>
  (θ_run Cert.RetProjBRefIdeal.defs _ _).mono (fun r h => ⟨fun c => (h c).2, sem_eq_zero_of_no_sems (by decide) r.2⟩)
    (Cert.RetProjBRefIdeal.Value.run (F := Ideal) m ρ)

/-- The frame of the reference QkvRefIdeal: its run leaves the arguments unchanged, and it declares no semaphore. -/
theorem refQkv : Cert.quiescent_QkvRefIdeal := fun m ρ _ =>
  (θ_run Cert.QkvRefIdeal.defs _ _).mono (fun r h => ⟨fun c => (h c).2, sem_eq_zero_of_no_sems (by decide) r.2⟩)
    (Cert.QkvRefIdeal.Value.run (F := Ideal) m ρ)

/-- The frame of the reference RkvRefIdeal: its run leaves the arguments unchanged, and it declares no semaphore. -/
theorem refRkv : Cert.quiescent_RkvRefIdeal := fun m ρ _ =>
  (θ_run Cert.RkvRefIdeal.defs _ _).mono (fun r h => ⟨fun c => (h c).2, sem_eq_zero_of_no_sems (by decide) r.2⟩)
    (Cert.RkvRefIdeal.Value.run (F := Ideal) m ρ)

/-- The frame of the reference LoraRefIdeal: its run leaves the arguments unchanged, and it declares no semaphore. -/
theorem refLora : Cert.quiescent_LoraRefIdeal := fun m ρ _ =>
  (θ_run Cert.LoraRefIdeal.defs _ _).mono (fun r h => ⟨fun c => (h c).2.2.2, sem_eq_zero_of_no_sems (by decide) r.2⟩)
    (Cert.LoraRefIdeal.Value.run (F := Ideal) m ρ)

/-- The frame of the reference UpRefIdeal: its run leaves the arguments unchanged, and it declares no semaphore. -/
theorem refUp : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The frame of the reference CastRefIdeal: its run leaves the arguments unchanged, and it declares no semaphore. -/
theorem refCast : Cert.quiescent_CastRefIdeal := fun m ρ _ =>
  (θ_run Cert.CastRefIdeal.defs _ _).mono (fun r h => ⟨fun c => (h c).2, sem_eq_zero_of_no_sems (by decide) r.2⟩)
    (Cert.CastRefIdeal.Value.run (F := Ideal) m ρ)

/-- The frame of the reference CastAllRefIdeal: its run leaves the arguments unchanged, and it declares no semaphore. -/
theorem refCastAll : Cert.quiescent_CastAllRefIdeal := fun m ρ _ =>
  (θ_run Cert.CastAllRefIdeal.defs _ _).mono (fun r h => ⟨fun c => (h c).2, sem_eq_zero_of_no_sems (by decide) r.2⟩)
    (Cert.CastAllRefIdeal.Value.run (F := Ideal) m ρ)

theorem claim : Cert.Claim := ⟨Cert.Ret.Gen.facts, Cert.RetIdeal.Gen.facts, Cert.RetRefIdeal.Gen.facts, Cert.Ffn.Gen.facts, Cert.FfnIdeal.Gen.facts, Cert.FfnRefIdeal.Gen.facts, Cert.Ple.Gen.facts, Cert.PleIdeal.Gen.facts, Cert.PleRefIdeal.Gen.facts, Cert.RetProj.Gen.facts, Cert.RetProjIdeal.Gen.facts, Cert.RetProjRefIdeal.Gen.facts, Cert.RetOut.Gen.facts, Cert.RetOutIdeal.Gen.facts, Cert.RetOutRefIdeal.Gen.facts, Cert.MixOut.Gen.facts, Cert.MixOutIdeal.Gen.facts, Cert.MixOutRefIdeal.Gen.facts, Cert.RetProjB.Gen.facts, Cert.RetProjBIdeal.Gen.facts, Cert.RetProjBRefIdeal.Gen.facts, Cert.Qkv.Gen.facts, Cert.QkvIdeal.Gen.facts, Cert.QkvRefIdeal.Gen.facts, Cert.Rkv.Gen.facts, Cert.RkvIdeal.Gen.facts, Cert.RkvRefIdeal.Gen.facts, Cert.Lora.Gen.facts, Cert.LoraIdeal.Gen.facts, Cert.LoraRefIdeal.Gen.facts, Cert.Up.Gen.facts, Cert.UpIdeal.Gen.facts, Cert.UpRefIdeal.Gen.facts, Cert.Cast.Gen.facts, Cert.CastIdeal.Gen.facts, Cert.CastRefIdeal.Gen.facts, Cert.CastAll.Gen.facts, Cert.CastAllIdeal.Gen.facts, Cert.CastAllRefIdeal.Gen.facts,
  fun m ρ _ => Cert.Ret.Gen.frame m ρ,
  fun m ρ _ => Cert.RetIdeal.Gen.frame m ρ,
  refRet,
  fun m ρ _ => Cert.Ffn.Gen.frame m ρ,
  fun m ρ _ => Cert.FfnIdeal.Gen.frame m ρ,
  refFfn,
  fun m ρ _ => Cert.Ple.Gen.frame m ρ,
  fun m ρ _ => Cert.PleIdeal.Gen.frame m ρ,
  refPle,
  fun m ρ _ => Cert.RetProj.Gen.frame m ρ,
  fun m ρ _ => Cert.RetProjIdeal.Gen.frame m ρ,
  refRetProj,
  fun m ρ _ => Cert.RetOut.Gen.frame m ρ,
  fun m ρ _ => Cert.RetOutIdeal.Gen.frame m ρ,
  refRetOut,
  fun m ρ _ => Cert.MixOut.Gen.frame m ρ,
  fun m ρ _ => Cert.MixOutIdeal.Gen.frame m ρ,
  refMixOut,
  fun m ρ _ => Cert.RetProjB.Gen.frame m ρ,
  fun m ρ _ => Cert.RetProjBIdeal.Gen.frame m ρ,
  refRetProjB,
  fun m ρ _ => Cert.Qkv.Gen.frame m ρ,
  fun m ρ _ => Cert.QkvIdeal.Gen.frame m ρ,
  refQkv,
  fun m ρ _ => Cert.Rkv.Gen.frame m ρ,
  fun m ρ _ => Cert.RkvIdeal.Gen.frame m ρ,
  refRkv,
  fun m ρ _ => Cert.Lora.Gen.frame m ρ,
  fun m ρ _ => Cert.LoraIdeal.Gen.frame m ρ,
  refLora,
  fun m ρ _ => Cert.Up.Gen.frame m ρ,
  fun m ρ _ => Cert.UpIdeal.Gen.frame m ρ,
  refUp,
  fun m ρ _ => Cert.Cast.Gen.frame m ρ,
  fun m ρ _ => Cert.CastIdeal.Gen.frame m ρ,
  refCast,
  fun m ρ _ => Cert.CastAll.Gen.frame m ρ,
  fun m ρ _ => Cert.CastAllIdeal.Gen.frame m ρ,
  refCastAll,
  trivial,
  Cert.RetIdeal.Hand.alg,
  trivial,
  Cert.FfnIdeal.Hand.alg,
  trivial,
  Cert.PleIdeal.Hand.alg,
  trivial,
  Cert.RetProjIdeal.Hand.alg,
  trivial,
  Cert.RetOutIdeal.Hand.alg,
  trivial,
  Cert.MixOutIdeal.Hand.alg,
  trivial,
  Cert.RetProjBIdeal.Hand.alg,
  trivial,
  Cert.QkvIdeal.Hand.alg,
  trivial,
  Cert.RkvIdeal.Hand.alg,
  trivial,
  Cert.LoraIdeal.Hand.alg,
  trivial,
  Cert.UpIdeal.Hand.alg,
  trivial,
  Cert.CastIdeal.Hand.alg,
  trivial,
  Cert.CastAllIdeal.Hand.alg⟩

end Cert.Proof

end
